-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x1024x3 : Shape := ⟨3, ![4, 1024, 3]⟩
abbrev S4x256x1024 : Shape := ⟨3, ![4, 256, 1024]⟩
abbrev S4x1024x3x3 : Shape := ⟨4, ![4, 1024, 3, 3]⟩
abbrev S256x259 : Shape := ⟨2, ![256, 259]⟩
abbrev S256 : Shape := ⟨1, ![256]⟩
abbrev S256x256 : Shape := ⟨2, ![256, 256]⟩
abbrev S_ : Shape := ⟨0, ![]⟩

class Facts : Prop where
  bcast_S_S4x1024x3 : S_.BroadcastsInDim S4x1024x3 (![] : Fin 0 → Fin S4x1024x3.rank)
  reducesTo_S4x1024x3_S_d0_1_2 : S4x1024x3.ReducesTo [0, 1, 2] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_
  bcast_S_S4x1024x3x3 : S_.BroadcastsInDim S4x1024x3x3 (![] : Fin 0 → Fin S4x1024x3x3.rank)
  reducesTo_S4x1024x3x3_S_d0_1_2_3 : S4x1024x3x3.ReducesTo [0, 1, 2, 3] S_
  bcast_S_S256x259 : S_.BroadcastsInDim S256x259 (![] : Fin 0 → Fin S256x259.rank)
  reducesTo_S256x259_S_d0_1 : S256x259.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_arg8 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_v13 : IVec S_ 1) (main_v16 : IVec S256x259 1) : IVec S_ 1 :=
  let main_c_5 : IVec S_ 1 := constantI S_ 1 1#1
  let main_v17 : IVec S_ 1 := (fun x v => Host.reduce IntOp.andi x v reducesTo_S256x259_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S4x1024x3 .f32) (main_arg1 : FVec F S4x256x1024 .f32) (main_arg2 : FVec F S4x1024x3x3 .f32) (main_arg3 : FVec F S256x259 .f32) (main_arg4 : FVec F S256 .f32) (main_arg5 : FVec F S256 .f32) (main_arg6 : FVec F S256x256 .f32) (main_arg7 : FVec F S256 .f32) (main_arg8 : FVec F S256 .f32) : IVec S_ 1 :=
  let main_v0 : FVec F S4x1024x3 .f32 := Host.absf main_arg0
  let main_cst : FVec F S_ .f32 := constant S_ .f32 0x7F800000#32
  let main_v1 : FVec F S4x1024x3 .f32 := broadcastInDim S4x1024x3 ![] bcast_S_S4x1024x3 main_cst
  let main_v2 : IVec S4x1024x3 1 := cmpf .olt main_v0 main_v1
  let main_c : IVec S_ 1 := constantI S_ 1 1#1
  let main_v3 : IVec S_ 1 := (fun x v => Host.reduce IntOp.andi x v reducesTo_S4x1024x3_S_d0_1_2 h_S_) main_v2 main_c
  let main_v4 : FVec F S4x256x1024 .f32 := Host.absf main_arg1
  let main_cst_0 : FVec F S_ .f32 := constant S_ .f32 0x7F800000#32
  let main_v5 : FVec F S4x256x1024 .f32 := broadcastInDim S4x256x1024 ![] bcast_S_S4x256x1024 main_cst_0
  let main_v6 : IVec S4x256x1024 1 := cmpf .olt main_v4 main_v5
  let main_c_1 : IVec S_ 1 := constantI S_ 1 1#1
  let main_v7 : IVec S_ 1 := (fun x v => Host.reduce IntOp.andi x v reducesTo_S4x256x1024_S_d0_1_2 h_S_) main_v6 main_c_1
  let main_v8 : IVec S_ 1 := andi main_v3 main_v7
  let main_v9 : FVec F S4x1024x3x3 .f32 := Host.absf main_arg2
  let main_cst_2 : FVec F S_ .f32 := constant S_ .f32 0x7F800000#32
  let main_v10 : FVec F S4x1024x3x3 .f32 := broadcastInDim S4x1024x3x3 ![] bcast_S_S4x1024x3x3 main_cst_2
  let main_v11 : IVec S4x1024x3x3 1 := cmpf .olt main_v9 main_v10
  let main_c_3 : IVec S_ 1 := constantI S_ 1 1#1
  let main_v12 : IVec S_ 1 := (fun x v => Host.reduce IntOp.andi x v reducesTo_S4x1024x3x3_S_d0_1_2_3 h_S_) main_v11 main_c_3
  let main_v13 : IVec S_ 1 := andi main_v8 main_v12
  let main_v14 : FVec F S256x259 .f32 := Host.absf main_arg3
  let main_cst_4 : FVec F S_ .f32 := constant S_ .f32 0x7F800000#32
  let main_v15 : FVec F S256x259 .f32 := broadcastInDim S256x259 ![] bcast_S_S256x259 main_cst_4
  let main_v16 : IVec S256x259 1 := cmpf .olt main_v14 main_v15
  fn_part1 (F := F) main_arg4 main_arg5 main_arg6 main_arg7 main_arg8 main_v13 main_v16
-- ==== Kernel.lean ====
abbrev S4x1024x3 : Shape := ⟨3, ![4, 1024, 3]⟩
abbrev S4x256x1024 : Shape := ⟨3, ![4, 256, 1024]⟩
abbrev S4x1024x3x3 : Shape := ⟨4, ![4, 1024, 3, 3]⟩
abbrev S256x259 : Shape := ⟨2, ![256, 259]⟩
abbrev S256 : Shape := ⟨1, ![256]⟩
abbrev S256x256 : Shape := ⟨2, ![256, 256]⟩
abbrev S4x3x1024 : Shape := ⟨3, ![4, 3, 1024]⟩
abbrev S4x1024x9 : Shape := ⟨3, ![4, 1024, 9]⟩
abbrev S4x1024x256 : Shape := ⟨3, ![4, 1024, 256]⟩
abbrev S256x3 : Shape := ⟨2, ![256, 3]⟩
abbrev S3x256 : Shape := ⟨2, ![3, 256]⟩
abbrev S_ : Shape := ⟨0, ![]⟩
abbrev S5x256 : Shape := ⟨2, ![5, 256]⟩
abbrev S8x256 : Shape := ⟨2, ![8, 256]⟩
abbrev S1024x1024 : Shape := ⟨2, ![1024, 1024]⟩
abbrev S1x256 : Shape := ⟨2, ![1, 256]⟩
abbrev S4x32x1024x256 : Shape := ⟨4, ![4, 32, 1024, 256]⟩
abbrev S1x3x1024 : Shape := ⟨3, ![1, 3, 1024]⟩
abbrev S1x1024x3 : Shape := ⟨3, ![1, 1024, 3]⟩
abbrev S1x128x3 : Shape := ⟨3, ![1, 128, 3]⟩
abbrev S1x128x9 : Shape := ⟨3, ![1, 128, 9]⟩
abbrev S1x1024x256 : Shape := ⟨3, ![1, 1024, 256]⟩
abbrev S1x32x128x256 : Shape := ⟨4, ![1, 32, 128, 256]⟩
abbrev S1024x264 : Shape := ⟨2, ![1024, 264]⟩
abbrev S1024x256 : Shape := ⟨2, ![1024, 256]⟩
abbrev S1024x3 : Shape := ⟨2, ![1024, 3]⟩
abbrev S1024x2 : Shape := ⟨2, ![1024, 2]⟩
abbrev S3x1024 : Shape := ⟨2, ![3, 1024]⟩
abbrev S128x3 : Shape := ⟨2, ![128, 3]⟩
abbrev S128x9 : Shape := ⟨2, ![128, 9]⟩
abbrev S1x1024 : Shape := ⟨2, ![1, 1024]⟩
abbrev S128x1 : Shape := ⟨2, ![128, 1]⟩
abbrev S128x1024 : Shape := ⟨2, ![128, 1024]⟩
abbrev S128x256 : Shape := ⟨2, ![128, 256]⟩
abbrev S1x264 : Shape := ⟨2, ![1, 264]⟩
abbrev S128x264 : Shape := ⟨2, ![128, 264]⟩
abbrev S1x1x128x256 : Shape := ⟨4, ![1, 1, 128, 256]⟩
abbrev S1x128x256 : Shape := ⟨3, ![1, 128, 256]⟩

abbrev nBuf : Space → Nat
  | .hbm => 40
  | .vmem => 39
  | .smem => 0
  | _ => 0

abbrev bufTy : (tb : Table) → Fin (tcTables nBuf tb) → BufTy
  | .hbm, ⟨0, _⟩ => ⟨S4x1024x3, .f32⟩
  | .hbm, ⟨1, _⟩ => ⟨S4x256x1024, .f32⟩
  | .hbm, ⟨2, _⟩ => ⟨S4x1024x3x3, .f32⟩
  | .hbm, ⟨3, _⟩ => ⟨S256x259, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S4x3x1024, .f32⟩
  | .hbm, ⟨10, _⟩ => ⟨S4x1024x9, .f32⟩
  | .hbm, ⟨11, _⟩ => ⟨S4x1024x256, .f32⟩
  | .hbm, ⟨12, _⟩ => ⟨S256x3, .f32⟩
  | .hbm, ⟨13, _⟩ => ⟨S3x256, .f32⟩
  | .hbm, ⟨14, _⟩ => ⟨S_, .f32⟩
  | .hbm, ⟨15, _⟩ => ⟨S5x256, .f32⟩
  | .hbm, ⟨16, _⟩ => ⟨S8x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S1024x1024, .i32⟩
  | .hbm, ⟨21, _⟩ => ⟨S1024x1024, .i32⟩
  | .hbm, ⟨22, _⟩ => ⟨S1024x1024, .i1⟩
  | .hbm, ⟨23, _⟩ => ⟨S_, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S4x32x1024x256, .bf16⟩
  | .hbm, ⟨34, _⟩ => ⟨S8x256, .f32⟩
  | .hbm, ⟨35, _⟩ => ⟨S4x1024x256, .f32⟩
  | .hbm, ⟨36, _⟩ => ⟨S4x1024x256, .f32⟩
  | .hbm, ⟨37, _⟩ => ⟨S8x256, .f32⟩
  | .hbm, ⟨38, _⟩ => ⟨S4x1024x256, .f32⟩
  | .hbm, ⟨39, _⟩ => ⟨S4x256x1024, .f32⟩
  | .local _ .vmem, ⟨0, _⟩ => ⟨S1x3x1024, .f32⟩
  | .local _ .vmem, ⟨1, _⟩ => ⟨S1x3x1024, .f32⟩
  | .local _ .vmem, ⟨2, _⟩ => ⟨S1x1024x3, .f32⟩
  | .local _ .vmem, ⟨3, _⟩ => ⟨S1x1024x3, .f32⟩
  | .local _ .vmem, ⟨4, _⟩ => ⟨S1x128x3, .f32⟩
  | .local _ .vmem, ⟨5, _⟩ => ⟨S1x128x3, .f32⟩
  | .local _ .vmem, ⟨6, _⟩ => ⟨S1x128x9, .f32⟩
  | .local _ .vmem, ⟨7, _⟩ => ⟨S1x128x9, .f32⟩
  | .local _ .vmem, ⟨8, _⟩ => ⟨S1024x1024, .bf16⟩
  | .local _ .vmem, ⟨9, _⟩ => ⟨S1x1024x256, .f32⟩
  | .local _ .vmem, ⟨10, _⟩ => ⟨S1x1024x256, .f32⟩
  | .local _ .vmem, ⟨11, _⟩ => ⟨S256x256, .f32⟩
  | .local _ .vmem, ⟨12, _⟩ => ⟨S8x256, .f32⟩
  | .local _ .vmem, ⟨13, _⟩ => ⟨S1x32x128x256, .bf16⟩
  | .local _ .vmem, ⟨14, _⟩ => ⟨S1x32x128x256, .bf16⟩
  | .local _ .vmem, ⟨15, _⟩ => ⟨S8x256, .f32⟩
  | .local _ .vmem, ⟨16, _⟩ => ⟨S1024x264, .bf16⟩
  | .local _ .vmem, ⟨17, _⟩ => ⟨S8x256, .f32⟩
  | .local _ .vmem, ⟨18, _⟩ => ⟨S1x32x128x256, .bf16⟩
  | .local _ .vmem, ⟨19, _⟩ => ⟨S1x32x128x256, .bf16⟩
  | .local _ .vmem, ⟨20, _⟩ => ⟨S8x256, .f32⟩
  | .local _ .vmem, ⟨21, _⟩ => ⟨S256x256, .f32⟩
  | .local _ .vmem, ⟨22, _⟩ => ⟨S1x256, .f32⟩
  | .local _ .vmem, ⟨23, _⟩ => ⟨S1x256, .f32⟩
  | .local _ .vmem, ⟨24, _⟩ => ⟨S1x128x256, .f32⟩
  | .local _ .vmem, ⟨25, _⟩ => ⟨S1x128x256, .f32⟩
  | .local _ .vmem, ⟨26, _⟩ => ⟨S1x128x256, .f32⟩
  | .local _ .vmem, ⟨27, _⟩ => ⟨S1x128x256, .f32⟩
  | .local _ .vmem, ⟨28, _⟩ => ⟨S8x256, .f32⟩
  | .local _ .vmem, ⟨29, _⟩ => ⟨S8x256, .f32⟩
  | .local _ .vmem, ⟨30, _⟩ => ⟨S1x128x256, .f32⟩
  | .local _ .vmem, ⟨31, _⟩ => ⟨S1x128x256, .f32⟩
  | .local _ .vmem, ⟨32, _⟩ => ⟨S1x128x256, .f32⟩
  | .local _ .vmem, ⟨33, _⟩ => ⟨S1x128x256, .f32⟩
  | .local _ .vmem, ⟨34, _⟩ => ⟨S8x256, .f32⟩
  | .local _ .vmem, ⟨35, _⟩ => ⟨S1x256, .f32⟩
  | .local _ .vmem, ⟨36, _⟩ => ⟨S1x256, .f32⟩
  | .local _ .vmem, ⟨37, _⟩ => ⟨S1x128x256, .f32⟩
  | .local _ .vmem, ⟨38, _⟩ => ⟨S1x128x256, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg0 : BitVec 32 := BitVec.ofNat 32 (i 0).val
  let c3_i32 : BitVec 32 := 3#32
  let v1863 : BitVec 1 := Scalar.cmpi .eq arg0 c3_i32
  let arg1 : BitVec 32 := BitVec.ofNat 32 (i 1).val
  let c7_i32 : BitVec 32 := 7#32
  let v1864 : BitVec 1 := Scalar.cmpi .eq arg1 c7_i32
  let v1865 : BitVec 1 := Scalar.andi v1863 v1864
  let v1866 : BitVec 32 := Scalar.extui v1865
  let c0_i32_265 : BitVec 32 := 0#32
  let v1867 : BitVec 1 := Scalar.cmpi .ne v1866 c0_i32_265
  v1867

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨2, ![4, 8], ![false, false]⟩

def k1_cond2 (i : grid1.Coords) : BitVec 1 :=
  let arg0 : BitVec 32 := BitVec.ofNat 32 (i 0).val
  let c3_i32 : BitVec 32 := 3#32
  let v570 : BitVec 1 := Scalar.cmpi .eq arg0 c3_i32
  let arg1 : BitVec 32 := BitVec.ofNat 32 (i 1).val
  let c7_i32 : BitVec 32 := 7#32
  let v571 : BitVec 1 := Scalar.cmpi .eq arg1 c7_i32
  let v572 : BitVec 1 := Scalar.andi v570 v571
  let v573 : BitVec 32 := Scalar.extui v572
  let c0_i32_165 : BitVec 32 := 0#32
  let v574 : BitVec 1 := Scalar.cmpi .ne v573 c0_i32_165
  v574

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x32x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S8x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x128x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S8x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x128x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S4x1024x3 : Shape := ⟨3, ![4, 1024, 3]⟩
abbrev S4x256x1024 : Shape := ⟨3, ![4, 256, 1024]⟩
abbrev S4x1024x3x3 : Shape := ⟨4, ![4, 1024, 3, 3]⟩
abbrev S256x259 : Shape := ⟨2, ![256, 259]⟩
abbrev S256 : Shape := ⟨1, ![256]⟩
abbrev S256x256 : Shape := ⟨2, ![256, 256]⟩
abbrev S4x1024x9 : Shape := ⟨3, ![4, 1024, 9]⟩
abbrev S4x1024x1x3 : Shape := ⟨4, ![4, 1024, 1, 3]⟩
abbrev S4x1x1024x3 : Shape := ⟨4, ![4, 1, 1024, 3]⟩
abbrev S4x1024x1024x3 : Shape := ⟨4, ![4, 1024, 1024, 3]⟩
abbrev S4x1024x1024x1 : Shape := ⟨4, ![4, 1024, 1024, 1]⟩
abbrev S4x1024x1024 : Shape := ⟨3, ![4, 1024, 1024]⟩
abbrev S4x1024x1 : Shape := ⟨3, ![4, 1024, 1]⟩
abbrev S4x1024 : Shape := ⟨2, ![4, 1024]⟩
abbrev S_ : Shape := ⟨0, ![]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S1x1024 : Shape := ⟨2, ![1, 1024]⟩
abbrev S4096x32 : Shape := ⟨2, ![4096, 32]⟩
abbrev S4096x1 : Shape := ⟨2, ![4096, 1]⟩
abbrev S4096x1024x1 : Shape := ⟨3, ![4096, 1024, 1]⟩
abbrev S4096x1024x2 : Shape := ⟨3, ![4096, 1024, 2]⟩
abbrev S4x1024x32 : Shape := ⟨3, ![4, 1024, 32]⟩
abbrev S4x3x1024 : Shape := ⟨3, ![4, 3, 1024]⟩
abbrev S4x32768 : Shape := ⟨2, ![4, 32768]⟩
abbrev S4x32768x1 : Shape := ⟨3, ![4, 32768, 1]⟩
abbrev S4x3x32768 : Shape := ⟨3, ![4, 3, 32768]⟩
abbrev S4x3x1024x32 : Shape := ⟨4, ![4, 3, 1024, 32]⟩
abbrev S4x3x1024x1 : Shape := ⟨4, ![4, 3, 1024, 1]⟩
abbrev S4x1024x32x3 : Shape := ⟨4, ![4, 1024, 32, 3]⟩
abbrev S4x256x32768 : Shape := ⟨3, ![4, 256, 32768]⟩
abbrev S4x256x1024x32 : Shape := ⟨4, ![4, 256, 1024, 32]⟩
abbrev S4x259x1024x32 : Shape := ⟨4, ![4, 259, 1024, 32]⟩
abbrev S256x4x1024x32 : Shape := ⟨4, ![256, 4, 1024, 32]⟩
abbrev S1x256x1x1 : Shape := ⟨4, ![1, 256, 1, 1]⟩

abbrev nBuf : Space → Nat
  | .hbm => 217
  | .vmem => 0
  | .smem => 0
  | _ => 0

abbrev hbmTy0_0 (i : Nat) : BufTy := match i % 128 with
  | 0 => ⟨S4x1024x3, .f32⟩
  | 1 => ⟨S4x256x1024, .f32⟩
  | 2 => ⟨S4x1024x3x3, .f32⟩
  | 3 => ⟨S256x259, .f32⟩
  | 4 => ⟨S256, .f32⟩
  | 5 => ⟨S256, .f32⟩
  | 6 => ⟨S256x256, .f32⟩
  | 7 => ⟨S256, .f32⟩
  | 8 => ⟨S256, .f32⟩
  | 9 => ⟨S4x1024x9, .f32⟩
  | 10 => ⟨S4x1024x1x3, .f32⟩
  | 11 => ⟨S4x1x1024x3, .f32⟩
  | 12 => ⟨S4x1024x1024x3, .f32⟩
  | 13 => ⟨S4x1024x1024x3, .f32⟩
  | 14 => ⟨S4x1024x1024x3, .f32⟩
  | 15 => ⟨S4x1024x3x3, .f32⟩
  | 16 => ⟨S4x1024x1024x3, .f32⟩
  | 17 => ⟨S4x1024x1024x1, .f32⟩
  | 18 => ⟨S4x1024x1024, .f32⟩
  | 19 => ⟨S4x1024x1024x1, .f32⟩
  | 20 => ⟨S4x1024x1024, .f32⟩
  | 21 => ⟨S4x1024x1024x1, .f32⟩
  | 22 => ⟨S4x1024x1024, .f32⟩
  | 23 => ⟨S4x1024x1024, .f32⟩
  | 24 => ⟨S4x1024x1024, .f32⟩
  | 25 => ⟨S4x1024x1024, .f32⟩
  | 26 => ⟨S4x1024x1, .f32⟩
  | 27 => ⟨S4x1024, .f32⟩
  | 28 => ⟨S4x1024x1, .f32⟩
  | 29 => ⟨S4x1024x1024, .f32⟩
  | 30 => ⟨S4x1024x1024, .i1⟩
  | 31 => ⟨S_, .f32⟩
  | 32 => ⟨S4x1024x1024, .f32⟩
  | 33 => ⟨S4x1024x1024, .i1⟩
  | 34 => ⟨S4x1024x1024, .i1⟩
  | 35 => ⟨S_, .f32⟩
  | 36 => ⟨S4x1024x1024, .f32⟩
  | 37 => ⟨S4x1024x1024, .i1⟩
  | 38 => ⟨S4x1024x1024, .i1⟩
  | 39 => ⟨S4x1024x1024, .i32⟩
  | 40 => ⟨S_, .i32⟩
  | 41 => ⟨S_, .i32⟩
  | 42 => ⟨S4x1024x1024, .i32⟩
  | 43 => ⟨S_, .i32⟩
  | 44 => ⟨S4x1024x1024, .i32⟩
  | 45 => ⟨S4x1024x1024, .i32⟩
  | 46 => ⟨S_, .i32⟩
  | 47 => ⟨S4x1024x1024, .i32⟩
  | 48 => ⟨S4x1024x1024, .i1⟩
  | 49 => ⟨S4x1024x1024, .i1⟩
  | 50 => ⟨S_, .i32⟩
  | 51 => ⟨S_, .i32⟩
  | 52 => ⟨S1024, .i32⟩
  | 53 => ⟨S1024x1024, .i32⟩
  | 54 => ⟨S4x1024x1024, .i32⟩
  | 55 => ⟨S4x1024x1024, .i32⟩
  | 56 => ⟨S4096x1024, .i32⟩
  | 57 => ⟨S4096, .i32⟩
  | 58 => ⟨S1024, .i32⟩
  | 59 => ⟨S1x1024, .i32⟩
  | 60 => ⟨S4096x1024, .i32⟩
  | 61 => ⟨S_, .i32⟩
  | 62 => ⟨S4096x32, .i32⟩
  | 63 => ⟨S4096x1, .i32⟩
  | 64 => ⟨S_, .i32⟩
  | 65 => ⟨S4096x1, .i32⟩
  | 66 => ⟨S4096x1, .i1⟩
  | 67 => ⟨S_, .i32⟩
  | 68 => ⟨S4096x1, .i32⟩
  | 69 => ⟨S4096x1, .i32⟩
  | 70 => ⟨S4096x1, .i32⟩
  | 71 => ⟨S_, .i32⟩
  | 72 => ⟨S4096x1024, .i32⟩
  | 73 => ⟨S4096x1024, .i1⟩
  | 74 => ⟨S_, .i32⟩
  | 75 => ⟨S4096x1024, .i32⟩
  | 76 => ⟨S4096x1024, .i32⟩
  | 77 => ⟨S4096x1024, .i32⟩
  | 78 => ⟨S4096x1024, .i32⟩
  | 79 => ⟨S4096x1024x1, .i32⟩
  | 80 => ⟨S4096x1024x1, .i32⟩
  | 81 => ⟨S4096x1024x2, .i32⟩
  | 82 => ⟨S4096x32, .i32⟩
  | 83 => ⟨S4x1024x32, .i32⟩
  | 84 => ⟨S4x3x1024, .f32⟩
  | 85 => ⟨S4x32768, .i32⟩
  | 86 => ⟨S_, .i32⟩
  | 87 => ⟨S4x32768, .i32⟩
  | 88 => ⟨S4x32768, .i1⟩
  | 89 => ⟨S_, .i32⟩
  | 90 => ⟨S4x32768, .i32⟩
  | 91 => ⟨S4x32768, .i32⟩
  | 92 => ⟨S4x32768, .i32⟩
  | 93 => ⟨S4x32768x1, .i32⟩
  | 94 => ⟨S4x3x32768, .f32⟩
  | 95 => ⟨S4x3x1024x32, .f32⟩
  | 96 => ⟨S4x3x1024x1, .f32⟩
  | 97 => ⟨S4x3x1024x32, .f32⟩
  | 98 => ⟨S4x3x1024x32, .f32⟩
  | 99 => ⟨S_, .f32⟩
  | 100 => ⟨S4x3x1024x32, .f32⟩
  | 101 => ⟨S4x3x1024x32, .f32⟩
  | 102 => ⟨S4x1024x32x3, .f32⟩
  | 103 => ⟨S4x1024x32x3, .f32⟩
  | 104 => ⟨S4x3x1024x32, .f32⟩
  | 105 => ⟨S4x32768, .i32⟩
  | 106 => ⟨S_, .i32⟩
  | 107 => ⟨S4x32768, .i32⟩
  | 108 => ⟨S4x32768, .i1⟩
  | 109 => ⟨S_, .i32⟩
  | 110 => ⟨S4x32768, .i32⟩
  | 111 => ⟨S4x32768, .i32⟩
  | 112 => ⟨S4x32768, .i32⟩
  | 113 => ⟨S4x32768x1, .i32⟩
  | 114 => ⟨S4x256x32768, .f32⟩
  | 115 => ⟨S4x256x1024x32, .f32⟩
  | 116 => ⟨S4x259x1024x32, .f32⟩
  | 117 => ⟨S256x4x1024x32, .f32⟩
  | 118 => ⟨S4x256x1024x32, .f32⟩
  | 119 => ⟨S_, .f32⟩
  | 120 => ⟨S256, .f32⟩
  | 121 => ⟨S1x256x1x1, .f32⟩
  | 122 => ⟨S_, .f32⟩
  | 123 => ⟨S1x256x1x1, .f32⟩
  | 124 => ⟨S1x256x1x1, .f32⟩
  | 125 => ⟨S_, .i32⟩
  | 126 => ⟨S_, .f32⟩
  | 127 => ⟨S256, .f32⟩
  | _ => ⟨S4x1024x3, .f32⟩

abbrev hbmTy0_1 (i : Nat) : BufTy := match i % 128 with
  | 0 => ⟨S1x256x1x1, .f32⟩
  | 1 => ⟨S_, .f32⟩
  | 2 => ⟨S1x256x1x1, .f32⟩
  | 3 => ⟨S1x256x1x1, .f32⟩
  | 4 => ⟨S4x256x1024x32, .f32⟩
  | 5 => ⟨S4x256x1024x32, .f32⟩
  | 6 => ⟨S4x256x1024x32, .f32⟩
  | 7 => ⟨S_, .f32⟩
  | 8 => ⟨S_, .f32⟩
  | 9 => ⟨S_, .f32⟩
  | 10 => ⟨S_, .f32⟩
  | 11 => ⟨S256, .f32⟩
  | 12 => ⟨S1x256x1x1, .f32⟩
  | 13 => ⟨S1x256x1x1, .f32⟩
  | 14 => ⟨S1x256x1x1, .f32⟩
  | 15 => ⟨S_, .f32⟩
  | 16 => ⟨S_, .i1⟩
  | 17 => ⟨S_, .f32⟩
  | 18 => ⟨S_, .f32⟩
  | 19 => ⟨S1x256x1x1, .f32⟩
  | 20 => ⟨S1x256x1x1, .f32⟩
  | 21 => ⟨S4x256x1024x32, .f32⟩
  | 22 => ⟨S4x256x1024x32, .f32⟩
  | 23 => ⟨S_, .f32⟩
  | 24 => ⟨S1x256x1x1, .f32⟩
  | 25 => ⟨S1x256x1x1, .f32⟩
  | 26 => ⟨S1x256x1x1, .f32⟩
  | 27 => ⟨S4x256x1024x32, .f32⟩
  | 28 => ⟨S4x256x1024x32, .f32⟩
  | 29 => ⟨S1x256x1x1, .f32⟩
  | 30 => ⟨S4x256x1024x32, .f32⟩
  | 31 => ⟨S4x256x1024x32, .f32⟩
  | 32 => ⟨S1x256x1x1, .f32⟩
  | 33 => ⟨S4x256x1024x32, .f32⟩
  | 34 => ⟨S4x256x1024x32, .f32⟩
  | 35 => ⟨S_, .f32⟩
  | 36 => ⟨S4x256x1024x32, .f32⟩
  | 37 => ⟨S4x256x1024x32, .f32⟩
  | 38 => ⟨S256x4x1024x32, .f32⟩
  | 39 => ⟨S4x256x1024x32, .f32⟩
  | 40 => ⟨S_, .f32⟩
  | 41 => ⟨S256, .f32⟩
  | 42 => ⟨S1x256x1x1, .f32⟩
  | 43 => ⟨S_, .f32⟩
  | 44 => ⟨S1x256x1x1, .f32⟩
  | 45 => ⟨S1x256x1x1, .f32⟩
  | 46 => ⟨S_, .i32⟩
  | 47 => ⟨S_, .f32⟩
  | 48 => ⟨S256, .f32⟩
  | 49 => ⟨S1x256x1x1, .f32⟩
  | 50 => ⟨S_, .f32⟩
  | 51 => ⟨S1x256x1x1, .f32⟩
  | 52 => ⟨S1x256x1x1, .f32⟩
  | 53 => ⟨S4x256x1024x32, .f32⟩
  | 54 => ⟨S4x256x1024x32, .f32⟩
  | 55 => ⟨S4x256x1024x32, .f32⟩
  | 56 => ⟨S_, .f32⟩
  | 57 => ⟨S_, .f32⟩
  | 58 => ⟨S_, .f32⟩
  | 59 => ⟨S_, .f32⟩
  | 60 => ⟨S256, .f32⟩
  | 61 => ⟨S1x256x1x1, .f32⟩
  | 62 => ⟨S1x256x1x1, .f32⟩
  | 63 => ⟨S1x256x1x1, .f32⟩
  | 64 => ⟨S_, .f32⟩
  | 65 => ⟨S_, .i1⟩
  | 66 => ⟨S_, .f32⟩
  | 67 => ⟨S_, .f32⟩
  | 68 => ⟨S1x256x1x1, .f32⟩
  | 69 => ⟨S1x256x1x1, .f32⟩
  | 70 => ⟨S4x256x1024x32, .f32⟩
  | 71 => ⟨S4x256x1024x32, .f32⟩
  | 72 => ⟨S_, .f32⟩
  | 73 => ⟨S1x256x1x1, .f32⟩
  | 74 => ⟨S1x256x1x1, .f32⟩
  | 75 => ⟨S1x256x1x1, .f32⟩
  | 76 => ⟨S4x256x1024x32, .f32⟩
  | 77 => ⟨S4x256x1024x32, .f32⟩
  | 78 => ⟨S1x256x1x1, .f32⟩
  | 79 => ⟨S4x256x1024x32, .f32⟩
  | 80 => ⟨S4x256x1024x32, .f32⟩
  | 81 => ⟨S1x256x1x1, .f32⟩
  | 82 => ⟨S4x256x1024x32, .f32⟩
  | 83 => ⟨S4x256x1024x32, .f32⟩
  | 84 => ⟨S_, .f32⟩
  | 85 => ⟨S4x256x1024x32, .f32⟩
  | 86 => ⟨S4x256x1024x32, .f32⟩
  | 87 => ⟨S_, .f32⟩
  | 88 => ⟨S4x256x1024, .f32⟩
  | _ => ⟨S4x1024x3, .f32⟩

abbrev hbmTy (i : Nat) : BufTy := match i / 128 with
  | 0 => hbmTy0_0 i
  | 1 => hbmTy0_1 i
  | _ => ⟨S4x1024x3, .f32⟩

abbrev bufTy : (tb : Table) → Fin (tcTables nBuf tb) → BufTy
  | .hbm, ⟨i, _⟩ => hbmTy i
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_call0_c : Ref sig .tc := ⟨.hbm, 40, rfl⟩
abbrev main_call0_call0_v0 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_c_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_2 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_3 : Ref sig .tc := ⟨.hbm, 61, rfl⟩
abbrev main_v41 : Ref sig .tc := ⟨.hbm, 62, rfl⟩
abbrev main_v42 : Ref sig .tc := ⟨.hbm, 63, rfl⟩
abbrev main_c_4 : Ref sig .tc := ⟨.hbm, 64, rfl⟩
abbrev main_v43 : Ref sig .tc := ⟨.hbm, 65, rfl⟩
abbrev main_v44 : Ref sig .tc := ⟨.hbm, 66, rfl⟩
abbrev main_c_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_6 : Ref sig .tc := ⟨.hbm, 71, rfl⟩
abbrev main_v48 : Ref sig .tc := ⟨.hbm, 72, rfl⟩
abbrev main_v49 : Ref sig .tc := ⟨.hbm, 73, rfl⟩
abbrev main_c_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_8 : Ref sig .tc := ⟨.hbm, 86, rfl⟩
abbrev main_v61 : Ref sig .tc := ⟨.hbm, 87, rfl⟩
abbrev main_v62 : Ref sig .tc := ⟨.hbm, 88, rfl⟩
abbrev main_c_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_10 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_11 : Ref sig .tc := ⟨.hbm, 106, rfl⟩
abbrev main_v78 : Ref sig .tc := ⟨.hbm, 107, rfl⟩
abbrev main_v79 : Ref sig .tc := ⟨.hbm, 108, rfl⟩
abbrev main_c_12 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_13 : Ref sig .tc := ⟨.hbm, 119, rfl⟩
abbrev main_v89 : Ref sig .tc := ⟨.hbm, 120, rfl⟩
abbrev main_v90 : Ref sig .tc := ⟨.hbm, 121, rfl⟩
abbrev main_cst_14 : Ref sig .tc := ⟨.hbm, 122, rfl⟩
abbrev main_v91 : Ref sig .tc := ⟨.hbm, 123, rfl⟩
abbrev main_v92 : Ref sig .tc := ⟨.hbm, 124, rfl⟩
abbrev main_c_15 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_cst_1 : Ref sig .tc := ⟨.hbm, 136, rfl⟩
abbrev main_call2_v8 : Ref sig .tc := ⟨.hbm, 137, rfl⟩
abbrev main_call2_cst_2 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_v12 : Ref sig .tc := ⟨.hbm, 142, rfl⟩
abbrev main_call2_cst_3 : Ref sig .tc := ⟨.hbm, 143, rfl⟩
abbrev main_call2_v13 : Ref sig .tc := ⟨.hbm, 144, rfl⟩
abbrev main_call2_cst_4 : Ref sig .tc := ⟨.hbm, 145, rfl⟩
abbrev main_call2_call0_v0 : Ref sig .tc := ⟨.hbm, 146, rfl⟩
abbrev main_call2_call0_v1 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_16 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_17 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_cst_18 : Ref sig .tc := ⟨.hbm, 168, rfl⟩
abbrev main_v111 : Ref sig .tc := ⟨.hbm, 169, rfl⟩
abbrev main_v112 : Ref sig .tc := ⟨.hbm, 170, rfl⟩
abbrev main_cst_19 : Ref sig .tc := ⟨.hbm, 171, rfl⟩
abbrev main_v113 : Ref sig .tc := ⟨.hbm, 172, rfl⟩
abbrev main_v114 : Ref sig .tc := ⟨.hbm, 173, rfl⟩
abbrev main_c_20 : Ref sig .tc := ⟨.hbm, 174, rfl⟩
abbrev main_call3_cst : Ref sig .tc := ⟨.hbm, 175, rfl⟩
abbrev main_call3_v0 : Ref sig .tc := ⟨.hbm, 176, rfl⟩
abbrev main_call3_v1 : Ref sig .tc := ⟨.hbm, 177, rfl⟩
abbrev main_call3_cst_0 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_call3_v5 : Ref sig .tc := ⟨.hbm, 182, rfl⟩
abbrev main_call3_v6 : Ref sig .tc := ⟨.hbm, 183, rfl⟩
abbrev main_call3_v7 : Ref sig .tc := ⟨.hbm, 184, rfl⟩
abbrev main_call3_cst_1 : Ref sig .tc := ⟨.hbm, 185, rfl⟩
abbrev main_call3_v8 : Ref sig .tc := ⟨.hbm, 186, rfl⟩
abbrev main_call3_cst_2 : Ref sig .tc := ⟨.hbm, 187, rfl⟩
abbrev main_call3_v9 : Ref sig .tc := ⟨.hbm, 188, rfl⟩
abbrev main_call3_v10 : Ref sig .tc := ⟨.hbm, 189, rfl⟩
abbrev main_call3_v11 : Ref sig .tc := ⟨.hbm, 190, rfl⟩
abbrev main_call3_v12 : Ref sig .tc := ⟨.hbm, 191, rfl⟩
abbrev main_call3_cst_3 : Ref sig .tc := ⟨.hbm, 192, rfl⟩
abbrev main_call3_v13 : Ref sig .tc := ⟨.hbm, 193, rfl⟩
abbrev main_call3_cst_4 : Ref sig .tc := ⟨.hbm, 194, rfl⟩
abbrev main_call3_call0_v0 : Ref sig .tc := ⟨.hbm, 195, rfl⟩
abbrev main_call3_call0_v1 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_cst_21 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_cst_22 : Ref sig .tc := ⟨.hbm, 212, rfl⟩
abbrev main_v129 : Ref sig .tc := ⟨.hbm, 213, rfl⟩
abbrev main_v130 : Ref sig .tc := ⟨.hbm, 214, rfl⟩
abbrev main_cst_23 : Ref sig .tc := ⟨.hbm, 215, rfl⟩
abbrev main_v131 : Ref sig .tc := ⟨.hbm, 216, rfl⟩

abbrev nD : Nat := 1
abbrev τ : Topo := Topo.v7x

variable {F : FTy → Type} [FloatOps F]
-- ==== Proof.K0Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## @main up to the region -/

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's branch conditions -/

/-- The condition of the body's `scf.if` 0, from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 32 = 0)

/-- The condition of the body's `scf.if` 1, from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2, from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 32 = 31 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration calls output 9 idle. -/
theorem idleAt0_9_A : ∀ t : Fin cfg0.N, cond0_0 (grid0.coords t) → cond0_1 (grid0.coords t) → ¬cond0_2 (grid0.coords t) → cfg0.idle 9 (grid0.coords t) = true := by decide +kernel
/-- At the points of case A the pipeline does not write output 9's block back. -/
theorem noFlush0_9_A : ∀ t : Fin cfg0.N, cond0_0 (grid0.coords t) → cond0_1 (grid0.coords t) → ¬cond0_2 (grid0.coords t) → (cfg0.win 9).flush t = false := by decide +kernel
/-- At the points of case B the printed configuration calls output 9 idle. -/
theorem idleAt0_9_B : ∀ t : Fin cfg0.N, ¬cond0_0 (grid0.coords t) → ¬cond0_1 (grid0.coords t) → ¬cond0_2 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → ¬cond0_2 (grid0.coords t) → (cfg0.win 9).flush t = false := by decide +kernel
/-- At the points of case C the printed configuration calls output 9 idle. -/
theorem idleAt0_9_C : ∀ t : Fin cfg0.N, ¬cond0_0 (grid0.coords t) → cond0_1 (grid0.coords t) → ¬cond0_2 (grid0.coords t) → cfg0.idle 9 (grid0.coords t) = true := by decide +kernel
/-- At the points of case C the pipeline does not write output 9's block back. -/
theorem noFlush0_9_C : ∀ t : Fin cfg0.N, ¬cond0_0 (grid0.coords t) → cond0_1 (grid0.coords t) → ¬cond0_2 (grid0.coords t) → (cfg0.win 9).flush t = false := by decide +kernel
/-- At the points of case D the printed configuration calls output 9 live. -/
theorem liveAt0_9_D : ∀ t : Fin cfg0.N, ¬cond0_0 (grid0.coords t) → ¬cond0_1 (grid0.coords t) → cond0_2 (grid0.coords t) → cfg0.idle 9 (grid0.coords t) = false := by decide +kernel

/-! ## The kernel body on any staging memrefs: a subtype the run finds -/

/-- One staging buffer of output window 8, through which its contents are stated. -/
abbrev VO0_8 : View sig .tc .vmem S1x32x128x256 .bf16 := (Memref.whole cc0_stg8_0 : Memref sig .tc .vmem S1x32x128x256 .bf16).view
/-- One staging buffer of output window 9, through which its contents are stated. -/
abbrev VO0_9 : View sig .tc .vmem S8x256 .f32 := (Memref.whole cc0_stg9_0 : Memref sig .tc .vmem S8x256 .f32).view
/-- Each window's current staging memref at point `t`, spelled as the pipeline passes it, and its wholeness. -/
abbrev ms0_0 (t : Fin cfg0.N) : Memref sig .tc .vmem S1x3x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x9 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x128x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x256 .f32 := win0_9.stage (cfg0.slots t 9)
abbrev hs0_9 (t : Fin cfg0.N) : (ms0_9 t).IsWhole := hstage0_9 ((cfg0.slots t 9).cast nbuf0_9)
/-- The scratch operands. -/
abbrev scM0_0 : Memref sig .tc .vmem S1024x264 .bf16 := Memref.whole cc0_scratch0
abbrev scM0_1 : Memref sig .tc .vmem S8x256 .f32 := Memref.whole cc0_scratch1
/-- The scratch `arg12` the kernel carries between points, as a view. -/
abbrev VS0_0 : View sig .tc .vmem S1024x264 .bf16 := scM0_0.view
/-- The scratch `arg13` the kernel carries between points, as a view. -/
abbrev VS0_1 : View sig .tc .vmem S8x256 .f32 := scM0_1.view

/-- What rides along the region: the scoped buffers the call does not touch and the generator register. -/
def Er (c : Dev nD) : sProp 𝕄 :=
  iprop(Pipeline.scopedRestBut (Ix := Unit) (Name := ℕ) (U := UR sig nD τ) (Lvl := ℕ) (Val := Elt F) spec0 c [cc0_scratch0, cc0_scratch1] ∗ ∃ r, prngReg c r)

/-- The region's invariant with the call's scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ Er c) := by
  have h : (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ Pipeline.scopedRestBut (Ix := Unit) (Name := ℕ) (U := UR sig nD τ) (Lvl := ℕ) (Val := Elt F) spec0 c [cc0_scratch0, cc0_scratch1]) :=
    Pipeline.scopedRest_split_of_list spec0 c [cc0_scratch0, cc0_scratch1] (by decide) (by decide)
  unfold Pipeline.ΦA Er
  rw [h]; refine (equiv_iff.mp ⟨BI.sep_assoc, BI.sep_assoc'⟩).trans ?_
  simp only [scM0_0, scM0_1, owns_whole]
  rfl

end Cert.Proof.K0

end
-- ==== Proof.K0RunA.lean ====
module

public import proofs.«01_k».proof.Proof.K0Runs

@[expose] public section

set_option maxRecDepth 16384

noncomputable section

namespace Cert.Proof.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces. -/
noncomputable def kernelRun0_A (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) :
    Σ' (L8 : List (View.Piece (Elt F) S1x32x128x256 .bf16)), Σ' (L9 : List (View.Piece (Elt F) S8x256 .f32)), Σ' (LS0 : List (View.Piece (Elt F) S1024x264 .bf16)), { LS1 : List (View.Piece (Elt F) S8x256 .f32) //
      ∀ (xi9 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, [], ?_, ?_, fun xi9 E K => ?run⟩
  case run =>
    simp only [cc0__fused_kernel_eq_skeleton]; unfold cc0__fused_kernel_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [HS0]; · iexists _; iexact HS0
    iexists _; iexact HS1

end Cert.Proof.K0

end
-- ==== Proof.K0RunB.lean ====
module

public import proofs.«01_k».proof.Proof.K0RunA

@[expose] public section

set_option maxRecDepth 16384

noncomputable section

namespace Cert.Proof.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces. -/
noncomputable def kernelRun0_B (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) :
    Σ' (L8 : List (View.Piece (Elt F) S1x32x128x256 .bf16)), Σ' (L9 : List (View.Piece (Elt F) S8x256 .f32)), Σ' (LS0 : List (View.Piece (Elt F) S1024x264 .bf16)), { LS1 : List (View.Piece (Elt F) S8x256 .f32) //
      ∀ (xi9 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xs0 ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, [], [], ?_, fun xi9 E K => ?run⟩
  case run =>
    simp only [cc0__fused_kernel_eq_skeleton]; unfold cc0__fused_kernel_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [HS0]
    · iexists _; isplitr; · ipureintro; exact harg12.read_unread _
      iexact HS0
    iexact HS1

end Cert.Proof.K0

end
-- ==== Proof.K0RunC.lean ====
module

public import proofs.«01_k».proof.Proof.K0RunB

@[expose] public section

set_option maxRecDepth 16384

noncomputable section

namespace Cert.Proof.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces. -/
noncomputable def kernelRun0_C (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs1 : Vec F S8x256 .f32) :
    Σ' (L8 : List (View.Piece (Elt F) S1x32x128x256 .bf16)), Σ' (L9 : List (View.Piece (Elt F) S8x256 .f32)), Σ' (LS0 : List (View.Piece (Elt F) S1024x264 .bf16)), { LS1 : List (View.Piece (Elt F) S8x256 .f32) //
      ∀ (xi9 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ (∃ d, owns (c : Thread nD τ) arg12 fullShare d) ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, [], ?_, ?_, fun xi9 E K => ?run⟩
  case run =>
    simp only [cc0__fused_kernel_eq_skeleton]; unfold cc0__fused_kernel_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg13.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [HS0]; · iexists _; iexact HS0
    iexact HS1

end Cert.Proof.K0

end
-- ==== Proof.K0RunD.lean ====
module

public import proofs.«01_k».proof.Proof.K0RunC

@[expose] public section

set_option maxRecDepth 16384

noncomputable section

namespace Cert.Proof.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces. -/
noncomputable def kernelRun0_D (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) :
    Σ' (L8 : List (View.Piece (Elt F) S1x32x128x256 .bf16)), Σ' (L9 : List (View.Piece (Elt F) S8x256 .f32)), Σ' (LS0 : List (View.Piece (Elt F) S1024x264 .bf16)), { LS1 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xs0 ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, [], ?_, fun E K => ?run⟩
  case run =>
    simp only [cc0__fused_kernel_eq_skeleton]; unfold cc0__fused_kernel_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _; isplitr; · ipureintro; exact harg12.read_unread _
      iexact HS0
    iexact HS1

end Cert.Proof.K0

end
-- ==== Proof.K0Frame.lean ====
module

public import proofs.«01_k».proof.Proof.K0RunD
public import Idealize.ShloMosaic.Lib.Claim

@[expose] public section

set_option maxRecDepth 16384

noncomputable section

namespace Cert.Proof.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 8 tile its block. -/
theorem cover0_A_8 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (y : S1x32x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 S1x1x128x256.size (by sl_kernel_rfl) y

/-- What case A leaves in output 8's staging buffer. -/
def out0_A_8 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) : Vec F S1x32x128x256 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1)

/-- Case A stores nothing into output 9 (the window is idle at its points and not written back there). -/
def out0_A_9 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) : Vec F S8x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.1)

/-- Case A's pieces for scratch `arg12`, which the kernel carries between points, cover it. -/
theorem scover0_A_0 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (y : S1024x264.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1 S1024x264.size (by sl_kernel_rfl) y

/-- What case A leaves in scratch `arg12`. -/
def sout0_A_0 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) : Vec F S1024x264 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1)

/-- Case A's pieces for scratch `arg13`, which the kernel carries between points, cover it. -/
theorem scover0_A_1 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (y : S8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.2.1 (by sl_whole_mem) y

/-- What case A leaves in scratch `arg13`. -/
def sout0_A_1 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) : Vec F S8x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.2.1)

/-- Case B's pieces for output 8 tile its block. -/
theorem cover0_B_8 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) (y : S1x32x128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1 S1x1x128x256.size (by sl_kernel_rfl) y

/-- What case B leaves in output 8's staging buffer. -/
def out0_B_8 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) : Vec F S1x32x128x256 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1)

/-- Case B stores nothing into output 9 (the window is idle at its points and not written back there). -/
def out0_B_9 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) : Vec F S8x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1)

/-- Case B stores nothing into scratch `arg12`. -/
def sout0_B_0 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) : Vec F S1024x264 .bf16 := xs0

/-- What case B leaves in scratch `arg13`. -/
def sout0_B_1 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) : Vec F S8x256 .f32 :=
  arg13.view.read (Elt F) (arg13.view.writes (Elt F) (harg13.unread xs1) (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.2.1)

/-- Case C's pieces for output 8 tile its block. -/
theorem cover0_C_8 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs1 : Vec F S8x256 .f32) (y : S1x32x128x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).1 S1x1x128x256.size (by sl_kernel_rfl) y

/-- What case C leaves in output 8's staging buffer. -/
def out0_C_8 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs1 : Vec F S8x256 .f32) : Vec F S1x32x128x256 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).1)

/-- Case C stores nothing into output 9 (the window is idle at its points and not written back there). -/
def out0_C_9 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs1 : Vec F S8x256 .f32) : Vec F S8x256 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).2.1)

/-- Case C's pieces for scratch `arg12`, which the kernel carries between points, cover it. -/
theorem scover0_C_0 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs1 : Vec F S8x256 .f32) (y : S1024x264.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).2.2.1 S1024x264.size (by sl_kernel_rfl) y

/-- What case C leaves in scratch `arg12`. -/
def sout0_C_0 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs1 : Vec F S8x256 .f32) : Vec F S1024x264 .bf16 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).2.2.1)

/-- What case C leaves in scratch `arg13`. -/
def sout0_C_1 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : cond0_1 i) (hc2 : ¬cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs1 : Vec F S8x256 .f32) : Vec F S8x256 .f32 :=
  arg13.view.read (Elt F) (arg13.view.writes (Elt F) (harg13.unread xs1) (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).2.2.2.1)

/-- Case D's pieces for output 8 tile its block. -/
theorem cover0_D_8 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) (y : S1x32x128x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1 S1x1x128x256.size (by sl_kernel_rfl) y

/-- What case D leaves in output 8's staging buffer. -/
def out0_D_8 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) : Vec F S1x32x128x256 .bf16 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1)

/-- Case D's pieces for output 9 tile its block. -/
theorem cover0_D_9 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) (y : S8x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1 S8x256.size (by sl_kernel_rfl) y

/-- What case D leaves in output 9's staging buffer. -/
def out0_D_9 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) : Vec F S8x256 .f32 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1)

/-- Case D stores nothing into scratch `arg12`. -/
def sout0_D_0 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) : Vec F S1024x264 .bf16 := xs0

/-- What case D leaves in scratch `arg13`. -/
def sout0_D_1 (c : Dev nD) (i : grid0.Coords) (arg2 : Memref sig .tc .vmem S1x3x1024 .f32) (harg2 : arg2.IsWhole) (arg3 : Memref sig .tc .vmem S1x1024x3 .f32) (harg3 : arg3.IsWhole) (arg4 : Memref sig .tc .vmem S1x128x3 .f32) (harg4 : arg4.IsWhole) (arg5 : Memref sig .tc .vmem S1x128x9 .f32) (harg5 : arg5.IsWhole) (arg6 : Memref sig .tc .vmem S1024x1024 .bf16) (harg6 : arg6.IsWhole) (arg7 : Memref sig .tc .vmem S1x1024x256 .f32) (harg7 : arg7.IsWhole) (arg8 : Memref sig .tc .vmem S256x256 .f32) (harg8 : arg8.IsWhole) (arg9 : Memref sig .tc .vmem S8x256 .f32) (harg9 : arg9.IsWhole) (arg10 : Memref sig .tc .vmem S1x32x128x256 .bf16) (harg10 : arg10.IsWhole) (arg11 : Memref sig .tc .vmem S8x256 .f32) (harg11 : arg11.IsWhole) (arg12 : Memref sig .tc .vmem S1024x264 .bf16) (harg12 : arg12.IsWhole) (arg13 : Memref sig .tc .vmem S8x256 .f32) (harg13 : arg13.IsWhole) (hc0 : ¬cond0_0 i) (hc1 : ¬cond0_1 i) (hc2 : cond0_2 i)
    (x0 : Vec F S1x3x1024 .f32) (x1 : Vec F S1x1024x3 .f32) (x2 : Vec F S1x128x3 .f32) (x3 : Vec F S1x128x9 .f32) (x4 : Vec F S1024x1024 .bf16) (x5 : Vec F S1x1024x256 .f32) (x6 : Vec F S256x256 .f32) (x7 : Vec F S8x256 .f32) (xs0 : Vec F S1024x264 .bf16) (xs1 : Vec F S8x256 .f32) : Vec F S8x256 .f32 :=
  arg13.view.read (Elt F) (arg13.view.writes (Elt F) (harg13.unread xs1) (kernelRun0_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.2.1)

/-! ## What the outputs hold after each point -/

/-- THE ACCUMULATION. -/
def outsAt0 (c : Dev nD) : (n : ℕ) → n < cfg0.N → Vec F S1x32x128x256 .bf16 × Vec F S8x256 .f32 × Vec F S1024x264 .bf16 × Vec F S8x256 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 32 = 0 then
      if h1 : (n + 1) % 8 = 0 then
        if h2 : (n + 1) % 32 = 31 then
          False.elim (by have hN : n + 1 < 32 := lt_of_lt_of_eq hn (show cfg0.N = 32 from N_0); omega)
        else
          (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
      else
        False.elim (by have hN : n + 1 < 32 := lt_of_lt_of_eq hn (show cfg0.N = 32 from N_0); omega)
    else
      if h1 : (n + 1) % 8 = 0 then
        if h2 : (n + 1) % 32 = 31 then
          False.elim (by have hN : n + 1 < 32 := lt_of_lt_of_eq hn (show cfg0.N = 32 from N_0); omega)
        else
          (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2)
      else
        if h2 : (n + 1) % 32 = 31 then
          (out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.1 (outsAt0 c n (Nat.lt_of_succ_lt hn)).2.2.2, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.1 (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.1 (outsAt0 c n (Nat.lt_of_succ_lt hn)).2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.1 (outsAt0 c n (Nat.lt_of_succ_lt hn)).2.2.2)
        else
          (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.1 (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.1 (outsAt0 c n (Nat.lt_of_succ_lt hn)).2.2.2)

/-- `outsAt0` at a point of case A. -/
theorem outsAt0_A (c : Dev nD) (t : Fin cfg0.N) (h0 : t.val % 32 = 0) (h1 : t.val % 8 = 0) (h2 : ¬t.val % 32 = 31) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (iblk V c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (iblk V c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (iblk V c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans ((dif_pos h1).trans ((dif_neg h2).trans rfl))

/-- `outsAt0` at a point of case B. -/
theorem outsAt0_B (c : Dev nD) (t : Fin cfg0.N) (h0 : ¬t.val % 32 = 0) (h1 : ¬t.val % 8 = 0) (h2 : ¬t.val % 32 = 31) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C. -/
theorem outsAt0_C (c : Dev nD) (t : Fin cfg0.N) (h0 : ¬t.val % 32 = 0) (h1 : t.val % 8 = 0) (h2 : ¬t.val % 32 = 31) :
    outsAt0 V c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case D. -/
theorem outsAt0_D (c : Dev nD) (t : Fin cfg0.N) (h0 : ¬t.val % 32 = 0) (h1 : ¬t.val % 8 = 0) (h2 : t.val % 32 = 31) :
    outsAt0 V c t.val t.isLt = (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.1 (outsAt0 V c (t.val - 1) (Nat.lt_of_le_of_lt (Nat.sub_le _ _) t.isLt)).2.2.2, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2)) ∗ Er c)

theorem PhiS_zero (c : Dev nD) (n : ℕ) (h : n ≤ cfg0.N) (hz : n = 0) : PhiS V c n h = Pipeline.ΦA spec0 c := by
  subst hz; rfl

/-- After point `n` (before point `n + 1`). -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2)) ∗ Er c) := rfl

/-- Before a point that is not the first. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2)) ∗ Er c) := by
  cases n with
  | zero => exact absurd rfl hz
  | succ n => rfl

/-! ## The pipeline's proof data -/

/-- The proof data of the one pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt0 V c t.val t.isLt).1
    | ⟨9, _⟩ => (outsAt0 V c t.val t.isLt).2.1
  Φ t := PhiS V c t.val (Nat.le_of_lt_succ t.isLt)
  q w := Pipeline.shareOf spec0 w
  owed _ := 0

/-- The proof data's arrays are the region-entry contents. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = iblk V c 6 t := by dsimp only [dat]
theorem after0_7 (c : Dev nD) (t : Fin cfg0.N) : (dat V c).after 7 t = iblk V c 7 t := by dsimp only [dat]
theorem after0_8 (c : Dev nD) (t : Fin cfg0.N) : (dat V c).after 8 t = (outsAt0 V c t.val t.isLt).1 := by dsimp only [dat]
theorem after0_9 (c : Dev nD) (t : Fin cfg0.N) : (dat V c).after 9 t = (outsAt0 V c t.val t.isLt).2.1 := by dsimp only [dat]

/-- Each input's current staging buffer holds its block at every point, fetched there or not. -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_6 (c : Dev nD) (t : Fin cfg0.N) (d) : (dat V c).before 6 t d = iblk V c 6 t :=
  before0_6_of V (dat V c) (A_eq V c 6) (after0_6 V c) t d
theorem before0_7 (c : Dev nD) (t : Fin cfg0.N) (d) : (dat V c).before 7 t d = iblk V c 7 t :=
  before0_7_of V (dat V c) (A_eq V c 7) (after0_7 V c) t d

/-! ## The body obligation, at a generic point -/

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 19200000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 32 = 0
  · by_cases h1 : t.val % 8 = 0
    · by_cases h2 : t.val % 32 = 31
      · exfalso; omega
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3 t], after0_3]
        rw [show (dat V c).leavesExact 4 t = owns (c : Thread nD τ) (ms0_4 t) fullShare ((dat V c).after 4 t) from by
      unfold Dat.leavesExact; rw [liveAt0_4 t], after0_4]
        rw [show (dat V c).leavesExact 5 t = owns (c : Thread nD τ) (ms0_5 t) fullShare ((dat V c).after 5 t) from by
      unfold Dat.leavesExact; rw [liveAt0_5 t], after0_5]
        rw [show (dat V c).leavesExact 6 t = owns (c : Thread nD τ) (ms0_6 t) fullShare ((dat V c).after 6 t) from by
      unfold Dat.leavesExact; rw [liveAt0_6 t], after0_6]
        rw [show (dat V c).leavesExact 7 t = owns (c : Thread nD τ) (ms0_7 t) fullShare ((dat V c).after 7 t) from by
      unfold Dat.leavesExact; rw [liveAt0_7 t], after0_7]
        rw [show (dat V c).leavesExact 8 t = owns (c : Thread nD τ) (ms0_8 t) fullShare ((dat V c).after 8 t) from by
      unfold Dat.leavesExact; rw [liveAt0_8 t], after0_8]
        rw [Dat.leavesExact_idle (dat V c) 9 t (idleAt0_9_A t ((hcond0_0 t).mpr h0) ((hcond0_1 t).mpr h1) (fun h => h2 ((hcond0_2 t).mp h))) (noFlush0_9_A t ((hcond0_0 t).mpr h0) ((hcond0_1 t).mpr h1) (fun h => h2 ((hcond0_2 t).mp h)))]
        by_cases hz : t.val = 0
        · rw [PhiS_castSucc V c t, PhiS_zero V c _ _ hz, PhiA0_eq]
          rw [outsAt0_A V c t h0 h1 h2]
          unfold out0_A_8 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (iblk V c 7 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexact H9
          isplitl [HS0]; · iexact HS0
          isplitl [HS1]; · iexact HS1
          iintro ⟨H0, H1, H2, H3, H4, H5, H6, H7, ⟨%e8, H8⟩, H9, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _)
          iexists _; iexact H9
        · exfalso; have hN : t.val < 32 := lt_of_lt_of_eq t.isLt (show cfg0.N = 32 from N_0); omega
    · exfalso; omega
  · by_cases h1 : t.val % 8 = 0
    · by_cases h2 : t.val % 32 = 31
      · exfalso; omega
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3 t], after0_3]
        rw [show (dat V c).leavesExact 4 t = owns (c : Thread nD τ) (ms0_4 t) fullShare ((dat V c).after 4 t) from by
      unfold Dat.leavesExact; rw [liveAt0_4 t], after0_4]
        rw [show (dat V c).leavesExact 5 t = owns (c : Thread nD τ) (ms0_5 t) fullShare ((dat V c).after 5 t) from by
      unfold Dat.leavesExact; rw [liveAt0_5 t], after0_5]
        rw [show (dat V c).leavesExact 6 t = owns (c : Thread nD τ) (ms0_6 t) fullShare ((dat V c).after 6 t) from by
      unfold Dat.leavesExact; rw [liveAt0_6 t], after0_6]
        rw [show (dat V c).leavesExact 7 t = owns (c : Thread nD τ) (ms0_7 t) fullShare ((dat V c).after 7 t) from by
      unfold Dat.leavesExact; rw [liveAt0_7 t], after0_7]
        rw [show (dat V c).leavesExact 8 t = owns (c : Thread nD τ) (ms0_8 t) fullShare ((dat V c).after 8 t) from by
      unfold Dat.leavesExact; rw [liveAt0_8 t], after0_8]
        rw [Dat.leavesExact_idle (dat V c) 9 t (idleAt0_9_C t (fun h => h0 ((hcond0_0 t).mp h)) ((hcond0_1 t).mpr h1) (fun h => h2 ((hcond0_2 t).mp h))) (noFlush0_9_C t (fun h => h0 ((hcond0_0 t).mp h)) ((hcond0_1 t).mpr h1) (fun h => h2 ((hcond0_2 t).mp h)))]
        by_cases hz : t.val = 0
        · exfalso; have hN : t.val < 32 := lt_of_lt_of_eq t.isLt (show cfg0.N = 32 from N_0); omega
        · rw [PhiS_castSucc V c t, PhiS_pos V c _ _ hz]
          rw [outsAt0_C V c t h0 h1 h2]
          unfold out0_C_8 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_C c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) (iblk V c 6 t) (iblk V c 7 t) _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexact H9
          isplitl [HS0]; · iexists _; iexact HS0
          isplitl [HS1]; · iexact HS1
          iintro ⟨H0, H1, H2, H3, H4, H5, H6, H7, ⟨%e8, H8⟩, H9, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _)
              unfold owns; iexists _; isplitr
              swap; · iexact HS1
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _)
          iexists _; iexact H9
    · by_cases h2 : t.val % 32 = 31
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3 t], after0_3]
        rw [show (dat V c).leavesExact 4 t = owns (c : Thread nD τ) (ms0_4 t) fullShare ((dat V c).after 4 t) from by
      unfold Dat.leavesExact; rw [liveAt0_4 t], after0_4]
        rw [show (dat V c).leavesExact 5 t = owns (c : Thread nD τ) (ms0_5 t) fullShare ((dat V c).after 5 t) from by
      unfold Dat.leavesExact; rw [liveAt0_5 t], after0_5]
        rw [show (dat V c).leavesExact 6 t = owns (c : Thread nD τ) (ms0_6 t) fullShare ((dat V c).after 6 t) from by
      unfold Dat.leavesExact; rw [liveAt0_6 t], after0_6]
        rw [show (dat V c).leavesExact 7 t = owns (c : Thread nD τ) (ms0_7 t) fullShare ((dat V c).after 7 t) from by
      unfold Dat.leavesExact; rw [liveAt0_7 t], after0_7]
        rw [show (dat V c).leavesExact 8 t = owns (c : Thread nD τ) (ms0_8 t) fullShare ((dat V c).after 8 t) from by
      unfold Dat.leavesExact; rw [liveAt0_8 t], after0_8]
        rw [show (dat V c).leavesExact 9 t = owns (c : Thread nD τ) (ms0_9 t) fullShare ((dat V c).after 9 t) from by
      unfold Dat.leavesExact; rw [liveAt0_9_D t (fun h => h0 ((hcond0_0 t).mp h)) (fun h => h1 ((hcond0_1 t).mp h)) ((hcond0_2 t).mpr h2)], after0_9]
        by_cases hz : t.val = 0
        · exfalso; have hN : t.val < 32 := lt_of_lt_of_eq t.isLt (show cfg0.N = 32 from N_0); omega
        · rw [PhiS_castSucc V c t, PhiS_pos V c _ _ hz]
          rw [outsAt0_D V c t h0 h1 h2]
          unfold out0_D_8 out0_D_9 sout0_D_0 sout0_D_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_D c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk V c 0 t) (iblk V c 1 t) (iblk V c 2 t) (iblk V c 3 t) (iblk V c 4 t) (iblk V c 5 t) (iblk V c 6 t) (iblk V c 7 t) _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [HS0]; · iexact HS0
          isplitl [HS1]; · iexact HS1
          iintro ⟨H0, H1, H2, H3, H4, H5, H6, H7, ⟨%e8, H8⟩, ⟨%e9, H9⟩, HS0, HS1⟩
          isplitl [HS0 HS1 Hg]
          · isplitl [HS0 HS1]
            · isplitl [HS0]
              · iexact HS0
              unfold owns; iexists _; isplitr
              swap; · iexact HS1
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_D_8 c _ _ _ _ _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_D_9 c _ _ _ _ _ _ _ _ _ _ _ _ _ _ _ _ _ _ _ _ _ _ _ _ _ _ _ _ _ _ _ _ _ _ _ _ _ _)
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3 t], after0_3]
        rw [show (dat V c).leavesExact 4 t = owns (c : Thread nD τ) (ms0_4 t) fullShare ((dat V c).after 4 t) from by
      unfold Dat.leavesExact; rw [liveAt0_4 t], after0_4]
        rw [show (dat V c).leavesExact 5 t = owns (c : Thread nD τ) (ms0_5 t) fullShare ((dat V c).after 5 t) from by
      unfold Dat.leavesExact; rw [liveAt0_5 t], after0_5]
        rw [show (dat V c).leavesExact 6 t = owns (c : Thread nD τ) (ms0_6 t) fullShare ((dat V c).after 6 t) from by
      unfold Dat.leavesExact; rw [liveAt0_6 t], after0_6]
        rw [show (dat V c).leavesExact 7 t = owns (c : Thread nD τ) (ms0_7 t) fullShare ((dat V c).after 7 t) from by
      unfold Dat.leavesExact; rw [liveAt0_7 t], after0_7]
        rw [show (dat V c).leavesExact 8 t = owns (c : Thread nD τ) (ms0_8 t) fullShare ((dat V c).after 8 t) from by
      unfold Dat.leavesExact; rw [liveAt0_8 t], after0_8]
        rw [Dat.leavesExact_idle (dat V c) 9 t (idleAt0_9_B t (fun h => h0 ((hcond0_0 t).mp h)) (fun h => h1 ((hcond0_1 t).mp h)) (fun h => h2 ((hcond0_2 t).mp h))) (noFlush0_9_B t (fun h => h0 ((hcond0_0 t).mp h)) (fun h => h1 ((hcond0_1 t).mp h)) (fun h => h2 ((hcond0_2 t).mp h)))]
        by_cases hz : t.val = 0
        · exfalso; have hN : t.val < 32 := lt_of_lt_of_eq t.isLt (show cfg0.N = 32 from N_0); omega
        · rw [PhiS_castSucc V c t, PhiS_pos V c _ _ hz]
          rw [outsAt0_B V c t h0 h1 h2]
          unfold out0_B_8 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t) (iblk V c 7 t) _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexact H9
          isplitl [HS0]; · iexact HS0
          isplitl [HS1]; · iexact HS1
          iintro ⟨H0, H1, H2, H3, H4, H5, H6, H7, ⟨%e8, H8⟩, H9, HS0, HS1⟩
          isplitl [HS0 HS1 Hg]
          · isplitl [HS0 HS1]
            · isplitl [HS0]
              · iexact HS0
              unfold owns; iexists _; isplitr
              swap; · iexact HS1
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _)
          iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dat V c).Φ (Fin.last cfg0.N) ⊢ Pipeline.ΦA spec0 c :=
  Phi_out V c _ (by rw [Fin.val_last]; have : cfg0.N = 32 := N_0; omega)

/-! ## The run and the frame -/

end Cert.Proof.K0

end
-- ==== Proof.K1Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## @main up to the region -/

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s and whose body leaves the block in place. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s and whose body leaves the block in place. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s and whose body leaves the block in place. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s and whose body leaves the block in place. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s and whose body leaves the block in place. -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's branch conditions -/

/-- The condition of the body's `scf.if` 0, from the grid coordinates (the skeleton's scalar
    chain substituted). -/
abbrev cond0_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg1.N, cond0_0 (grid1.coords t) ↔ t.val % 32 = 0 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [cond0_0, e0, e1]
    word_cmp
   : ∀ t : Fin grid1.N, cond0_0 (grid1.coords t) ↔ t.val % 32 = 0)

/-- The condition of the body's `scf.if` 1, from the grid coordinates (the skeleton's scalar
    chain substituted). -/
abbrev cond0_1 (i : grid1.Coords) : Prop := k1_cond2 i = 1#1
/-- It holds at the last point only — by arithmetic of the point. -/
theorem hcond0_1 : ∀ t : Fin cfg1.N, cond0_1 (grid1.coords t) ↔ t.val % 32 = 31 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [cond0_1, k1_cond2, e0, e1]
    word_cmp
   : ∀ t : Fin grid1.N, cond0_1 (grid1.coords t) ↔ t.val % 32 = 31)

/-! ## Where the windows are idle (the printed configuration's table `Cfg.idle`) -/

/-- Window 0 is never idle (an input). -/
theorem liveAt0_0 : ∀ t : Fin cfg1.N, cfg1.idle 0 (grid1.coords t) = false := fun _ => rfl
/-- Window 1 is never idle (an input). -/
theorem liveAt0_1 : ∀ t : Fin cfg1.N, cfg1.idle 1 (grid1.coords t) = false := fun _ => rfl
/-- Window 2 is never idle (an input). -/
theorem liveAt0_2 : ∀ t : Fin cfg1.N, cfg1.idle 2 (grid1.coords t) = false := fun _ => rfl
/-- Window 3 is never idle (an input). -/
theorem liveAt0_3 : ∀ t : Fin cfg1.N, cfg1.idle 3 (grid1.coords t) = false := fun _ => rfl
/-- Window 4 is never idle (an input). -/
theorem liveAt0_4 : ∀ t : Fin cfg1.N, cfg1.idle 4 (grid1.coords t) = false := fun _ => rfl
/-- Window 5 is never idle (an output stored at every point, under no condition). -/
theorem liveAt0_5 : ∀ t : Fin cfg1.N, cfg1.idle 5 (grid1.coords t) = false := fun _ => rfl
/-- Window 6 is never idle (an output stored at every point, under no condition). -/
theorem liveAt0_6 : ∀ t : Fin cfg1.N, cfg1.idle 6 (grid1.coords t) = false := fun _ => rfl
/-- At the points of case A the printed configuration calls output 7 idle. -/
theorem idleAt0_7_A : ∀ t : Fin cfg1.N, cond0_0 (grid1.coords t) → ¬cond0_1 (grid1.coords t) → cfg1.idle 7 (grid1.coords t) = true := by decide +kernel
/-- At the points of case A the pipeline does not write output 7's block back. -/
theorem noFlush0_7_A : ∀ t : Fin cfg1.N, cond0_0 (grid1.coords t) → ¬cond0_1 (grid1.coords t) → (cfg1.win 7).flush t = false := by decide +kernel
/-- At the points of case B the printed configuration calls output 7 idle. -/
theorem idleAt0_7_B : ∀ t : Fin cfg1.N, ¬cond0_0 (grid1.coords t) → ¬cond0_1 (grid1.coords t) → cfg1.idle 7 (grid1.coords t) = true := by decide +kernel
/-- At the points of case B the pipeline does not write output 7's block back. -/
theorem noFlush0_7_B : ∀ t : Fin cfg1.N, ¬cond0_0 (grid1.coords t) → ¬cond0_1 (grid1.coords t) → (cfg1.win 7).flush t = false := by decide +kernel
/-- At the points of case C the printed configuration calls output 7 live. -/
theorem liveAt0_7_C : ∀ t : Fin cfg1.N, ¬cond0_0 (grid1.coords t) → cond0_1 (grid1.coords t) → cfg1.idle 7 (grid1.coords t) = false := by decide +kernel

/-! ## The kernel body on any staging memrefs: a subtype the run finds -/

/-- One staging buffer of output window 5, through which its contents are stated. -/
abbrev VO0_5 : View sig .tc .vmem S1x128x256 .f32 := (Memref.whole cc1_stg5_0 : Memref sig .tc .vmem S1x128x256 .f32).view
/-- One staging buffer of output window 6, through which its contents are stated. -/
abbrev VO0_6 : View sig .tc .vmem S1x128x256 .f32 := (Memref.whole cc1_stg6_0 : Memref sig .tc .vmem S1x128x256 .f32).view
/-- One staging buffer of output window 7, through which its contents are stated. -/
abbrev VO0_7 : View sig .tc .vmem S8x256 .f32 := (Memref.whole cc1_stg7_0 : Memref sig .tc .vmem S8x256 .f32).view
/-- Each window's current staging memref at point `t`, spelled as the pipeline passes it, and its wholeness. -/
abbrev ms0_0 (t : Fin cfg1.N) : Memref sig .tc .vmem S1x32x128x256 .bf16 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S8x256 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S256x256 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S1x256 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1x256 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S1x128x256 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S1x128x256 .f32 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S8x256 .f32 := win1_7.stage (cfg1.slots t 7)
abbrev hs0_7 (t : Fin cfg1.N) : (ms0_7 t).IsWhole := hstage1_7 ((cfg1.slots t 7).cast nbuf1_7)
/-- The scratch operands. -/
abbrev scM0_0 : Memref sig .tc .vmem S8x256 .f32 := Memref.whole cc1_scratch0
/-- The scratch `arg10` the kernel carries between points, as a view. -/
abbrev VS0_0 : View sig .tc .vmem S8x256 .f32 := scM0_0.view

/-- What rides along the region: the scoped buffers the call does not touch and the generator register. -/
def Er (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The region's invariant with the call's scratch as memrefs owned at some contents. -/
theorem PhiA0_eq (c : Dev nD) :
    (Pipeline.ΦA spec1 c : sProp 𝕄)
      = iprop(iprop((∃ d, owns (c : Thread nD τ) scM0_0 fullShare d)) ∗ Er c) := by
  have h : (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)) ∗ Pipeline.scopedRestBut (Ix := Unit) (Name := ℕ) (U := UR sig nD τ) (Lvl := ℕ) (Val := Elt F) spec1 c [cc1_scratch0]) :=
    Pipeline.scopedRest_split_of_list spec1 c [cc1_scratch0] (by decide) (by decide)
  unfold Pipeline.ΦA Er
  rw [h]; refine (equiv_iff.mp ⟨BI.sep_assoc, BI.sep_assoc'⟩).trans ?_
  simp only [scM0_0, owns_whole]
  rfl

end Cert.Proof.K1

end
-- ==== Proof.K1RunA.lean ====
module

public import proofs.«01_k».proof.Proof.K1Runs

@[expose] public section

set_option maxRecDepth 16384

noncomputable section

namespace Cert.Proof.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces. -/
noncomputable def kernelRun0_A (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : cond0_0 i) (hc1 : ¬cond0_1 i)
    (x0 : Vec F S1x32x128x256 .bf16) (x1 : Vec F S8x256 .f32) (x2 : Vec F S256x256 .f32) (x3 : Vec F S1x256 .f32) (x4 : Vec F S1x256 .f32) :
    Σ' (L5 : List (View.Piece (Elt F) S1x128x256 .f32)), Σ' (L6 : List (View.Piece (Elt F) S1x128x256 .f32)), Σ' (L7 : List (View.Piece (Elt F) S8x256 .f32)), { LS0 : List (View.Piece (Elt F) S8x256 .f32) //
      ∀ (xi7 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc1__layer2_kernel_eq_skeleton]; unfold cc1__layer2_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.Proof.K1

end
-- ==== Proof.K1RunB.lean ====
module

public import proofs.«01_k».proof.Proof.K1RunA

@[expose] public section

set_option maxRecDepth 16384

noncomputable section

namespace Cert.Proof.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces. -/
noncomputable def kernelRun0_B (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : ¬cond0_1 i)
    (x0 : Vec F S1x32x128x256 .bf16) (x1 : Vec F S8x256 .f32) (x2 : Vec F S256x256 .f32) (x3 : Vec F S1x256 .f32) (x4 : Vec F S1x256 .f32) (xs0 : Vec F S8x256 .f32) :
    Σ' (L5 : List (View.Piece (Elt F) S1x128x256 .f32)), Σ' (L6 : List (View.Piece (Elt F) S1x128x256 .f32)), Σ' (L7 : List (View.Piece (Elt F) S8x256 .f32)), { LS0 : List (View.Piece (Elt F) S8x256 .f32) //
      ∀ (xi7 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (arg10.view.loc (c : Thread nD τ) ↦[arg10.view.set]{fullShare} arg10.view.writes (Elt F) (harg10.unread xs0) LS0)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc1__layer2_kernel_eq_skeleton]; unfold cc1__layer2_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexact HS0

end Cert.Proof.K1

end
-- ==== Proof.K1RunC.lean ====
module

public import proofs.«01_k».proof.Proof.K1RunB

@[expose] public section

set_option maxRecDepth 16384

noncomputable section

namespace Cert.Proof.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces. -/
noncomputable def kernelRun0_C (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : cond0_1 i)
    (x0 : Vec F S1x32x128x256 .bf16) (x1 : Vec F S8x256 .f32) (x2 : Vec F S256x256 .f32) (x3 : Vec F S1x256 .f32) (x4 : Vec F S1x256 .f32) (xs0 : Vec F S8x256 .f32) :
    Σ' (L5 : List (View.Piece (Elt F) S1x128x256 .f32)), Σ' (L6 : List (View.Piece (Elt F) S1x128x256 .f32)), Σ' (L7 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__layer2_kernel_eq_skeleton]; unfold cc1__layer2_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexact HS0

end Cert.Proof.K1

end
-- ==== Proof.K1Frame.lean ====
module

public import proofs.«01_k».proof.Proof.K1RunC
public import Idealize.ShloMosaic.Lib.Claim

@[expose] public section

set_option maxRecDepth 16384

noncomputable section

namespace Cert.Proof.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 5 tile its block. -/
theorem cover0_A_5 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : cond0_0 i) (hc1 : ¬cond0_1 i)
    (x0 : Vec F S1x32x128x256 .bf16) (x1 : Vec F S8x256 .f32) (x2 : Vec F S256x256 .f32) (x3 : Vec F S1x256 .f32) (x4 : Vec F S1x256 .f32) (y : S1x128x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S1x128x256.size (by sl_kernel_rfl) y

/-- What case A leaves in output 5's staging buffer. -/
def out0_A_5 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : cond0_0 i) (hc1 : ¬cond0_1 i)
    (x0 : Vec F S1x32x128x256 .bf16) (x1 : Vec F S8x256 .f32) (x2 : Vec F S256x256 .f32) (x3 : Vec F S1x256 .f32) (x4 : Vec F S1x256 .f32) : Vec F S1x128x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- Case A's pieces for output 6 tile its block. -/
theorem cover0_A_6 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : cond0_0 i) (hc1 : ¬cond0_1 i)
    (x0 : Vec F S1x32x128x256 .bf16) (x1 : Vec F S8x256 .f32) (x2 : Vec F S256x256 .f32) (x3 : Vec F S1x256 .f32) (x4 : Vec F S1x256 .f32) (y : S1x128x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S1x128x256.size (by sl_kernel_rfl) y

/-- What case A leaves in output 6's staging buffer. -/
def out0_A_6 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : cond0_0 i) (hc1 : ¬cond0_1 i)
    (x0 : Vec F S1x32x128x256 .bf16) (x1 : Vec F S8x256 .f32) (x2 : Vec F S256x256 .f32) (x3 : Vec F S1x256 .f32) (x4 : Vec F S1x256 .f32) : Vec F S1x128x256 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)

/-- Case A stores nothing into output 7 (the window is idle at its points and not written back there). -/
def out0_A_7 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : cond0_0 i) (hc1 : ¬cond0_1 i)
    (x0 : Vec F S1x32x128x256 .bf16) (x1 : Vec F S8x256 .f32) (x2 : Vec F S256x256 .f32) (x3 : Vec F S1x256 .f32) (x4 : Vec F S1x256 .f32) : Vec F S8x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4).2.2.1)

/-- Case A's pieces for scratch `arg10`, which the kernel carries between points, cover it. -/
theorem scover0_A_0 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : cond0_0 i) (hc1 : ¬cond0_1 i)
    (x0 : Vec F S1x32x128x256 .bf16) (x1 : Vec F S8x256 .f32) (x2 : Vec F S256x256 .f32) (x3 : Vec F S1x256 .f32) (x4 : Vec F S1x256 .f32) (y : S8x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_wholeMem (kernelRun0_A c i arg2 harg2 arg3 harg3 arg4 harg4 arg5 harg5 arg6 harg6 arg7 harg7 arg8 harg8 arg9 harg9 arg10 harg10 hc0 hc1 x0 x1 x2 x3 x4).2.2.2.1 (by sl_whole_mem) y

/-- What case A leaves in scratch `arg10`. -/
def sout0_A_0 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : cond0_0 i) (hc1 : ¬cond0_1 i)
    (x0 : Vec F S1x32x128x256 .bf16) (x1 : Vec F S8x256 .f32) (x2 : Vec F S256x256 .f32) (x3 : Vec F S1x256 .f32) (x4 : Vec F S1x256 .f32) : Vec F S8x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.2.2.1)

/-- Case B's pieces for output 5 tile its block. -/
theorem cover0_B_5 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : ¬cond0_1 i)
    (x0 : Vec F S1x32x128x256 .bf16) (x1 : Vec F S8x256 .f32) (x2 : Vec F S256x256 .f32) (x3 : Vec F S1x256 .f32) (x4 : Vec F S1x256 .f32) (xs0 : Vec F S8x256 .f32) (y : S1x128x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).1 S1x128x256.size (by sl_kernel_rfl) y

/-- What case B leaves in output 5's staging buffer. -/
def out0_B_5 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : ¬cond0_1 i)
    (x0 : Vec F S1x32x128x256 .bf16) (x1 : Vec F S8x256 .f32) (x2 : Vec F S256x256 .f32) (x3 : Vec F S1x256 .f32) (x4 : Vec F S1x256 .f32) (xs0 : Vec F S8x256 .f32) : Vec F S1x128x256 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0).1)

/-- Case B's pieces for output 6 tile its block. -/
theorem cover0_B_6 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : ¬cond0_1 i)
    (x0 : Vec F S1x32x128x256 .bf16) (x1 : Vec F S8x256 .f32) (x2 : Vec F S256x256 .f32) (x3 : Vec F S1x256 .f32) (x4 : Vec F S1x256 .f32) (xs0 : Vec F S8x256 .f32) (y : S1x128x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).2.1 S1x128x256.size (by sl_kernel_rfl) y

/-- What case B leaves in output 6's staging buffer. -/
def out0_B_6 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : ¬cond0_1 i)
    (x0 : Vec F S1x32x128x256 .bf16) (x1 : Vec F S8x256 .f32) (x2 : Vec F S256x256 .f32) (x3 : Vec F S1x256 .f32) (x4 : Vec F S1x256 .f32) (xs0 : Vec F S8x256 .f32) : Vec F S1x128x256 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs0).2.1)

/-- Case B stores nothing into output 7 (the window is idle at its points and not written back there). -/
def out0_B_7 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : ¬cond0_1 i)
    (x0 : Vec F S1x32x128x256 .bf16) (x1 : Vec F S8x256 .f32) (x2 : Vec F S256x256 .f32) (x3 : Vec F S1x256 .f32) (x4 : Vec F S1x256 .f32) (xs0 : Vec F S8x256 .f32) : Vec F S8x256 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 xs0).2.2.1)

/-- What case B leaves in scratch `arg10`. -/
def sout0_B_0 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : ¬cond0_1 i)
    (x0 : Vec F S1x32x128x256 .bf16) (x1 : Vec F S8x256 .f32) (x2 : Vec F S256x256 .f32) (x3 : Vec F S1x256 .f32) (x4 : Vec F S1x256 .f32) (xs0 : Vec F S8x256 .f32) : Vec F S8x256 .f32 :=
  arg10.view.read (Elt F) (arg10.view.writes (Elt F) (harg10.unread xs0) (kernelRun0_B c i arg2 harg2 arg3 harg3 arg4 harg4 arg5 harg5 arg6 harg6 arg7 harg7 arg8 harg8 arg9 harg9 arg10 harg10 hc0 hc1 x0 x1 x2 x3 x4 xs0).2.2.2.1)

/-- Case C's pieces for output 5 tile its block. -/
theorem cover0_C_5 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : cond0_1 i)
    (x0 : Vec F S1x32x128x256 .bf16) (x1 : Vec F S8x256 .f32) (x2 : Vec F S256x256 .f32) (x3 : Vec F S1x256 .f32) (x4 : Vec F S1x256 .f32) (xs0 : Vec F S8x256 .f32) (y : S1x128x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0).1 S1x128x256.size (by sl_kernel_rfl) y

/-- What case C leaves in output 5's staging buffer. -/
def out0_C_5 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : cond0_1 i)
    (x0 : Vec F S1x32x128x256 .bf16) (x1 : Vec F S8x256 .f32) (x2 : Vec F S256x256 .f32) (x3 : Vec F S1x256 .f32) (x4 : Vec F S1x256 .f32) (xs0 : Vec F S8x256 .f32) : Vec F S1x128x256 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0).1)

/-- Case C's pieces for output 6 tile its block. -/
theorem cover0_C_6 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : cond0_1 i)
    (x0 : Vec F S1x32x128x256 .bf16) (x1 : Vec F S8x256 .f32) (x2 : Vec F S256x256 .f32) (x3 : Vec F S1x256 .f32) (x4 : Vec F S1x256 .f32) (xs0 : Vec F S8x256 .f32) (y : S1x128x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0).2.1 S1x128x256.size (by sl_kernel_rfl) y

/-- What case C leaves in output 6's staging buffer. -/
def out0_C_6 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : cond0_1 i)
    (x0 : Vec F S1x32x128x256 .bf16) (x1 : Vec F S8x256 .f32) (x2 : Vec F S256x256 .f32) (x3 : Vec F S1x256 .f32) (x4 : Vec F S1x256 .f32) (xs0 : Vec F S8x256 .f32) : Vec F S1x128x256 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xs0).2.1)

/-- Case C's pieces for output 7 tile its block. -/
theorem cover0_C_7 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : cond0_1 i)
    (x0 : Vec F S1x32x128x256 .bf16) (x1 : Vec F S8x256 .f32) (x2 : Vec F S256x256 .f32) (x3 : Vec F S1x256 .f32) (x4 : Vec F S1x256 .f32) (xs0 : Vec F S8x256 .f32) (y : S8x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0).2.2.1 S8x256.size (by sl_kernel_rfl) y

/-- What case C leaves in output 7's staging buffer. -/
def out0_C_7 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : cond0_1 i)
    (x0 : Vec F S1x32x128x256 .bf16) (x1 : Vec F S8x256 .f32) (x2 : Vec F S256x256 .f32) (x3 : Vec F S1x256 .f32) (x4 : Vec F S1x256 .f32) (xs0 : Vec F S8x256 .f32) : Vec F S8x256 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 xs0).2.2.1)

/-- What case C leaves in scratch `arg10`. -/
def sout0_C_0 (c : Dev nD) (i : grid1.Coords) (arg2 : Memref sig .tc .vmem S1x32x128x256 .bf16) (harg2 : arg2.IsWhole) (arg3 : Memref sig .tc .vmem S8x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S8x256 .f32) (harg9 : arg9.IsWhole) (arg10 : Memref sig .tc .vmem S8x256 .f32) (harg10 : arg10.IsWhole) (hc0 : ¬cond0_0 i) (hc1 : cond0_1 i)
    (x0 : Vec F S1x32x128x256 .bf16) (x1 : Vec F S8x256 .f32) (x2 : Vec F S256x256 .f32) (x3 : Vec F S1x256 .f32) (x4 : Vec F S1x256 .f32) (xs0 : Vec F S8x256 .f32) : Vec F S8x256 .f32 :=
  arg10.view.read (Elt F) (arg10.view.writes (Elt F) (harg10.unread xs0) (kernelRun0_C c i arg2 harg2 arg3 harg3 arg4 harg4 arg5 harg5 arg6 harg6 arg7 harg7 arg8 harg8 arg9 harg9 arg10 harg10 hc0 hc1 x0 x1 x2 x3 x4 xs0).2.2.2.1)

/-! ## What the outputs hold after each point -/

/-- THE ACCUMULATION. -/
def outsAt0 (c : Dev nD) : (n : ℕ) → n < cfg1.N → Vec F S1x128x256 .f32 × Vec F S1x128x256 .f32 × Vec F S8x256 .f32 × Vec F S8x256 .f32
  | 0, hn => (out0_A_5 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), out0_A_6 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), out0_A_7 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 32 = 0 then
      if h1 : (n + 1) % 32 = 31 then
        False.elim (by have hN : n + 1 < 32 := lt_of_lt_of_eq hn (show cfg1.N = 32 from N_1); omega)
      else
        (out0_A_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), out0_A_6 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), out0_A_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 32 = 31 then
        (out0_C_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2.2, out0_C_6 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2.2, out0_C_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2.2, sout0_C_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2.2)
      else
        (out0_B_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2.2, out0_B_6 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2.2, out0_B_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2.2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2.2)

/-- `outsAt0` at a point of case A. -/
theorem outsAt0_A (c : Dev nD) (t : Fin cfg1.N) (h0 : t.val % 32 = 0) (h1 : ¬t.val % 32 = 31) :
    outsAt0 V c t.val t.isLt = (out0_A_5 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk V c 0 t) (iblk V c 1 t) (iblk V c 2 t) (iblk V c 3 t) (iblk V c 4 t), out0_A_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk V c 0 t) (iblk V c 1 t) (iblk V c 2 t) (iblk V c 3 t) (iblk V c 4 t), out0_A_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk V c 0 t) (iblk V c 1 t) (iblk V c 2 t) (iblk V c 3 t) (iblk V c 4 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- `outsAt0` at a point of case B. -/
theorem outsAt0_B (c : Dev nD) (t : Fin cfg1.N) (h0 : ¬t.val % 32 = 0) (h1 : ¬t.val % 32 = 31) :
    outsAt0 V c t.val t.isLt = (out0_B_5 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.2.2, out0_B_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.2.2, out0_B_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.2.2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C. -/
theorem outsAt0_C (c : Dev nD) (t : Fin cfg1.N) (h0 : ¬t.val % 32 = 0) (h1 : t.val % 32 = 31) :
    outsAt0 V c t.val t.isLt = (out0_C_5 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.2.2, out0_C_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.2.2, out0_C_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.2.2, sout0_C_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2.2.2)) ∗ Er c)

theorem PhiS_zero (c : Dev nD) (n : ℕ) (h : n ≤ cfg1.N) (hz : n = 0) : PhiS V c n h = Pipeline.ΦA spec1 c := by
  subst hz; rfl

/-- After point `n` (before point `n + 1`). -/
theorem PhiS_succ (c : Dev nD) (n : ℕ) (hn : n < cfg1.N) :
    PhiS V c (n + 1) hn = iprop(iprop(owns (c : Thread nD τ) scM0_0 fullShare ((outsAt0 V c n hn).2.2.2)) ∗ Er c) := rfl

/-- Before a point that is not the first. -/
theorem PhiS_pos (c : Dev nD) (n : ℕ) (h : n ≤ cfg1.N) (hz : n ≠ 0) :
    PhiS V c n h = iprop(iprop(owns (c : Thread nD τ) scM0_0 fullShare ((outsAt0 V c (n - 1) (by omega)).2.2.2)) ∗ Er c) := by
  cases n with
  | zero => exact absurd rfl hz
  | succ n => rfl

/-! ## The pipeline's proof data -/

/-- The proof data of the one pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = (outsAt0 V c t.val t.isLt).1 := by dsimp only [dat]
theorem after0_6 (c : Dev nD) (t : Fin cfg1.N) : (dat V c).after 6 t = (outsAt0 V c t.val t.isLt).2.1 := by dsimp only [dat]
theorem after0_7 (c : Dev nD) (t : Fin cfg1.N) : (dat V c).after 7 t = (outsAt0 V c t.val t.isLt).2.2.1 := by dsimp only [dat]

/-- Each input's current staging buffer holds its block at every point, fetched there or not. -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d

/-! ## The body obligation, at a generic point -/

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 9600000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases h0 : t.val % 32 = 0
  · by_cases h1 : t.val % 32 = 31
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [Dat.leavesExact_idle (dat V c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold out0_A_5 out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid1.coords t) _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t)).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [HS0]; · iexact HS0
        iintro ⟨H0, H1, H2, H3, H4, ⟨%e5, H5⟩, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _)
        iexists _; iexact H7
      · exfalso; have hN : t.val < 32 := lt_of_lt_of_eq t.isLt (show cfg1.N = 32 from N_1); omega
  · by_cases h1 : t.val % 32 = 31
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7_C t (fun h => h0 ((hcond0_0 t).mp h)) ((hcond0_1 t).mpr h1)], after0_7]
      by_cases hz : t.val = 0
      · exfalso; have hN : t.val < 32 := lt_of_lt_of_eq t.isLt (show cfg1.N = 32 from N_1); omega
      · rw [PhiS_castSucc V c t, PhiS_pos V c _ _ hz]
        rw [outsAt0_C V c t h0 h1]
        unfold out0_C_5 out0_C_6 out0_C_7 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid1.coords t) _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, ⟨%e5, H5⟩, ⟨%e6, H6⟩, ⟨%e7, H7⟩, HS0⟩
        isplitl [HS0 Hg]
        · isplitl [HS0]
          · unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _)
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [Dat.leavesExact_idle (dat V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 32 := lt_of_lt_of_eq t.isLt (show cfg1.N = 32 from N_1); omega
      · rw [PhiS_castSucc V c t, PhiS_pos V c _ _ hz]
        rw [outsAt0_B V c t h0 h1]
        unfold out0_B_5 out0_B_6 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid1.coords t) _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) _).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [HS0]; · iexact HS0
        iintro ⟨H0, H1, H2, H3, H4, ⟨%e5, H5⟩, ⟨%e6, H6⟩, H7, HS0⟩
        isplitl [HS0 Hg]
        · isplitl [HS0]
          · unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _)
        iexists _; iexact H7

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 32 := N_1; omega)

/-! ## The run and the frame -/

end Cert.Proof.K1

end
-- ==== Proof.K2Frame.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.Proof.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 5, through which its contents are stated. -/
abbrev VO2_5 : View sig .tc .vmem S1x128x256 .f32 := (Memref.whole cc2_stg5_0 : Memref sig .tc .vmem S1x128x256 .f32).view
/-- Each window's current staging memref at point `t`, spelled as the pipeline passes it, and its wholeness. -/
abbrev ms2_0 (t : Fin cfg2.N) : Memref sig .tc .vmem S1x128x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128x256 .f32 := win2_5.stage (cfg2.slots t 5)
abbrev hs2_5 (t : Fin cfg2.N) : (ms2_5 t).IsWhole := hstage2_5 ((cfg2.slots t 5).cast nbuf2_5)

set_option maxHeartbeats 1000000 in
/-- What the body's stores leave in each output's staging memref, as pieces. -/
noncomputable def kernelRun2_A (c : Dev nD) (i : grid2.Coords) (arg2 : Memref sig .tc .vmem S1x128x256 .f32) (harg2 : arg2.IsWhole) (arg3 : Memref sig .tc .vmem S1x128x256 .f32) (harg3 : arg3.IsWhole) (arg4 : Memref sig .tc .vmem S8x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole)
    (x0 : Vec F S1x128x256 .f32) (x1 : Vec F S1x128x256 .f32) (x2 : Vec F S8x256 .f32) (x3 : Vec F S1x256 .f32) (x4 : Vec F S1x256 .f32) :
    { L5 : List (View.Piece (Elt F) S1x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc2__pool_kernel i arg2 harg2 arg3 harg3 arg4 harg4 arg5 harg5 arg6 harg6 arg7 harg7) K } := by
  refine ⟨?_, fun E K => ?run⟩
  case run =>
    simp only [cc2__pool_kernel_eq_skeleton]; unfold cc2__pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- The run's pieces for output 5 tile its block. -/
theorem cover2_A_5 (c : Dev nD) (i : grid2.Coords) (arg2 : Memref sig .tc .vmem S1x128x256 .f32) (harg2 : arg2.IsWhole) (arg3 : Memref sig .tc .vmem S1x128x256 .f32) (harg3 : arg3.IsWhole) (arg4 : Memref sig .tc .vmem S8x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole)
    (x0 : Vec F S1x128x256 .f32) (x1 : Vec F S1x128x256 .f32) (x2 : Vec F S8x256 .f32) (x3 : Vec F S1x256 .f32) (x4 : Vec F S1x256 .f32) (y : S1x128x256.Idx) :
    ∃ pc ∈ (kernelRun2_A c i arg2 harg2 arg3 harg3 arg4 harg4 arg5 harg5 arg6 harg6 arg7 harg7 x0 x1 x2 x3 x4).1, y ∈ pc.1.set :=
  View.cover_of_tiledL (kernelRun2_A c i arg2 harg2 arg3 harg3 arg4 harg4 arg5 harg5 arg6 harg6 arg7 harg7 x0 x1 x2 x3 x4).1 S1x128x256.size (by sl_kernel_rfl) y

/-- What the run leaves in output 5's staging buffer. -/
def out2_A_5 (c : Dev nD) (i : grid2.Coords) (arg2 : Memref sig .tc .vmem S1x128x256 .f32) (harg2 : arg2.IsWhole) (arg3 : Memref sig .tc .vmem S1x128x256 .f32) (harg3 : arg3.IsWhole) (arg4 : Memref sig .tc .vmem S8x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128x256 .f32) (harg7 : arg7.IsWhole)
    (x0 : Vec F S1x128x256 .f32) (x1 : Vec F S1x128x256 .f32) (x2 : Vec F S8x256 .f32) (x3 : Vec F S1x256 .f32) (x4 : Vec F S1x256 .f32) : Vec F S1x128x256 .f32 :=
  VO2_5.read (Elt F) (VO2_5.writes (Elt F) VO2_5.junk (kernelRun2_A c i arg2 harg2 arg3 harg3 arg4 harg4 arg5 harg5 arg6 harg6 arg7 harg7 x0 x1 x2 x3 x4).1)

/-! ## What the outputs hold after each point -/

/-- What the outputs' staging buffers hold after the body at point `t`. -/
def outsAt2 (c : Dev nD) (t : Fin cfg2.N) : Vec F S1x128x256 .f32 :=
  out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (iblk V c 0 t) (iblk V c 1 t) (iblk V c 2 t) (iblk V c 3 t) (iblk V c 4 t)

/-! ## The pipeline's proof data -/

/-- The proof data of pipeline 2 on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt2 V c t)
  Φ _ := Pipeline.ΦA spec2 c
  q _ := fullShare
  owed _ := 0

/-- The proof data's arrays are the region-entry contents `V`. -/
theorem A_eq (c : Dev nD) (w : Fin cfg2.W) : (dat V c).A w = V c (Pipeline.arrRef spec2 w) := by
  dsimp only [dat]

/-- What the body leaves, window by window (the proof data's `match` reduced by `dsimp`). -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = (outsAt2 V c t) := by dsimp only [dat]

/-- Each input's current staging buffer holds its block at every point, fetched there or not. -/
theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d
theorem before2_4 (c : Dev nD) (t : Fin cfg2.N) (d) : (dat V c).before 4 t d = iblk V c 4 t :=
  before2_4_of V (dat V c) (A_eq V c 4) (after2_4 V c) t d

/-! ## The body obligation, at a generic point -/

/-- What the body is called with at point `t`. -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (ms2_0 t) fullShare ((dat V c).after 0 t)
    ∗ owns (c : Thread nD τ) (ms2_1 t) fullShare ((dat V c).after 1 t)
    ∗ owns (c : Thread nD τ) (ms2_2 t) fullShare ((dat V c).after 2 t)
    ∗ owns (c : Thread nD τ) (ms2_3 t) fullShare ((dat V c).after 3 t)
    ∗ owns (c : Thread nD τ) (ms2_4 t) fullShare ((dat V c).after 4 t)
    ∗ owns (c : Thread nD τ) (ms2_5 t) fullShare ((dat V c).after 5 t))

/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4]
  rw [show (dat V c).Φ t.succ = (dat V c).Φ t.castSucc from rfl,
    show (dat V c).owesAt () t.succ = (dat V c).owesAt () t.castSucc from rfl,
    after2_0, after2_1, after2_2, after2_3, after2_4, after2_5]
  unfold outsAt2
  unfold out2_A_5
  iintro ⟨HΦ, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ (iblk V c 0 t) (iblk V c 1 t) (iblk V c 2 t) (iblk V c 3 t) (iblk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 c _ _ _ _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Cert.Proof.K2

end
-- ==== Proof.Whole.lean ====
module

public import proofs.«01_k».proof.Proof.Gen.KernelIdeal.Regions
public import proofs.«01_k».proof.Proof.K0Frame
public import proofs.«01_k».proof.Proof.K1Frame
public import proofs.«01_k».proof.Proof.K2Frame
public import Idealize.ShloMosaic.Lib.Pipeline.RegionArrays

@[expose] public section

set_option maxRecDepth 16384

noncomputable section

namespace Cert.Proof.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region finds and leaves -/

/-- The buffers as the first region finds them. -/
abbrev A3 (c : Dev nD) (b : Ref sig .tc) : Buf (Elt F) ((c : Thread nD τ).loc b) := V3 m c (Proc.devRef .tc b)

/-- The buffers after region 0. -/
def W4 (c : Dev nD) : Valuation τ sig (Elt F) := Function.update (Function.update (V3 m c) main_v19_0 ((K0.dat (A3 m) c).arrAt 8 cfg0.N)) main_v19_1 ((K0.dat (A3 m) c).arrAt 9 cfg0.N)
/-- The same, at the TensorCore's references. -/
abbrev A4 (c : Dev nD) (b : Ref sig .tc) : Buf (Elt F) ((c : Thread nD τ).loc b) := W4 m c (Proc.devRef .tc b)

theorem W4_main_v19_0 (c : Dev nD) : W4 m c main_v19_0 = (K0.dat (A3 m) c).arrAt 8 cfg0.N := by
  unfold W4
  rw [Function.update_of_ne (show (Proc.devRef .tc main_v19_0 : DevRef τ sig) ≠ Proc.devRef .tc main_v19_1 by decide)]
  rw [Function.update_self]

theorem W4_main_v19_1 (c : Dev nD) : W4 m c main_v19_1 = (K0.dat (A3 m) c).arrAt 9 cfg0.N := by
  unfold W4
  rw [Function.update_self]

/-- The buffers after region 1. -/
def W5 (c : Dev nD) : Valuation τ sig (Elt F) := Function.update (Function.update (Function.update (W4 m c) main_v20_0 ((K1.dat (A4 m) c).arrAt 5 cfg1.N)) main_v20_1 ((K1.dat (A4 m) c).arrAt 6 cfg1.N)) main_v20_2 ((K1.dat (A4 m) c).arrAt 7 cfg1.N)
/-- The same, at the TensorCore's references. -/
abbrev A5 (c : Dev nD) (b : Ref sig .tc) : Buf (Elt F) ((c : Thread nD τ).loc b) := W5 m c (Proc.devRef .tc b)

theorem W5_main_v20_0 (c : Dev nD) : W5 m c main_v20_0 = (K1.dat (A4 m) c).arrAt 5 cfg1.N := by
  unfold W5
  rw [Function.update_of_ne (show (Proc.devRef .tc main_v20_0 : DevRef τ sig) ≠ Proc.devRef .tc main_v20_2 by decide)]
  rw [Function.update_of_ne (show (Proc.devRef .tc main_v20_0 : DevRef τ sig) ≠ Proc.devRef .tc main_v20_1 by decide)]
  rw [Function.update_self]

theorem W5_main_v20_1 (c : Dev nD) : W5 m c main_v20_1 = (K1.dat (A4 m) c).arrAt 6 cfg1.N := by
  unfold W5
  rw [Function.update_of_ne (show (Proc.devRef .tc main_v20_1 : DevRef τ sig) ≠ Proc.devRef .tc main_v20_2 by decide)]
  rw [Function.update_self]

theorem W5_main_v20_2 (c : Dev nD) : W5 m c main_v20_2 = (K1.dat (A4 m) c).arrAt 7 cfg1.N := by
  unfold W5
  rw [Function.update_self]

/-- The buffers after region 2. -/
def W6 (c : Dev nD) : Valuation τ sig (Elt F) := Function.update (W5 m c) main_v21 ((K2.dat (A5 m) c).arrAt 5 cfg2.N)
/-- The same, at the TensorCore's references. -/
abbrev A6 (c : Dev nD) (b : Ref sig .tc) : Buf (Elt F) ((c : Thread nD τ).loc b) := W6 m c (Proc.devRef .tc b)

theorem W6_main_v21 (c : Dev nD) : W6 m c main_v21 = (K2.dat (A5 m) c).arrAt 5 cfg2.N := by
  unfold W6
  rw [Function.update_self]

/-- What each region leaves in its output arrays, in the form the run's chain asks for. -/
def outs : Outs (F := F) := fun n r c => if n = 4 then A4 m c r else if n = 5 then A5 m c r else A6 m c r

theorem V4_eq (c : Dev nD) : V4 m (outs m) c = W4 m c := by
  have h0 : outs m 4 main_v19_0 c = (K0.dat (A3 m) c).arrAt 8 cfg0.N := W4_main_v19_0 m c
  have h1 : outs m 4 main_v19_1 c = (K0.dat (A3 m) c).arrAt 9 cfg0.N := W4_main_v19_1 m c
  unfold V4
  rw [h0, h1]; rfl
theorem V5_eq (c : Dev nD) : V5 m (outs m) c = W5 m c := by
  have h0 : outs m 5 main_v20_0 c = (K1.dat (A4 m) c).arrAt 5 cfg1.N := W5_main_v20_0 m c
  have h1 : outs m 5 main_v20_1 c = (K1.dat (A4 m) c).arrAt 6 cfg1.N := W5_main_v20_1 m c
  have h2 : outs m 5 main_v20_2 c = (K1.dat (A4 m) c).arrAt 7 cfg1.N := W5_main_v20_2 m c
  unfold V5
  rw [h0, h1, h2, V4_eq]; rfl
theorem V6_eq (c : Dev nD) : V6 m (outs m) c = W6 m c := by
  have h0 : outs m 6 main_v21 c = (K2.dat (A5 m) c).arrAt 5 cfg2.N := W6_main_v21 m c
  unfold V6
  rw [h0, V5_eq]; rfl

/-- The proof data of the three pipelines. -/
def pdats : (p : Fin 3) → (c : Dev nD) → Dat τ (Elt F) Unit ℕ (UR sig nD τ) ℕ (cfgs p) c
  | ⟨0, _⟩ => K0.dat (A3 m)
  | ⟨1, _⟩ => K1.dat (A4 m)
  | ⟨2, _⟩ => K2.dat (A5 m)

/-- The levels: one tally per TensorCore semaphore, at the bottom. -/
def L (g : GSem nD τ sig) : Finset Unit := if g.1.2 = .tc then {()} else ∅
def lv (_ : GSem nD τ sig) (_ : Unit) : ℕ := 0

/-- What a core holds beside its buffers between the regions: the generator register, and nothing owed. -/
def E (c : Dev nD) : sProp 𝕄 := iprop((∃ r, prngReg c r) ∗ ∃ W, owes (c : Thread nD τ) (0 : CellTallies nD τ sig Unit) W)

theorem cut (p : Fin 3) : Pipeline.LevelCut (pcfgs (F := F)) adm () L lv p (fun _ => (0 : CellTallies nD τ sig Unit)) (fun _ => 0) where
  hι c w s := by simp [L]
  hιb c w s := le_refl _
  hD c g i h := absurd h (lt_irrefl _)

/-! ## Region 0 -/

theorem arrS0 : Pipeline.arrRefs (τ := τ) spec0 ⊆ Pipeline.ucRefs τ sig :=
  Pipeline.arrRefs_sub_ucRefs spec0 (by decide)

theorem rest0 (c : Dev nD) : ∀ b ∈ (Pipeline.ucRefs τ sig) \ Pipeline.arrRefs (τ := τ) spec0, V4 m (outs m) c b = V3 m c b := fun b hb => by
  have hn : b ∉ Pipeline.arrRefs (τ := τ) spec0 := (Finset.mem_sdiff.mp hb).2
  have hm (w : Fin cfg0.W) : (Proc.devRef .tc (Pipeline.arrRef spec0 w) : DevRef τ sig) ∈ Pipeline.arrRefs (τ := τ) spec0 :=
    Finset.mem_map_of_mem _ (Finset.mem_image_of_mem _ (Finset.mem_univ w))
  have h0 : b ≠ Proc.devRef .tc main_v19_0 := by rintro rfl; exact hn (hm 8)
  have h1 : b ≠ Proc.devRef .tc main_v19_1 := by rintro rfl; exact hn (hm 9)
  simp only [V4, Function.update_of_ne h0, Function.update_of_ne h1]

theorem exit0 (c : Dev nD) (w : Fin cfg0.W) : (K0.dat (A3 m) c).arrAt w cfg0.N = V4 m (outs m) c (Proc.devRef .tc (Pipeline.arrRef spec0 w)) := by
  rw [V4_eq]
  have hin (w : Fin cfg0.W) (h : (cfg0.win w).isOut = false) (hne : Pipeline.arrRef spec0 w ∉ ([main_v19_0, main_v19_1] : List (Ref sig .tc))) :
      (K0.dat (A3 m) c).arrAt w cfg0.N = W4 m c (Proc.devRef .tc (Pipeline.arrRef spec0 w)) := by
    refine ((K0.dat (A3 m) c).arrAt_in w h _).trans ((K0.A_eq (A3 m) c w).trans ?_)
    have e := V4_of m (outs m) c (Pipeline.arrRef spec0 w) hne
    rw [V4_eq] at e
    rw [e]

  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact (W4_main_v19_0 m c).symm
  | ⟨9, _⟩ => exact (W4_main_v19_1 m c).symm

/-- The first region's arrays, one of them behind two windows, are its buffers held. -/
theorem arrays0 (c : Dev nD) (G : (w : Fin cfg0.W) → Buf (Elt F) (((cfg0.win w).arr.view.loc (c.tc : Thread nD τ)))) (W : Valuation τ sig (Elt F))
    (hG : ∀ w, G w = W (Proc.devRef .tc (Pipeline.arrRef spec0 w))) :
    (StableHlo.held (c : Thread nD τ) (Pipeline.arrRefs (τ := τ) spec0) W : sProp 𝕄) = (K0.dat (A3 m) c).arrays G := by
  rw [← (K0.dat (A3 m) c).arrBufs_eq_arrays sharedIn0 arr_whole0 (fun _ _ => rfl) (fun b => W (Proc.devRef .tc b)) G hG]
  unfold StableHlo.held Pipeline.arrRefs Pipeline.arrBufs
  rw [bigSep_map]; rfl

set_option backward.isDefEq.respectTransparency.types false in
/-- Region 0 as a segment of @main. -/
def R0 : RegionSeg (pcfgs (F := F)) adm (pdats m) () defs₀ Variants.none L lv 0 :=
  Pipeline.RegionSeg.ofArrays (pcfgs (F := F)) adm (pdats m) () defs₀ Variants.none L lv 0 (fun _ => 0)
    (fun c => iprop(∃ r, prngReg c r)) (fun c => iprop(∃ r, prngReg c r))
    launch₀0.toP rfl
    (fun c => (K0.body_obligation (A3 m) c).loose) (fun _ _ => rfl) (fun _ => rfl)
    (fun c => K0.hin (A3 m) c) (fun c => K0.hout (A3 m) c) (fun _ => 0) (cut 0)
    (fun c => StableHlo.held (c : Thread nD τ) ((Pipeline.ucRefs τ sig) \ Pipeline.arrRefs (τ := τ) spec0) (V3 m c))

theorem pre0 (c : Dev nD) :
    iprop(StableHlo.held (c : Thread nD τ) (Pipeline.ucRefs τ sig) (V3 m c) ∗ E c) ⊢ (R0 m).pre c := by
  show _ ⊢ iprop((K0.dat (A3 m) c).arrays ((K0.dat (A3 m) c).arrAt · 0) ∗ (∃ r, prngReg c r)
    ∗ StableHlo.held (c : Thread nD τ) ((Pipeline.ucRefs τ sig) \ Pipeline.arrRefs (τ := τ) spec0) (V3 m c) ∗ ∃ W, owes (c : Thread nD τ) (0 : CellTallies nD τ sig Unit) W)
  rw [StableHlo.held_sub_split (c : Thread nD τ) arrS0 (V3 m c), arrays0 m c ((K0.dat (A3 m) c).arrAt · 0) (V3 m c) (fun w => K0.A_eq (A3 m) c w)]
  unfold E
  iintro ⟨⟨Ha, Hr⟩, Hp, HO⟩
  isplitl [Ha]; · iexact Ha
  isplitl [Hp]; · iexact Hp
  isplitl [Hr]; · iexact Hr
  iexact HO

theorem post0 (c : Dev nD) :
    (R0 m).post c ⊢ iprop(StableHlo.held (c : Thread nD τ) (Pipeline.ucRefs τ sig) (V4 m (outs m) c) ∗ E c) := by
  show iprop((K0.dat (A3 m) c).arrays ((K0.dat (A3 m) c).arrAt · cfg0.N) ∗ (∃ r, prngReg c r)
    ∗ StableHlo.held (c : Thread nD τ) ((Pipeline.ucRefs τ sig) \ Pipeline.arrRefs (τ := τ) spec0) (V3 m c) ∗ ∃ W, owes (c : Thread nD τ) (0 : CellTallies nD τ sig Unit) W) ⊢ _
  rw [StableHlo.held_sub_split (c : Thread nD τ) arrS0 (V4 m (outs m) c),
    StableHlo.held_congr (c : Thread nD τ) (S := (Pipeline.ucRefs τ sig) \ Pipeline.arrRefs (τ := τ) spec0) (rest0 m c),
    arrays0 m c ((K0.dat (A3 m) c).arrAt · cfg0.N) (V4 m (outs m) c) (exit0 m c)]
  unfold E
  iintro ⟨Ha, Hp, Hr, HO⟩
  isplitl [Ha Hr]; · isplitl [Ha] <;> iassumption
  isplitl [Hp]; · iexact Hp
  iexact HO

/-! ## Region 1 -/

theorem arrS1 : Pipeline.arrRefs (τ := τ) spec1 ⊆ Pipeline.ucRefs τ sig :=
  Pipeline.arrRefs_sub_ucRefs spec1 (by decide)

theorem rest1 (c : Dev nD) : ∀ b ∈ (Pipeline.ucRefs τ sig) \ Pipeline.arrRefs (τ := τ) spec1, V5 m (outs m) c b = V4 m (outs m) c b := fun b hb => by
  have hn : b ∉ Pipeline.arrRefs (τ := τ) spec1 := (Finset.mem_sdiff.mp hb).2
  have hm (w : Fin cfg1.W) : (Proc.devRef .tc (Pipeline.arrRef spec1 w) : DevRef τ sig) ∈ Pipeline.arrRefs (τ := τ) spec1 :=
    Finset.mem_map_of_mem _ (Finset.mem_image_of_mem _ (Finset.mem_univ w))
  have h0 : b ≠ Proc.devRef .tc main_v20_0 := by rintro rfl; exact hn (hm 5)
  have h1 : b ≠ Proc.devRef .tc main_v20_1 := by rintro rfl; exact hn (hm 6)
  have h2 : b ≠ Proc.devRef .tc main_v20_2 := by rintro rfl; exact hn (hm 7)
  simp only [V5, Function.update_of_ne h0, Function.update_of_ne h1, Function.update_of_ne h2]

theorem exit1 (c : Dev nD) (w : Fin cfg1.W) : (K1.dat (A4 m) c).arrAt w cfg1.N = V5 m (outs m) c (Proc.devRef .tc (Pipeline.arrRef spec1 w)) := by
  rw [V5_eq]
  have hin (w : Fin cfg1.W) (h : (cfg1.win w).isOut = false) (hne : Pipeline.arrRef spec1 w ∉ ([main_v20_0, main_v20_1, main_v20_2] : List (Ref sig .tc))) :
      (K1.dat (A4 m) c).arrAt w cfg1.N = W5 m c (Proc.devRef .tc (Pipeline.arrRef spec1 w)) := by
    refine ((K1.dat (A4 m) c).arrAt_in w h _).trans ((K1.A_eq (A4 m) c w).trans ?_)
    have e := V5_of m (outs m) c (Pipeline.arrRef spec1 w) hne
    rw [V5_eq] at e
    rw [e]
    rw [V4_eq]
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact (W5_main_v20_0 m c).symm
  | ⟨6, _⟩ => exact (W5_main_v20_1 m c).symm
  | ⟨7, _⟩ => exact (W5_main_v20_2 m c).symm

set_option backward.isDefEq.respectTransparency.types false in
/-- Region 1 as a segment of @main. -/
def R1 : RegionSeg (pcfgs (F := F)) adm (pdats m) () defs₀ Variants.none L lv 1 :=
  Pipeline.RegionSeg.ofHeld (pcfgs (F := F)) adm (pdats m) () defs₀ Variants.none L lv 1 (fun _ => 0)
    (fun c => iprop(∃ r, prngReg c r)) (fun c => iprop(∃ r, prngReg c r))
    launch1.toP rfl
    (fun c => (K1.body_obligation (A4 m) c).loose) (fun _ _ => rfl) (fun _ => rfl)
    (fun c => (pdats m 1 c).share_full fun _ => rfl) (fun c => K1.hin (A4 m) c) (fun c => K1.hout (A4 m) c) (fun _ => 0) (cut 1)
    (fun c => StableHlo.held (c : Thread nD τ) ((Pipeline.ucRefs τ sig) \ Pipeline.arrRefs (τ := τ) spec1) (V4 m (outs m) c))
    (V4 m (outs m)) (V5 m (outs m)) (fun c w => (K1.A_eq (A4 m) c w).trans (by rw [V4_eq]; rfl)) (fun c w => exit1 m c w)

theorem pre1 (c : Dev nD) :
    iprop(StableHlo.held (c : Thread nD τ) (Pipeline.ucRefs τ sig) (V4 m (outs m) c) ∗ E c) ⊢ (R1 m).pre c := by
  show _ ⊢ iprop(StableHlo.held (c : Thread nD τ) (Pipeline.arrRefs (τ := τ) spec1) (V4 m (outs m) c) ∗ (∃ r, prngReg c r)
    ∗ StableHlo.held (c : Thread nD τ) ((Pipeline.ucRefs τ sig) \ Pipeline.arrRefs (τ := τ) spec1) (V4 m (outs m) c) ∗ ∃ W, owes (c : Thread nD τ) (0 : CellTallies nD τ sig Unit) W)
  rw [StableHlo.held_sub_split (c : Thread nD τ) arrS1 (V4 m (outs m) c)]
  unfold E
  iintro ⟨⟨Ha, Hr⟩, Hp, HO⟩
  isplitl [Ha]; · iexact Ha
  isplitl [Hp]; · iexact Hp
  isplitl [Hr]; · iexact Hr
  iexact HO

theorem post1 (c : Dev nD) :
    (R1 m).post c ⊢ iprop(StableHlo.held (c : Thread nD τ) (Pipeline.ucRefs τ sig) (V5 m (outs m) c) ∗ E c) := by
  show iprop(StableHlo.held (c : Thread nD τ) (Pipeline.arrRefs (τ := τ) spec1) (V5 m (outs m) c) ∗ (∃ r, prngReg c r)
    ∗ StableHlo.held (c : Thread nD τ) ((Pipeline.ucRefs τ sig) \ Pipeline.arrRefs (τ := τ) spec1) (V4 m (outs m) c) ∗ ∃ W, owes (c : Thread nD τ) (0 : CellTallies nD τ sig Unit) W) ⊢ _
  rw [StableHlo.held_sub_split (c : Thread nD τ) arrS1 (V5 m (outs m) c),
    StableHlo.held_congr (c : Thread nD τ) (S := (Pipeline.ucRefs τ sig) \ Pipeline.arrRefs (τ := τ) spec1) (rest1 m c)]
  unfold E
  iintro ⟨Ha, Hp, Hr, HO⟩
  isplitl [Ha Hr]; · isplitl [Ha] <;> iassumption
  isplitl [Hp]; · iexact Hp
  iexact HO

/-! ## Region 2 -/

theorem arrS2 : Pipeline.arrRefs (τ := τ) spec2 ⊆ Pipeline.ucRefs τ sig :=
  Pipeline.arrRefs_sub_ucRefs spec2 (by decide)

theorem rest2 (c : Dev nD) : ∀ b ∈ (Pipeline.ucRefs τ sig) \ Pipeline.arrRefs (τ := τ) spec2, V6 m (outs m) c b = V5 m (outs m) c b := fun b hb => by
  have hn : b ∉ Pipeline.arrRefs (τ := τ) spec2 := (Finset.mem_sdiff.mp hb).2
  have hm (w : Fin cfg2.W) : (Proc.devRef .tc (Pipeline.arrRef spec2 w) : DevRef τ sig) ∈ Pipeline.arrRefs (τ := τ) spec2 :=
    Finset.mem_map_of_mem _ (Finset.mem_image_of_mem _ (Finset.mem_univ w))
  have h0 : b ≠ Proc.devRef .tc main_v21 := by rintro rfl; exact hn (hm 5)
  simp only [V6, Function.update_of_ne h0]

theorem exit2 (c : Dev nD) (w : Fin cfg2.W) : (K2.dat (A5 m) c).arrAt w cfg2.N = V6 m (outs m) c (Proc.devRef .tc (Pipeline.arrRef spec2 w)) := by
  rw [V6_eq]
  have hin (w : Fin cfg2.W) (h : (cfg2.win w).isOut = false) (hne : Pipeline.arrRef spec2 w ∉ ([main_v21] : List (Ref sig .tc))) :
      (K2.dat (A5 m) c).arrAt w cfg2.N = W6 m c (Proc.devRef .tc (Pipeline.arrRef spec2 w)) := by
    refine ((K2.dat (A5 m) c).arrAt_in w h _).trans ((K2.A_eq (A5 m) c w).trans ?_)
    have e := V6_of m (outs m) c (Pipeline.arrRef spec2 w) hne
    rw [V6_eq] at e
    rw [e]
    rw [V5_eq]
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact (W6_main_v21 m c).symm

set_option backward.isDefEq.respectTransparency.types false in
/-- Region 2 as a segment of @main. -/
def R2 : RegionSeg (pcfgs (F := F)) adm (pdats m) () defs₀ Variants.none L lv 2 :=
  Pipeline.RegionSeg.ofHeld (pcfgs (F := F)) adm (pdats m) () defs₀ Variants.none L lv 2 (fun _ => 0)
    (fun c => iprop(∃ r, prngReg c r)) (fun c => iprop(∃ r, prngReg c r))
    launch2.toP rfl
    (fun c => (K2.body_obligation (A5 m) c).loose) (fun _ _ => rfl) (fun _ => rfl)
    (fun c => (pdats m 2 c).share_full fun _ => rfl) (fun c => .rfl) (fun c => .rfl) (fun _ => 0) (cut 2)
    (fun c => StableHlo.held (c : Thread nD τ) ((Pipeline.ucRefs τ sig) \ Pipeline.arrRefs (τ := τ) spec2) (V5 m (outs m) c))
    (V5 m (outs m)) (V6 m (outs m)) (fun c w => (K2.A_eq (A5 m) c w).trans (by rw [V5_eq]; rfl)) (fun c w => exit2 m c w)

theorem pre2 (c : Dev nD) :
    iprop(StableHlo.held (c : Thread nD τ) (Pipeline.ucRefs τ sig) (V5 m (outs m) c) ∗ E c) ⊢ (R2 m).pre c := by
  show _ ⊢ iprop(StableHlo.held (c : Thread nD τ) (Pipeline.arrRefs (τ := τ) spec2) (V5 m (outs m) c) ∗ (∃ r, prngReg c r)
    ∗ StableHlo.held (c : Thread nD τ) ((Pipeline.ucRefs τ sig) \ Pipeline.arrRefs (τ := τ) spec2) (V5 m (outs m) c) ∗ ∃ W, owes (c : Thread nD τ) (0 : CellTallies nD τ sig Unit) W)
  rw [StableHlo.held_sub_split (c : Thread nD τ) arrS2 (V5 m (outs m) c)]
  unfold E
  iintro ⟨⟨Ha, Hr⟩, Hp, HO⟩
  isplitl [Ha]; · iexact Ha
  isplitl [Hp]; · iexact Hp
  isplitl [Hr]; · iexact Hr
  iexact HO

theorem post2 (c : Dev nD) :
    (R2 m).post c ⊢ iprop(StableHlo.held (c : Thread nD τ) (Pipeline.ucRefs τ sig) (V6 m (outs m) c) ∗ E c) := by
  show iprop(StableHlo.held (c : Thread nD τ) (Pipeline.arrRefs (τ := τ) spec2) (V6 m (outs m) c) ∗ (∃ r, prngReg c r)
    ∗ StableHlo.held (c : Thread nD τ) ((Pipeline.ucRefs τ sig) \ Pipeline.arrRefs (τ := τ) spec2) (V5 m (outs m) c) ∗ ∃ W, owes (c : Thread nD τ) (0 : CellTallies nD τ sig Unit) W) ⊢ _
  rw [StableHlo.held_sub_split (c : Thread nD τ) arrS2 (V6 m (outs m) c),
    StableHlo.held_congr (c : Thread nD τ) (S := (Pipeline.ucRefs τ sig) \ Pipeline.arrRefs (τ := τ) spec2) (rest2 m c)]
  unfold E
  iintro ⟨Ha, Hp, Hr, HO⟩
  isplitl [Ha Hr]; · isplitl [Ha] <;> iassumption
  isplitl [Hp]; · iexact Hp
  iexact HO

/-! ## The run -/

/-- Every weakly fair run ends with the arguments as launched, the result at what the host's last operation makes of
    the last region's array, and every semaphore at zero. -/
theorem run : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_v22) = V7 m (outs m) c main_v22)
      ∧ r.2.sem = fun _ => 0) := by
  refine Pipeline.θ_run_regions_kit_dev_sems (pcfgs (F := F)) adm (pdats m) () cellOf_inj emb₁ defs₀ Variants.none L lv m ρ main
    (segs m (outs m) Variants.none L lv (fun _ => E) () (pdats m) (R0 m) (R1 m) (R2 m))
    (fun c Q => by
      rewrite [main_chain c, Seg.run_eq_chain,
        show (segs m (outs m) Variants.none L lv (fun _ => E) () (pdats m) (R0 m) (R1 m) (R2 m) c).map Seg.prog = [
          StableHlo.seq hostOps0,
          StableHlo.seq hostOps0_1,
          StableHlo.seq hostOps0_2,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide) (fun _ => 0)
    (fun g hg => by simp [L, hg]) (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (V7 m (outs m) c))
    (hch := fun c => ⟨.rfl, .rfl, .rfl, pre0 m c, (post0 m c).trans (pre1 m c), (post1 m c).trans (pre2 m c), post2 m c, sep_mono .rfl (by unfold E; iintro ⟨-, H⟩; iexact H)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_v22) = V7 m (outs m) c main_v22)
    (hfin := fun c s' => ?_) (hQ := fun _ h hz => ⟨h, funext fun g => hz g (.inr (regions_no_unscoped g.2))⟩)
  · refine Pipeline.initEach L lv fun c => ?_
    rw [← Pipeline.unscopedBufs_held (Ix := Unit) (Name := ℕ) (U := UR sig nD τ) (Lvl := ℕ) c (V0 m c)]
    unfold E
    iintro ⟨⟨Hb, -, Ho, -, Hp, -⟩, -⟩
    imodintro
    isplitl [Hb]; · iexact Hb
    isplitl [Hp]; · iexists _; iexact Hp
    iexists _; iexact Ho
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c),
        (h (Proc.devRef .tc main_arg2) (Finset.mem_filter.mpr ⟨StableHlo.devRef_mem_tcRefs main_arg2, by decide⟩)).trans (V7_main_arg2 m (outs m) c),
        (h (Proc.devRef .tc main_arg3) (Finset.mem_filter.mpr ⟨StableHlo.devRef_mem_tcRefs main_arg3, by decide⟩)).trans (V7_main_arg3 m (outs m) c),
        (h (Proc.devRef .tc main_arg4) (Finset.mem_filter.mpr ⟨StableHlo.devRef_mem_tcRefs main_arg4, by decide⟩)).trans (V7_main_arg4 m (outs m) c),
        (h (Proc.devRef .tc main_arg5) (Finset.mem_filter.mpr ⟨StableHlo.devRef_mem_tcRefs main_arg5, by decide⟩)).trans (V7_main_arg5 m (outs m) c),
        (h (Proc.devRef .tc main_arg6) (Finset.mem_filter.mpr ⟨StableHlo.devRef_mem_tcRefs main_arg6, by decide⟩)).trans (V7_main_arg6 m (outs m) c),
        (h (Proc.devRef .tc main_arg7) (Finset.mem_filter.mpr ⟨StableHlo.devRef_mem_tcRefs main_arg7, by decide⟩)).trans (V7_main_arg7 m (outs m) c),
        (h (Proc.devRef .tc main_arg8) (Finset.mem_filter.mpr ⟨StableHlo.devRef_mem_tcRefs main_arg8, by decide⟩)).trans (V7_main_arg8 m (outs m) c),
        h (Proc.devRef .tc main_v22) (Finset.mem_filter.mpr ⟨StableHlo.devRef_mem_tcRefs main_v22, by decide⟩)⟩
    · iexact HSI

end Cert.Proof.Whole

end
-- ==== Proof.Frames.lean ====
module

public import proofs.«01_k».proof.Defs
public import proofs.«01_k».proof.Proof.Gen.Kernel
public import proofs.«01_k».proof.Proof.Whole
public import proofs.«01_k».proof.Proof.Gen.ReferenceIdeal.Run

@[expose] public section

set_option maxRecDepth 16384

noncomputable section

namespace Cert.Proof

open Idealize.ShloMosaic Idealize.ShloMosaic.TcCoe Idealize.ShloMosaic.Tactic
open Idealize.SL.Sem

/-- The idealized program's run, its arguments unchanged and its counters at zero, at the machine's own floats. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

theorem frameBits : FrameBits := fun m g _ =>
  (θ_run _ _ _).mono (fun r hr => ⟨fun c => by
    obtain ⟨a0, a1, a2, a3, a4, a5, a6, a7, a8, -⟩ := hr.1 c
    exact ⟨a0, a1, a2, a3, a4, a5, a6, a7, a8⟩, hr.2⟩) (Whole.run (F := Bits) m g)

/-- The program as compiled and its idealization are the same text, so the two frames are one statement. -/
theorem frame_same : @Cert.quiescent_Kernel Cert.Kernel.Gen.facts = FrameBits := by sl_kernel_rfl

theorem frame_kernel : @Cert.quiescent_Kernel Cert.Kernel.Gen.facts := frame_same ▸ frameBits

theorem frame_ideal : @Cert.quiescent_KernelIdeal Cert.KernelIdeal.Gen.facts := fun m g _ =>
  (θ_run _ _ _).mono (fun r hr => ⟨fun c => by
    obtain ⟨a0, a1, a2, a3, a4, a5, a6, a7, a8, -⟩ := hr.1 c
    exact ⟨a0, a1, a2, a3, a4, a5, a6, a7, a8⟩, hr.2⟩) (Whole.run (F := Ideal) m g)

theorem frame_reference : @Cert.quiescent_ReferenceIdeal Cert.ReferenceIdeal.Gen.facts := fun m g _ =>
  (θ_run _ _ _).mono (fun r h => ⟨fun c => (h c).2, sem_eq_zero_of_no_sems (by decide) r.2⟩)
    (Cert.ReferenceIdeal.Value.run (F := Ideal) m g)

end Cert.Proof

end
-- ==== Proof.Spec.lean ====
module

public import Idealize.ShloMosaic.PureOps.Ideal.Laws
public import Idealize.ShloMosaic.Lib.ValueIdx
public import Idealize.ShloMosaic.Lib.IdealHost

@[expose] public section

noncomputable section

namespace Cert.Proof

open Idealize.ShloMosaic

/-! The scalar formulas of the normalisation, over the extended reals. -/

/-- The number of samples a channel's statistics are taken over. -/
def cntE : EReal := Ideal.ofBits .f32 0x48000000#32
/-- The variance's offset. -/
def epsE : EReal := Ideal.ofBits .f32 0x3727C5AC#32

/-- The factor a channel is scaled by, from its sum `s`, its sum of squares `q` and the weight `g`. -/
def scaleE (s q g : EReal) : EReal :=
  Ideal.div 1 (Ideal.sqrt (Ideal.div q cntE - Ideal.div s cntE * Ideal.div s cntE + epsE)) * g
/-- The offset a channel is moved by. -/
def shiftE (s q g b : EReal) : EReal := b - Ideal.div s cntE * scaleE s q g
/-- Scale, move, rectify. -/
def actE (s q g b y : EReal) : EReal := max (y * scaleE s q g + shiftE s q g b) 0
/-- The pooled value: the extreme the sign of the scale picks, scaled, moved and rectified. -/
def poolE (s q g b mx mn : EReal) : EReal :=
  max (Scalar.select (Ideal.cmp .ogt (scaleE s q g) 0) mx mn * scaleE s q g + shiftE s q g b) 0

end Cert.Proof
-- ==== Proof.Kit.lean ====
module

public import Idealize.ShloMosaic.PureOps.Ideal.Laws
public import Idealize.ShloMosaic.Lib.ValueIdx
public import Idealize.ShloMosaic.Lib.IdealHost
public import Idealize.ShloMosaic.Lib.Pipeline.Value

@[expose] public section

noncomputable section

namespace Cert.Proof.Kit

open Idealize.ShloMosaic Idealize.ShloMosaic.ValueIdx

/-! Layout operations at the shapes the kernels use, read at an index given by its coordinates. -/

variable {α : Type}

/-- A row broadcast down the rows. -/
theorem bcastRow {m n : Nat} (x : (⟨2, ![1, n]⟩ : Shape).Idx → α) (h : (⟨2, ![1, n]⟩ : Shape).Broadcasts ⟨2, ![m, n]⟩)
    (r : Fin m) (l : Fin n) : broadcastTo ⟨2, ![m, n]⟩ x h (ix2 r l) = x (ix2 0 l) := by
  refine broadcastTo_apply x h _ _ fun a => ?_
  match a with
  | ⟨0, _⟩ => show (0 : ℕ) = if (1 : ℕ) = 1 then 0 else _; simp
  | ⟨1, _⟩ =>
    show l.val = if n = 1 then 0 else l.val
    have := l.isLt
    split <;> omega

/-- A column broadcast along the rows. -/
theorem bcastCol {m n : Nat} (x : (⟨2, ![m, 1]⟩ : Shape).Idx → α) (h : (⟨2, ![m, 1]⟩ : Shape).Broadcasts ⟨2, ![m, n]⟩)
    (r : Fin m) (l : Fin n) : broadcastTo ⟨2, ![m, n]⟩ x h (ix2 r l) = x (ix2 r 0) := by
  refine broadcastTo_apply x h _ _ fun a => ?_
  match a with
  | ⟨0, _⟩ =>
    show r.val = if m = 1 then 0 else r.val
    have := r.isLt
    split <;> omega
  | ⟨1, _⟩ => show (0 : ℕ) = if (1 : ℕ) = 1 then 0 else _; simp

/-- A block with a leading unit axis, read without it. -/
theorem castDrop3 {m n : Nat} (x : (⟨3, ![1, m, n]⟩ : Shape).Idx → α) (h : (⟨3, ![1, m, n]⟩ : Shape).ShapeCasts ⟨2, ![m, n]⟩)
    (r : Fin m) (l : Fin n) : shapeCast ⟨2, ![m, n]⟩ x h (ix2 r l) = x (ix3 0 r l) := by
  refine shapeCast_apply x h _ _ ?_
  rw [Shape.rowMajor_val_three, Shape.rowMajor_val_two]
  show (0 * m + r.val) * n + l.val = r.val * n + l.val
  simp

/-- … and with it put on. -/
theorem castAdd3 {m n : Nat} (x : (⟨2, ![m, n]⟩ : Shape).Idx → α) (h : (⟨2, ![m, n]⟩ : Shape).ShapeCasts ⟨3, ![1, m, n]⟩)
    (z : Fin 1) (r : Fin m) (l : Fin n) : shapeCast ⟨3, ![1, m, n]⟩ x h (ix3 z r l) = x (ix2 r l) := by
  refine shapeCast_apply x h _ _ ?_
  rw [Shape.rowMajor_val_three, Shape.rowMajor_val_two]
  have hz : z.val = 0 := by omega
  show r.val * n + l.val = (z.val * m + r.val) * n + l.val
  rw [hz]; simp

/-- Two leading unit axes dropped. -/
theorem castDrop4 {m n : Nat} (x : (⟨4, ![1, 1, m, n]⟩ : Shape).Idx → α) (h : (⟨4, ![1, 1, m, n]⟩ : Shape).ShapeCasts ⟨2, ![m, n]⟩)
    (r : Fin m) (l : Fin n) : shapeCast ⟨2, ![m, n]⟩ x h (ix2 r l) = x (ix4 0 0 r l) := by
  refine shapeCast_apply x h _ _ ?_
  rw [Shape.rowMajor_val_four, Shape.rowMajor_val_two]
  show ((0 * 1 + 0) * m + r.val) * n + l.val = r.val * n + l.val
  simp

/-- Two leading unit axes put on. -/
theorem castAdd4 {m n : Nat} (x : (⟨2, ![m, n]⟩ : Shape).Idx → α) (h : (⟨2, ![m, n]⟩ : Shape).ShapeCasts ⟨4, ![1, 1, m, n]⟩)
    (z w : Fin 1) (r : Fin m) (l : Fin n) : shapeCast ⟨4, ![1, 1, m, n]⟩ x h (ix4 z w r l) = x (ix2 r l) := by
  refine shapeCast_apply x h _ _ ?_
  rw [Shape.rowMajor_val_four, Shape.rowMajor_val_two]
  have hz : z.val = 0 := by omega
  have hw : w.val = 0 := by omega
  show r.val * n + l.val = ((z.val * 1 + w.val) * m + r.val) * n + l.val
  rw [hz, hw]; simp

/-- A vector turned into one row. -/
theorem castRow1 {n : Nat} (x : (⟨1, ![n]⟩ : Shape).Idx → α) (h : (⟨1, ![n]⟩ : Shape).ShapeCasts ⟨2, ![1, n]⟩)
    (z : Fin 1) (l : Fin n) : shapeCast ⟨2, ![1, n]⟩ x h (ix2 z l) = x (ix1 l) := by
  refine shapeCast_apply x h _ _ ?_
  rw [Shape.rowMajor_val_one, Shape.rowMajor_val_two]
  have hz : z.val = 0 := by omega
  show l.val = z.val * n + l.val
  rw [hz]; simp

/-- A rectangle cut out of a matrix. -/
theorem slice2 {M N m n : Nat} (o p : Nat) (x : (⟨2, ![M, N]⟩ : Shape).Idx → α)
    (h : (⟨2, ![M, N]⟩ : Shape).Slices ![o, p] ⟨2, ![m, n]⟩) (r : Fin m) (l : Fin n) (hr : o + r.val < M) (hl : p + l.val < N) :
    extractStridedSlice ⟨2, ![m, n]⟩ ![o, p] x h (ix2 r l) = x (ix2 ⟨o + r.val, hr⟩ ⟨p + l.val, hl⟩) := by
  refine extractStridedSlice_apply _ x h _ _ fun a => ?_
  match a with
  | ⟨0, _⟩ => rfl
  | ⟨1, _⟩ => rfl

/-- A sum down the rows of a matrix. -/
theorem sumRows {m n : Nat} (x : FVec Ideal (⟨2, ![m, n]⟩ : Shape) .f32) (acc : BitVec 32) (h : (⟨2, ![m, n]⟩ : Shape).Reduces [0] ⟨1, ![n]⟩)
    (hφ : FKind.Formats .f32) (hacc : acc = FKind.add.neutral .f32 hφ) (l : Fin n) :
    multiReduction (F := Ideal) .add [0] ⟨1, ![n]⟩ x acc h hφ hacc (ix1 l) = ∑ r : Fin m, x (ix2 r l) := by
  rw [Ideal.multiReduction_add_single]
  refine Finset.sum_congr rfl fun k _ => congrArg x ?_
  funext b
  refine Fin.ext ?_
  rw [Shape.Reduces.lift_val]
  match b with
  | ⟨0, _⟩ => rfl
  | ⟨1, _⟩ => rfl

/-- Eight blocks of 128 rows put under one another, read at row `128 * j + r`. -/
theorem concat8 {n : Nat} (f : Fin 8 → ((⟨2, ![128, n]⟩ : Shape).Idx → α))
    (h : Shape.Concatenates ((List.ofFn fun k : Fin 8 => (⟨⟨2, ![128, n]⟩, f k⟩ : (s : Shape) × (s.Idx → α))).map (·.1)) ⟨2, ![1024, n]⟩ 0)
    (j : Fin 8) (r : Fin 128) (hr : 128 * j.val + r.val < 1024) (l : Fin n) :
    concatenate ⟨2, ![1024, n]⟩ 0 (List.ofFn fun k : Fin 8 => (⟨⟨2, ![128, n]⟩, f k⟩ : (s : Shape) × (s.Idx → α))) h
      (ix2 ⟨128 * j.val + r.val, hr⟩ l) = f j (ix2 r l) := by
  have hrl := r.isLt
  refine concatenate_ofFn_apply (t := ⟨2, ![1024, n]⟩) 0 f h rfl 128 rfl _ j ?_ (ix2 r l) ?_ ?_
  · show (128 * j.val + r.val) / 128 = j.val
    omega
  · show r.val = (128 * j.val + r.val) % 128
    omega
  · intro b hb
    match b with
    | ⟨0, _⟩ => exact absurd rfl hb
    | ⟨1, _⟩ => rfl

end Cert.Proof.Kit
-- ==== Proof.Spec0.lean ====
module

public import proofs.«01_k».proof.Proof.Spec
public import proofs.«01_k».proof.Proof.Kit

@[expose] public section

noncomputable section

namespace Cert.Proof

open Idealize.ShloMosaic

/-! The scalar formulas of the grouping and of the first layer, over the extended reals: `X` a point,
`C` a centre, `R` the centre's rotation, `W` a channel's coordinate weights, `T` the counting matrix. -/

/-- The ball's radius. -/
def radE : EReal := Ideal.ofBits .f32 0x3D4CCCCD#32
/-- The cylinder's ends. -/
def hminE : EReal := Ideal.ofBits .f32 0xBCA3D70A#32
def hmaxE : EReal := Ideal.ofBits .f32 0x3D23D70A#32

/-- The words of the whole numbers up to 32. -/
def natBits (s : Nat) : BitVec 32 := [0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32, 0x41600000#32, 0x41700000#32, 0x41800000#32, 0x41880000#32, 0x41900000#32, 0x41980000#32, 0x41A00000#32, 0x41A80000#32, 0x41B00000#32, 0x41B80000#32, 0x41C00000#32, 0x41C80000#32, 0x41D00000#32, 0x41D80000#32, 0x41E00000#32, 0x41E80000#32, 0x41F00000#32, 0x41F80000#32, 0x42000000#32].getD s 0#32

/-- A turned coordinate of a point, seen from a centre. -/
def rcE (X C : Fin 3 → EReal) (R : Fin 9 → EReal) (a : Fin 3) : EReal :=
  (X 0 - C 0) * R ⟨a.val, by omega⟩ + (X 1 - C 1) * R ⟨3 + a.val, by omega⟩ + (X 2 - C 2) * R ⟨6 + a.val, by omega⟩

/-- Whether the point lies in the centre's cylinder. -/
def maskE (X C : Fin 3 → EReal) (R : Fin 9 → EReal) : BitVec 1 :=
  IntOp.andi (IntOp.andi (Ideal.cmp .olt (rcE X C R 1 * rcE X C R 1 + rcE X C R 2 * rcE X C R 2) (R 2)) (Ideal.cmp .ogt (rcE X C R 0) hminE))
    (Ideal.cmp .olt (rcE X C R 0) hmaxE)

/-- How many points up to `j` lie inside. -/
def csumE (M : Fin 1024 → BitVec 1) (T : Fin 1024 → Fin 1024 → EReal) (j : Fin 1024) : EReal :=
  ∑ i : Fin 1024, Scalar.select (M i) (1 : EReal) 0 * T i j

/-- Sample `s`'s table row: the `s`-th point inside, or row 0 when the cylinder holds fewer. -/
def rowE (M : Fin 1024 → BitVec 1) (T : Fin 1024 → Fin 1024 → EReal) (tab : Fin 1024 → EReal) (s : Nat) : EReal :=
  Scalar.select (Ideal.cmp .ogt (csumE M T 1023) (Ideal.ofBits .f32 (natBits s)))
    (∑ j : Fin 1024, Scalar.select (Ideal.cmp .oeq (Scalar.select (M j) (csumE M T j) 0) (Ideal.ofBits .f32 (natBits (s + 1)))) (1 : EReal) 0 * tab j)
    (tab 0)

/-- A channel's coordinate weights, turned. -/
def mkE (R : Fin 9 → EReal) (W : Fin 3 → EReal) (k : Fin 3) : EReal :=
  R ⟨3 * k.val, by omega⟩ * W 0 + R ⟨3 * k.val + 1, by omega⟩ * W 1 + R ⟨3 * k.val + 2, by omega⟩ * W 2

/-- The first layer's value, from a table row: the features' part, then the scaled relative coordinates. -/
def lay1E (f : EReal) (p q : Fin 3 → EReal) (C : Fin 3 → EReal) (R : Fin 9 → EReal) (W : Fin 3 → EReal) : EReal :=
  f + (p 0 + q 0 - Ideal.div (C 0) radE) * mkE R W 0 + (p 1 + q 1 - Ideal.div (C 1) radE) * mkE R W 1
    + (p 2 + q 2 - Ideal.div (C 2) radE) * mkE R W 2

end Cert.Proof
-- ==== Proof.Consts.lean ====
module

public import proofs.«01_k».proof.Proof.Spec0

@[expose] public section

set_option maxRecDepth 16384

noncomputable section

namespace Cert.Proof

open Idealize.ShloMosaic

/-! The literal constants as numbers. -/

/-- The words of the whole numbers hold them. -/
theorem natBits_val : ∀ s : Nat, s ≤ 32 → Ideal.ofBits .f32 (natBits s) = ((s : ℝ) : EReal) := by
  intro s hs
  interval_cases s <;> (simp [natBits, Ideal.ofBits, Ideal.ieee, -EReal.coe_mul]; try norm_num)

theorem cntE_val : cntE = ((131072 : ℝ) : EReal) := by
  simp [cntE, Ideal.ofBits, Ideal.ieee, -EReal.coe_mul]; norm_num

theorem epsE_pos : ∃ e : ℝ, 0 < e ∧ epsE = (e : EReal) := by
  refine ⟨_, ?_, by simp [epsE, Ideal.ofBits, Ideal.ieee, -EReal.coe_mul]; rfl⟩
  norm_num

theorem radE_pos : ∃ e : ℝ, 0 < e ∧ radE = (e : EReal) := by
  refine ⟨_, ?_, by simp [radE, Ideal.ofBits, Ideal.ieee, -EReal.coe_mul]; rfl⟩
  norm_num

/-- The word of minus infinity. -/
theorem negInf_val : Ideal.ofBits .f32 0xFF800000#32 = (⊥ : EReal) := by
  simp [Ideal.ofBits, Ideal.ieee]

/-- The word of plus infinity. -/
theorem posInf_val : Ideal.ofBits .f32 0x7F800000#32 = (⊤ : EReal) := by
  simp [Ideal.ofBits, Ideal.ieee]

end Cert.Proof
-- ==== Proof.Select.lean ====
module

public import proofs.«01_k».proof.Proof.Consts
public import Idealize.ShloMosaic.Lib.Routing.Ops

@[expose] public section

set_option maxRecDepth 16384

noncomputable section

namespace Cert.Proof

open Idealize.ShloMosaic

open Classical in
/-- The points inside, as a property of their numbers. -/
def insideP (M : Fin 1024 → BitVec 1) (i : Nat) : Prop := ∃ h : i < 1024, M ⟨i, h⟩ = 1#1

open Classical in
instance (M : Fin 1024 → BitVec 1) : DecidablePred (insideP M) := fun _ => Classical.propDecidable _

/-- How many of the first `n` points lie inside. -/
def cnt (M : Fin 1024 → BitVec 1) (n : Nat) : Nat := Nat.count (insideP M) n

theorem inside_iff (M : Fin 1024 → BitVec 1) (j : Fin 1024) : insideP M j.val ↔ M j = 1#1 :=
  ⟨fun ⟨_, h⟩ => h, fun h => ⟨j.isLt, h⟩⟩

theorem cnt_succ (M : Fin 1024 → BitVec 1) (j : Fin 1024) : cnt M (j.val + 1) = cnt M j.val + if M j = 1#1 then 1 else 0 := by
  unfold cnt
  rw [Nat.count_succ]
  by_cases h : M j = 1#1
  · rw [if_pos h, if_pos ((inside_iff M j).2 h)]
  · rw [if_neg h, if_neg (fun q => h ((inside_iff M j).1 q))]

theorem cnt_inj (M : Fin 1024 → BitVec 1) {j k : Fin 1024} (hj : M j = 1#1) (hk : M k = 1#1) (h : cnt M j.val = cnt M k.val) : j = k :=
  Fin.ext (Nat.count_injective ((inside_iff M j).2 hj) ((inside_iff M k).2 hk) h)

theorem exists_count (P : Nat → Prop) [DecidablePred P] (s : Nat) (n : Nat) (h : s < Nat.count P n) : ∃ j, j < n ∧ P j ∧ Nat.count P j = s := by
  induction n with
  | zero => simp at h
  | succ n ih =>
    rw [Nat.count_succ] at h
    by_cases hs : s < Nat.count P n
    · obtain ⟨j, h1, h2⟩ := ih hs
      exact ⟨j, by omega, h2⟩
    · by_cases hp : P n
      · rw [if_pos hp] at h
        exact ⟨n, by omega, hp, by omega⟩
      · rw [if_neg hp] at h
        omega

theorem exists_cnt (M : Fin 1024 → BitVec 1) (s : Nat) (h : s < cnt M 1024) : ∃ j : Fin 1024, M j = 1#1 ∧ cnt M j.val = s := by
  obtain ⟨j, hj, hp, hc⟩ := exists_count (insideP M) s 1024 h
  exact ⟨⟨j, hj⟩, (inside_iff M ⟨j, hj⟩).1 hp, hc⟩

theorem lt_cnt (M : Fin 1024 → BitVec 1) (j : Fin 1024) (h : M j = 1#1) : cnt M j.val < cnt M 1024 := by
  have h1 : cnt M (j.val + 1) ≤ cnt M 1024 := Nat.count_monotone _ (by have := j.isLt; omega)
  rw [cnt_succ, if_pos h] at h1
  omega

open Classical in
/-- The point of sample `s`: the `s`-th inside, or point 0 when the cylinder holds fewer. -/
def selIdx (M : Fin 1024 → BitVec 1) (s : Nat) : Fin 1024 :=
  if h : ∃ j : Fin 1024, M j = 1#1 ∧ cnt M j.val = s then h.choose else 0

theorem selIdx_eq (M : Fin 1024 → BitVec 1) (s : Nat) (j : Fin 1024) (hj : M j = 1#1) (hc : cnt M j.val = s) : selIdx M s = j := by
  have h : ∃ j : Fin 1024, M j = 1#1 ∧ cnt M j.val = s := ⟨j, hj, hc⟩
  unfold selIdx
  rw [dif_pos h]
  exact cnt_inj M h.choose_spec.1 hj (h.choose_spec.2.trans hc.symm)

theorem selIdx_zero (M : Fin 1024 → BitVec 1) (s : Nat) (h : ∀ j : Fin 1024, M j = 1#1 → cnt M j.val ≠ s) : selIdx M s = 0 := by
  unfold selIdx
  exact dif_neg fun ⟨j, hj, hc⟩ => h j hj hc

theorem cnt_le (M : Fin 1024 → BitVec 1) (n : Nat) : cnt M n ≤ n := Nat.count_le _

/-- A prefix's count as a sum of zeros and ones. -/
theorem sum_cnt (M : Fin 1024 → BitVec 1) (n : Nat) : ((List.range n).map fun i => if insideP M i then 1 else 0).sum = cnt M n := by
  induction n with
  | zero => rfl
  | succ n ih => rw [List.range_succ, List.map_append, List.sum_append, ih]; unfold cnt; rw [Nat.count_succ]; simp

theorem bit_cases (b : BitVec 1) : b = 0#1 ∨ b = 1#1 := by
  revert b; decide

/-- The counting matrix's sum is the count. -/
theorem csumE_eq (M : Fin 1024 → BitVec 1) (T : Fin 1024 → Fin 1024 → EReal) (hT : ∀ i j, T i j = if i ≤ j then 1 else 0) (j : Fin 1024) :
    csumE M T j = ((cnt M (j.val + 1) : ℝ) : EReal) := by
  have e : ∀ i : Fin 1024, Scalar.select (M i) (1 : EReal) 0 * T i j
      = (((if i.val < j.val + 1 then (if insideP M i.val then 1 else 0) else 0 : ℕ) : ℝ) : EReal) := fun i => by
    rw [hT]
    by_cases hij : i ≤ j
    · have h1 : i.val < j.val + 1 := by have : i.val ≤ j.val := hij; omega
      rw [if_pos hij, if_pos h1, mul_one]
      by_cases hm : M i = 1#1
      · rw [hm, if_pos ((inside_iff M i).2 hm)]; simp [Scalar.select]
      · have h0 := (bit_cases (M i)).resolve_right hm
        rw [h0, if_neg (fun q => hm ((inside_iff M i).1 q))]; simp [Scalar.select]
    · have h1 : ¬ i.val < j.val + 1 := fun h => hij (by show i.val ≤ j.val; omega)
      rw [if_neg hij, if_neg h1, mul_zero]; simp
  unfold csumE
  rw [Finset.sum_congr rfl fun i _ => e i, Fin.sum_univ_eq_sum_range (fun i => (((if i < j.val + 1 then (if insideP M i then 1 else 0) else 0 : ℕ) : ℝ) : EReal)) 1024]
  have key : ∑ i ∈ Finset.range 1024, (if i < j.val + 1 then (if insideP M i then 1 else 0) else 0 : ℕ) = cnt M (j.val + 1) := by
    rw [← Finset.sum_filter, ← sum_cnt]
    have : (Finset.range 1024).filter (fun i => i < j.val + 1) = Finset.range (j.val + 1) := by
      ext a; have := j.isLt; simp only [Finset.mem_filter, Finset.mem_range]; omega
    rw [this]; rfl
  rw [← key]
  generalize Finset.range 1024 = A
  induction A using Finset.induction_on with
  | empty => simp
  | insert a A ha ih => rw [Finset.sum_insert ha, Finset.sum_insert ha, ih, Nat.cast_add, EReal.coe_add]

theorem cmp_ogt_true {x y : EReal} (h : y < x) : Ideal.cmp .ogt x y = 1#1 := by
  show BitVec.ofBool (decide (y < x)) = 1#1
  rw [decide_eq_true h]
  rfl

theorem cmp_ogt_false {x y : EReal} (h : ¬ y < x) : Ideal.cmp .ogt x y = 0#1 := by
  show BitVec.ofBool (decide (y < x)) = 0#1
  rw [decide_eq_false h]
  rfl

theorem cmp_oeq_true {x y : EReal} (h : x = y) : Ideal.cmp .oeq x y = 1#1 := by
  show BitVec.ofBool (decide (x = y)) = 1#1
  rw [decide_eq_true h]
  rfl

theorem cmp_oeq_false {x y : EReal} (h : ¬ x = y) : Ideal.cmp .oeq x y = 0#1 := by
  show BitVec.ofBool (decide (x = y)) = 0#1
  rw [decide_eq_false h]
  rfl

theorem sel_true {α : Type} (x y : α) : Scalar.select 1#1 x y = x := rfl

theorem sel_false {α : Type} (x y : α) : Scalar.select 0#1 x y = y := rfl

/-- A kernel's sample row is the table's row of the selected point. -/
theorem rowE_eq (M : Fin 1024 → BitVec 1) (T : Fin 1024 → Fin 1024 → EReal) (hT : ∀ i j, T i j = if i ≤ j then 1 else 0)
    (tab : Fin 1024 → EReal) (s : Nat) (hs : s < 32) : rowE M T tab s = tab (selIdx M s) := by
  unfold rowE
  have hc : csumE M T 1023 = ((cnt M 1024 : ℝ) : EReal) := csumE_eq M T hT 1023
  rw [hc, natBits_val s (by omega), natBits_val (s + 1) (by omega)]
  by_cases h : s < cnt M 1024
  · obtain ⟨j0, hj, hcj⟩ := exists_cnt M s h
    have h1 : Ideal.cmp .ogt ((cnt M 1024 : ℝ) : EReal) ((s : ℝ) : EReal) = 1#1 := by
      have : ((s : ℝ) : EReal) < ((cnt M 1024 : ℝ) : EReal) := EReal.coe_lt_coe_iff.2 (by exact_mod_cast h)
      exact cmp_ogt_true this
    rw [h1, selIdx_eq M s j0 hj hcj]
    have e : ∀ j : Fin 1024, Scalar.select (Ideal.cmp .oeq (Scalar.select (M j) (csumE M T j) 0) (((s + 1 : ℕ) : ℝ) : EReal)) (1 : EReal) 0 * tab j
        = if j = j0 then tab j else 0 := fun j => by
      rw [csumE_eq M T hT j]
      by_cases hm : M j = 1#1
      · rw [hm, cnt_succ, if_pos hm]
        by_cases hjj : j = j0
        · subst hjj
          rw [if_pos rfl, hcj]
          rw [sel_true, cmp_oeq_true rfl, sel_true, one_mul]
        · rw [if_neg hjj]
          have hne : ¬ (((cnt M j.val + 1 : ℕ) : ℝ) : EReal) = (((s + 1 : ℕ) : ℝ) : EReal) := fun q => by
            have q2 : cnt M j.val + 1 = s + 1 := by exact_mod_cast EReal.coe_injective q
            exact hjj (cnt_inj M hm hj (by omega))
          rw [sel_true, cmp_oeq_false hne, sel_false, zero_mul]
      · have hm0 := (bit_cases (M j)).resolve_right hm
        have hjj : j ≠ j0 := fun q => hm (q ▸ hj)
        rw [hm0, if_neg hjj]
        have hne : ¬ ((0 : EReal) = (((s + 1 : ℕ) : ℝ) : EReal)) := fun q => by
          have q2 : (0 : ℝ) = ((s + 1 : ℕ) : ℝ) := EReal.coe_injective (by exact_mod_cast q)
          have : (0 : ℕ) = s + 1 := by exact_mod_cast q2
          omega
        have h0 : Scalar.select (0#1) (((cnt M (j.val + 1) : ℕ) : ℝ) : EReal) (0 : EReal) = 0 := by simp [Scalar.select]
        rw [h0]
        rw [cmp_oeq_false hne, sel_false, zero_mul]
    rw [Finset.sum_congr rfl fun j _ => e j]
    simp [Scalar.select]
  · have h1 : Ideal.cmp .ogt ((cnt M 1024 : ℝ) : EReal) ((s : ℝ) : EReal) = 0#1 := by
      have : ¬ ((s : ℝ) : EReal) < ((cnt M 1024 : ℝ) : EReal) := fun q => h (by exact_mod_cast EReal.coe_lt_coe_iff.1 q)
      exact cmp_ogt_false this
    rw [h1, selIdx_zero M s (fun j hj hcj => h (hcj ▸ lt_cnt M j hj))]
    simp [Scalar.select]

end Cert.Proof
-- ==== Proof.RefSel.lean ====
module

public import proofs.«01_k».proof.Proof.Gen.ReferenceIdeal.Read
public import proofs.«01_k».proof.Proof.Select
public import Idealize.ShloMosaic.Lib.Routing.Ops
public import Idealize.ShloMosaic.Lib.Routing.OpsSet
public import Idealize.ShloMosaic.Lib.Routing.OpsPair
public import Idealize.ShloMosaic.Lib.ShapeFacts

@[expose] public section

set_option maxRecDepth 16384

noncomputable section

namespace Cert.Proof.Ref

open Idealize.ShloMosaic Idealize.ShloMosaic.ValueIdx
open Cert.ReferenceIdeal Cert.ReferenceIdeal.Read

/-- A `[1, 1, N]` window has `N` positions. -/
theorem numel3 (N : Nat) : (⟨3, ![1, 1, N]⟩ : Shape).numel = N := by
  rw [Shape.numel_rank3]
  show 1 * 1 * N = N
  omega

/-- Position `n` of it is its index `(0, 0, n)`. -/
theorem symm3 {N : Nat} (n : Fin (⟨3, ![1, 1, N]⟩ : Shape).numel) :
    (⟨3, ![1, 1, N]⟩ : Shape).rowMajor.symm n = ix3 (0 : Fin 1) (0 : Fin 1) (n.cast (numel3 N)) :=
  ((⟨3, ![1, 1, N]⟩ : Shape).rowMajor.symm_apply_eq).2 (Fin.ext (by
    rw [Shape.rowMajor_val_three]
    show n.val = (0 * 1 + 0) * N + n.val
    omega))

/-- The running sum along the last of three axes: where entry `i` of a row holds `f i`, its entry `j` holds `f 0 + … + f j`. -/
theorem cumsum3 {A B N Nm1 : Nat} (hN : Nm1 + 1 = N) (x : IVec ⟨3, ![A, B, N]⟩ 32) (a : Fin A) (b : Fin B) (f : Nat → Nat)
    (hx : ∀ i : Fin N, x (ix3 a b i) = BitVec.ofNat 32 (f i.val)) (init : IVec ⟨0, ![]⟩ 32) (hinit : ∀ z, init z = 0#32)
    (h : (⟨3, ![A, B, N]⟩ : Shape).ReduceWindows (![1, 1, N] : Fin 3 → Nat) ![1, 1, 1] ![0, 0, Nm1] ![0, 0, 0] ⟨3, ![A, B, N]⟩)
    (hu : 0 < (⟨0, ![]⟩ : Shape).numel) (j : Fin N) :
    Host.reduceWindow IntOp.addi ![1, 1, N] ![1, 1, 1] ![0, 0, Nm1] ![0, 0, 0] x init h hu (ix3 a b j)
      = BitVec.ofNat 32 ((List.range (j.val + 1)).map f).sum := by
  subst hN
  have hv : init (Shape.Idx.first hu) = BitVec.ofNat 32 0 := hinit _
  have hj := j.isLt
  have ha := a.isLt
  have hb := b.isLt
  unfold Host.reduceWindow
  refine (Routing.foldl_addi_ofNat _ _ (fun n => if Nm1 ≤ j.val + n.val then f (j.val + n.val - Nm1) else 0) (fun n _ => ?_) _ 0 hv).trans ?_
  · have hw0 : ((⟨3, ![1, 1, Nm1 + 1]⟩ : Shape).rowMajor.symm n 0).val = 0 := by rw [symm3]; rfl
    have hw1 : ((⟨3, ![1, 1, Nm1 + 1]⟩ : Shape).rowMajor.symm n 1).val = 0 := by rw [symm3]; rfl
    have hw : ((⟨3, ![1, 1, Nm1 + 1]⟩ : Shape).rowMajor.symm n 2).val = n.val := by rw [symm3]; rfl
    have hn : n.val < Nm1 + 1 := (n.cast (numel3 _)).isLt
    dsimp only
    split
    · next hin =>
      have h2 := hin 2
      change Nm1 ≤ j.val * 1 + ((⟨3, ![1, 1, Nm1 + 1]⟩ : Shape).rowMajor.symm n 2).val
        ∧ j.val * 1 + ((⟨3, ![1, 1, Nm1 + 1]⟩ : Shape).rowMajor.symm n 2).val - Nm1 < Nm1 + 1 at h2
      rw [hw] at h2
      rw [if_pos (by omega)]
      refine (congrArg x (funext fun q => Fin.ext ?_)).trans (hx ⟨j.val + n.val - Nm1, by omega⟩)
      match q with
      | ⟨0, _⟩ =>
        show a.val * 1 + ((⟨3, ![1, 1, Nm1 + 1]⟩ : Shape).rowMajor.symm n 0).val - 0 = a.val
        rw [hw0]; omega
      | ⟨1, _⟩ =>
        show b.val * 1 + ((⟨3, ![1, 1, Nm1 + 1]⟩ : Shape).rowMajor.symm n 1).val - 0 = b.val
        rw [hw1]; omega
      | ⟨2, _⟩ =>
        show j.val * 1 + ((⟨3, ![1, 1, Nm1 + 1]⟩ : Shape).rowMajor.symm n 2).val - Nm1 = j.val + n.val - Nm1
        rw [hw, Nat.mul_one]
    · next hin =>
      rw [if_neg fun hle => hin fun q => by
        match q with
        | ⟨0, _⟩ =>
          show 0 ≤ a.val * 1 + ((⟨3, ![1, 1, Nm1 + 1]⟩ : Shape).rowMajor.symm n 0).val
            ∧ a.val * 1 + ((⟨3, ![1, 1, Nm1 + 1]⟩ : Shape).rowMajor.symm n 0).val - 0 < A
          rw [hw0]; omega
        | ⟨1, _⟩ =>
          show 0 ≤ b.val * 1 + ((⟨3, ![1, 1, Nm1 + 1]⟩ : Shape).rowMajor.symm n 1).val
            ∧ b.val * 1 + ((⟨3, ![1, 1, Nm1 + 1]⟩ : Shape).rowMajor.symm n 1).val - 0 < B
          rw [hw1]; omega
        | ⟨2, _⟩ =>
          show Nm1 ≤ j.val * 1 + ((⟨3, ![1, 1, Nm1 + 1]⟩ : Shape).rowMajor.symm n 2).val
            ∧ j.val * 1 + ((⟨3, ![1, 1, Nm1 + 1]⟩ : Shape).rowMajor.symm n 2).val - Nm1 < Nm1 + 1
          rw [hw]; omega]
      exact hv
  · rw [Nat.zero_add, Routing.map_finRange_val _ (fun w => if Nm1 ≤ j.val + w then f (j.val + w - Nm1) else 0)]
    exact congrArg (BitVec.ofNat 32) ((congrArg (fun M => ((List.range M).map fun w => if Nm1 ≤ j.val + w then f (j.val + w - Nm1) else 0).sum)
      (numel3 (Nm1 + 1))).trans (Routing.sum_window f Nm1 j.val (by omega)))

variable (x0 : (⟨S4x1024x3, .f32⟩ : BufTy).Contents (Elt Ideal)) (x2 : (⟨S4x1024x3x3, .f32⟩ : BufTy).Contents (Elt Ideal))

/-- The reference's mask of a centre. -/
def Mr (b : Fin 4) (n : Fin 1024) (j : Fin 1024) : BitVec 1 := val_main_v27 (F := Ideal) x0 x2 (ix3 b n j)

theorem v29_eq (b : Fin 4) (n j : Fin 1024) :
    val_main_v29 (F := Ideal) x0 x2 (ix3 b n j) = BitVec.ofNat 32 (cnt (Mr x0 x2 b n) (j.val + 1)) := by
  unfold val_main_v29
  refine (cumsum3 (A := 4) (B := 1024) (N := 1024) (Nm1 := 1023) rfl _ b n (fun i => if insideP (Mr x0 x2 b n) i then 1 else 0) (fun i => ?_) _ (fun z => ?_) _ _ j).trans ?_
  · rw [val_main_v28_apply]
    show (Mr x0 x2 b n i).setWidth 32 = _
    by_cases h : Mr x0 x2 b n i = 1#1
    · rw [h, if_pos ((inside_iff _ i).2 h)]; rfl
    · rw [(bit_cases _).resolve_right h, if_neg (fun q => h ((inside_iff _ i).1 q))]; rfl
  · rw [val_main_call0_call0_v0_apply]; rfl
  · rw [sum_cnt]

/-- The slot a point writes. -/
def slot (b : Fin 4) (n j : Fin 1024) : Nat := if Mr x0 x2 b n j = 1#1 ∧ cnt (Mr x0 x2 b n) j.val < 32 then cnt (Mr x0 x2 b n) j.val else 32

theorem v35_eq (b : Fin 4) (n j : Fin 1024) : val_main_v35 (F := Ideal) x0 x2 (ix3 b n j) = BitVec.ofNat 32 (slot x0 x2 b n j) := by
  rw [val_main_v35_apply, val_main_v34_apply, val_main_v33_apply, val_main_v31_apply, v29_eq, val_main_v30_apply, val_main_v32_apply,
    val_main_call1_v3_apply, val_main_call1_v2_apply, val_main_call1_v1_apply]
  show Scalar.select (IntOp.andi (Mr x0 x2 b n j) _) _ _ = _
  have hle : cnt (Mr x0 x2 b n) j.val < 1024 := lt_of_le_of_lt (cnt_le _ _) j.isLt
  unfold slot
  rw [cnt_succ]
  by_cases h : Mr x0 x2 b n j = 1#1
  · rw [h, if_pos rfl]
    have e1 : IntOp.subi (BitVec.ofNat 32 (cnt (Mr x0 x2 b n) j.val + 1)) (val_main_c (F := Ideal) (idx_main_v30 (ix3 b n j)))
        = BitVec.ofNat 32 (cnt (Mr x0 x2 b n) j.val) := by
      show BitVec.ofNat 32 (cnt (Mr x0 x2 b n) j.val + 1) - 1#32 = _
      apply BitVec.eq_of_toNat_eq
      simp only [BitVec.toNat_sub, BitVec.toNat_ofNat]
      omega
    rw [e1]
    show Scalar.select (IntOp.andi 1#1 (BitVec.ofBool ((BitVec.ofNat 32 (cnt (Mr x0 x2 b n) j.val)).slt 32#32))) _ 32#32 = _
    have e2 : (BitVec.ofNat 32 (cnt (Mr x0 x2 b n) j.val)).slt 32#32 = decide (cnt (Mr x0 x2 b n) j.val < 32) := by
      rw [BitVec.slt, Idealize.ShloMosaic.StableHlo.Predicate.toInt_ofNat_small _ (by omega)]
      show decide (((cnt (Mr x0 x2 b n) j.val : ℕ) : ℤ) < 32) = _
      exact decide_eq_decide.2 (by omega)
    rw [e2]
    by_cases hc : cnt (Mr x0 x2 b n) j.val < 32
    · rw [if_pos ⟨rfl, hc⟩, decide_eq_true hc]; simp [Scalar.select, IntOp.andi]
    · rw [if_neg (fun q => hc q.2), decide_eq_false hc]; simp [Scalar.select, IntOp.andi]
  · rw [(bit_cases _).resolve_right h, if_neg (by decide : ¬ (0#1 : BitVec 1) = 1#1), if_neg (fun q => absurd q.1 (by decide))]
    have : ∀ y : BitVec 1, IntOp.andi 0#1 y = 0#1 := by decide
    rw [this]
    rfl

/-- A batch and a centre as one row number. -/
def rowOf (b : Fin 4) (n : Fin 1024) : Fin 4096 := ⟨b.val * 1024 + n.val, by omega⟩

theorem slot_le (b : Fin 4) (n j : Fin 1024) : slot x0 x2 b n j ≤ 32 := by
  unfold slot; split <;> omega

theorem v36_eq (b : Fin 4) (n j : Fin 1024) : val_main_v36 (F := Ideal) x0 x2 (ix2 (rowOf b n) j) = BitVec.ofNat 32 (slot x0 x2 b n j) := by
  rw [val_main_v36_apply, ← v35_eq]
  refine congrArg _ (funext fun a => Fin.ext ?_)
  have hb := b.isLt
  have hn := n.isLt
  have hj := j.isLt
  match a with
  | ⟨0, _⟩ => show ((b.val * 1024 + n.val) * 1024 + j.val) / 1048576 = b.val; omega
  | ⟨1, _⟩ => show ((b.val * 1024 + n.val) * 1024 + j.val) / 1024 % 1024 = n.val; omega
  | ⟨2, _⟩ => show ((b.val * 1024 + n.val) * 1024 + j.val) % 1024 = j.val; omega

/-- A word that isn't negative passes jnp's index wrap. -/
theorem wrap_small (a : Nat) (h : a < 2 ^ 31) (w : BitVec 32) :
    Scalar.select (IntOp.cmpi .slt (BitVec.ofNat 32 a) 0#32) w (BitVec.ofNat 32 a) = BitVec.ofNat 32 a := by
  show Scalar.select (BitVec.ofBool ((BitVec.ofNat 32 a).slt 0#32)) w _ = _
  have e2 : (BitVec.ofNat 32 a).slt 0#32 = false := by
    rw [BitVec.slt, Idealize.ShloMosaic.StableHlo.Predicate.toInt_ofNat_small _ h]
    show decide ((a : ℤ) < 0) = false
    exact decide_eq_false (by omega)
  rw [e2]
  rfl

theorem v52_eq (b : Fin 4) (n j : Fin 1024) : val_main_v52 (F := Ideal) x0 x2 (ix2 (rowOf b n) j) = BitVec.ofNat 32 (slot x0 x2 b n j) := by
  rw [val_main_v52_apply, val_main_v49_apply, v36_eq, val_main_v48_apply]
  exact wrap_small _ (by have := slot_le x0 x2 b n j; omega) _

theorem v47_eq (r : Fin 4096) (z : Fin 1) : val_main_v47 (F := Ideal) (ix2 r z) = BitVec.ofNat 32 r.val := by
  rw [val_main_v47_apply, val_main_v44_apply, val_main_v42_apply, val_main_v37_apply, val_main_v43_apply]
  exact wrap_small _ (by have := r.isLt; show r.val < _; omega) _

theorem v56_0 (r : Fin 4096) (j : Fin 1024) : val_main_v56 (F := Ideal) x0 x2 (ix3 r j (0 : Fin 2)) = BitVec.ofNat 32 r.val := by
  unfold val_main_v56
  refine (concatenate_pair_apply_left (t := S4096x1024x2) (s₁ := S4096x1024x1) (s₂ := S4096x1024x1) (2 : Fin 3) (val_main_v54 (F := Ideal)) (val_main_v55 (F := Ideal) x0 x2) _ (ix3 r j (0 : Fin 2)) rfl (ix3 r j (0 : Fin 1)) (fun b => ?_)).trans ?_
  · match b with
    | ⟨0, _⟩ => rfl
    | ⟨1, _⟩ => rfl
    | ⟨2, _⟩ => rfl
  · rw [val_main_v54_apply, val_main_v53_apply]
    exact (congrArg _ (funext fun a => by match a with | ⟨0, _⟩ => rfl | ⟨1, _⟩ => rfl)).trans (v47_eq r 0)

theorem v56_1 (b : Fin 4) (n j : Fin 1024) :
    val_main_v56 (F := Ideal) x0 x2 (ix3 (rowOf b n) j (1 : Fin 2)) = BitVec.ofNat 32 (slot x0 x2 b n j) := by
  unfold val_main_v56
  refine (concatenate_pair_apply_right (t := S4096x1024x2) (s₁ := S4096x1024x1) (s₂ := S4096x1024x1) (2 : Fin 3) (val_main_v54 (F := Ideal)) (val_main_v55 (F := Ideal) x0 x2) _ (ix3 (rowOf b n) j (1 : Fin 2)) rfl rfl (ix3 (rowOf b n) j (0 : Fin 1)) (fun q hq => ?_) rfl).trans ?_
  · match q with
    | ⟨0, _⟩ => rfl
    | ⟨1, _⟩ => rfl
    | ⟨2, _⟩ => exact absurd rfl hq
  · rw [val_main_v55_apply]
    exact (congrArg _ (funext fun a => by match a with | ⟨0, _⟩ => rfl | ⟨1, _⟩ => rfl)).trans (v52_eq x0 x2 b n j)

theorem v40_eq (r : Fin 4096) (j : Fin 1024) : val_main_v40 (F := Ideal) (ix2 r j) = BitVec.ofNat 32 j.val := by
  rw [val_main_v40_apply, val_main_v39_apply, val_main_v38_apply]

/-- The scattered table: slot `s` of a centre holds its selected point. -/
theorem v57_eq (b : Fin 4) (n : Fin 1024) (s : Fin 32) :
    val_main_v57 (F := Ideal) x0 x2 (ix2 (rowOf b n) s) = BitVec.ofNat 32 (selIdx (Mr x0 x2 b n) s.val).val := by
  have hl : ∀ (r : Fin 4096) (j : Fin 1024),
      scatter_S4096x32_S4096x1024x2_S4096x1024_n_01_01_2.resultIdx? (ix2 r j) (val_main_v56 (F := Ideal) x0 x2) = some (ix2 (rowOf b n) s)
        ↔ r = rowOf b n ∧ Mr x0 x2 b n j = 1#1 ∧ cnt (Mr x0 x2 b n) j.val = s.val := fun r j => by
    refine (Routing.scatter_lands2 (R := 4096) (C := 32) (A := 4096) (B := 1024) _ rfl rfl rfl _ r j (rowOf b n) s).trans ?_
    rw [v56_0, StableHlo.Predicate.toInt_ofNat_small _ (by have := r.isLt; omega)]
    constructor
    · rintro ⟨h1, h2⟩
      have hr : r = rowOf b n := Fin.ext (by exact_mod_cast h1)
      subst hr
      rw [v56_1, StableHlo.Predicate.toInt_ofNat_small _ (by have := slot_le x0 x2 b n j; omega)] at h2
      have h3 : slot x0 x2 b n j = s.val := by exact_mod_cast h2
      have hs := s.isLt
      unfold slot at h3
      split at h3
      · next hh => exact ⟨rfl, hh.1, h3⟩
      · omega
    · rintro ⟨rfl, h2, h3⟩
      refine ⟨rfl, ?_⟩
      rw [v56_1, StableHlo.Predicate.toInt_ofNat_small _ (by have := slot_le x0 x2 b n j; omega)]
      have hs := s.isLt
      unfold slot
      rw [if_pos ⟨h2, by omega⟩, h3]
  unfold val_main_v57
  by_cases h : ∃ j : Fin 1024, Mr x0 x2 b n j = 1#1 ∧ cnt (Mr x0 x2 b n) j.val = s.val
  · obtain ⟨j, hj, hc⟩ := h
    rw [selIdx_eq _ _ j hj hc]
    refine Routing.scatter_set_hit _ _ _ _ _ _ (fun k hk => ?_) (ix2 (rowOf b n) j) ((hl _ _).2 ⟨rfl, hj, hc⟩)
    obtain ⟨r, j', rfl⟩ : ∃ (r : Fin 4096) (j' : Fin 1024), k = ix2 r j' := ⟨k 0, k 1, eq_ix2 k⟩
    obtain ⟨hr, hj', hc'⟩ := (hl r j').1 hk
    rw [v40_eq, cnt_inj _ hj' hj (hc'.trans hc.symm)]
  · rw [selIdx_zero _ _ (fun j hj hc => h ⟨j, hj, hc⟩)]
    refine (Routing.scatter_set_miss _ _ _ _ _ (fun k hk => ?_)).trans ?_
    · obtain ⟨r, j', rfl⟩ : ∃ (r : Fin 4096) (j' : Fin 1024), k = ix2 r j' := ⟨k 0, k 1, eq_ix2 k⟩
      exact h ⟨j', ((hl r j').1 hk).2⟩
    · rw [val_main_v41_apply]; rfl

/-- A centre and a sample as one number. -/
def pos (n : Fin 1024) (s : Fin 32) : Fin 32768 := ⟨n.val * 32 + s.val, by omega⟩

theorem v60_eq (b : Fin 4) (n : Fin 1024) (s : Fin 32) :
    val_main_v60 (F := Ideal) x0 x2 (ix2 b (pos n s)) = BitVec.ofNat 32 (selIdx (Mr x0 x2 b n) s.val).val := by
  rw [val_main_v60_apply, val_main_v58_apply, ← v57_eq]
  have hb := b.isLt
  have hn := n.isLt
  have hs := s.isLt
  refine congrArg _ (funext fun a => Fin.ext ?_)
  match a with
  | ⟨0, _⟩ =>
    show (((b.val * 32768 + (n.val * 32 + s.val)) / 32768 * 1024 + (b.val * 32768 + (n.val * 32 + s.val)) / 32 % 1024) * 32
      + (b.val * 32768 + (n.val * 32 + s.val)) % 32) / 32 = b.val * 1024 + n.val
    omega
  | ⟨1, _⟩ =>
    show (((b.val * 32768 + (n.val * 32 + s.val)) / 32768 * 1024 + (b.val * 32768 + (n.val * 32 + s.val)) / 32 % 1024) * 32
      + (b.val * 32768 + (n.val * 32 + s.val)) % 32) % 32 = s.val
    omega

theorem v66_eq (b : Fin 4) (n : Fin 1024) (s : Fin 32) (z : Fin 1) :
    val_main_v66 (F := Ideal) x0 x2 (ix3 b (pos n s) z) = BitVec.ofNat 32 (selIdx (Mr x0 x2 b n) s.val).val := by
  rw [val_main_v66_apply]
  refine (congrArg _ (funext fun a => by match a with | ⟨0, _⟩ => rfl | ⟨1, _⟩ => rfl :
    idx_main_v66 (ix3 b (pos n s) z) = ix2 b (pos n s))).trans ?_
  rw [val_main_v65_apply, val_main_v62_apply, v60_eq, val_main_v61_apply]
  exact wrap_small _ (by have := (selIdx (Mr x0 x2 b n) s.val).isLt; omega) _

/-- A gather of one row entry per index word, batched over the first axis, reads the word's entry (read signed, clamped). -/
theorem gather_last {C P : Nat} (d : GatherDims ⟨3, ![4, C, 1024]⟩ ⟨3, ![4, P, 1]⟩ ⟨3, ![4, C, P]⟩)
    (hof : d.offsetDims = [1]) (hco : d.collapsedSliceDims = [2]) (hob : d.operandBatchingDims = [0]) (hsb : d.startIndicesBatchingDims = [0])
    (hsm : d.startIndexMap = [2]) (hiv : d.indexVectorDim = 2) (hss : d.sliceSizes = ![1, C, 1])
    (x : (⟨3, ![4, C, 1024]⟩ : Shape).Idx → EReal) (idx : IVec ⟨3, ![4, P, 1]⟩ 32) (b : Fin 4) (c : Fin C) (p : Fin P) (k : Fin 1024)
    (hk : idx (ix3 b p (0 : Fin 1)) = BitVec.ofNat 32 k.val) : Host.gather d x idx (ix3 b c p) = x (ix3 b c k) := by
  obtain ⟨od, cs, ob, sb, sm, iv, ss, wf⟩ := d
  subst hof hco hob hsb hsm hiv hss
  unfold Host.gather
  refine congrArg x (funext fun a => Fin.ext ?_)
  have hkl := k.isLt
  match a with
  | ⟨0, _⟩ =>
    show GatherDims.start _ _ idx 0 + GatherDims.batchCoord _ _ 0 + GatherDims.offCoord _ _ 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show GatherDims.start _ _ idx 1 + GatherDims.batchCoord _ _ 1 + GatherDims.offCoord _ _ 1 = c.val
    rw [GatherDims.batchCoord_eq_zero _ _ _ (fun h => absurd (List.mem_singleton.1 h) (show ¬ (1 : Fin 3) = 0 by decide))]
    unfold GatherDims.start
    rw [dif_neg (fun h => absurd (List.mem_singleton.1 h) (show ¬ (1 : Fin 3) = 2 by decide))]
    unfold GatherDims.offCoord
    rw [dif_pos ((GatherDims.mem_sKept _ _).2 ⟨fun h => absurd (List.mem_singleton.1 h) (show ¬ (1 : Fin 3) = 2 by decide),
      fun h => absurd (List.mem_singleton.1 h) (show ¬ (1 : Fin 3) = 0 by decide)⟩)]
    simp only [Nat.zero_add]
    rfl
  | ⟨2, _⟩ =>
    show GatherDims.start _ _ idx 2 + GatherDims.batchCoord _ _ 2 + GatherDims.offCoord _ _ 2 = k.val
    rw [GatherDims.batchCoord_eq_zero _ _ _ (fun h => absurd (List.mem_singleton.1 h) (show ¬ (2 : Fin 3) = 0 by decide)),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ q, GatherDims.siIdx (⟨[1], [2], [0], [0], [2], 2, ![1, C, 1], wf⟩ : GatherDims ⟨3, ![4, C, 1024]⟩ ⟨3, ![4, P, 1]⟩ ⟨3, ![4, C, P]⟩) (ix3 b c p) q
        = ix3 b p (0 : Fin 1) := fun q => by
      funext z; refine Fin.ext ?_
      have hq : q.val = 0 := by have := q.isLt; change q.val < 1 at this; omega
      match z with
      | ⟨0, _⟩ => rfl
      | ⟨1, _⟩ => rfl
      | ⟨2, _⟩ => exact hq
    rw [hsi, hk, StableHlo.Predicate.toInt_ofNat_small _ (by omega)]
    show min (k.val : ℤ).toNat (1024 - 1) = k.val
    omega

theorem v67_eq (b : Fin 4) (c : Fin 3) (n : Fin 1024) (s : Fin 32) :
    val_main_v67 (F := Ideal) x0 x2 (ix3 b c (pos n s)) = x0 (ix3 b (selIdx (Mr x0 x2 b n) s.val) c) := by
  unfold val_main_v67
  refine (gather_last (C := 3) (P := 32768) _ rfl rfl rfl rfl rfl rfl rfl _ _ b c (pos n s) _ (v66_eq x0 x2 b n s 0)).trans ?_
  rw [val_main_v59_apply]
  exact congrArg x0 (funext fun a => by match a with | ⟨0, _⟩ => rfl | ⟨1, _⟩ => rfl | ⟨2, _⟩ => rfl)

variable (x1 : (⟨S4x256x1024, .f32⟩ : BufTy).Contents (Elt Ideal))

theorem v83_eq (b : Fin 4) (n : Fin 1024) (s : Fin 32) (z : Fin 1) :
    val_main_v83 (F := Ideal) x0 x2 (ix3 b (pos n s) z) = BitVec.ofNat 32 (selIdx (Mr x0 x2 b n) s.val).val := by
  rw [val_main_v83_apply]
  refine (congrArg _ (funext fun a => by match a with | ⟨0, _⟩ => rfl | ⟨1, _⟩ => rfl :
    idx_main_v83 (ix3 b (pos n s) z) = ix2 b (pos n s))).trans ?_
  have e : val_main_v77 (F := Ideal) x0 x2 (ix2 b (pos n s)) = BitVec.ofNat 32 (selIdx (Mr x0 x2 b n) s.val).val := v60_eq x0 x2 b n s
  rw [val_main_v82_apply, val_main_v79_apply, e, val_main_v78_apply]
  exact wrap_small _ (by have := (selIdx (Mr x0 x2 b n) s.val).isLt; omega) _

theorem v84_eq (b : Fin 4) (c : Fin 256) (n : Fin 1024) (s : Fin 32) :
    val_main_v84 (F := Ideal) x0 x1 x2 (ix3 b c (pos n s)) = x1 (ix3 b c (selIdx (Mr x0 x2 b n) s.val)) := by
  unfold val_main_v84
  exact gather_last (C := 256) (P := 32768) _ rfl rfl rfl rfl rfl rfl rfl _ _ b c (pos n s) _ (v83_eq x0 x2 b n s 0)

end Cert.Proof.Ref
-- ==== Proof.RefY.lean ====
module

public import proofs.«01_k».proof.Proof.RefSel

@[expose] public section

set_option maxRecDepth 16384

noncomputable section

namespace Cert.Proof.Ref

open Idealize.ShloMosaic Idealize.ShloMosaic.ValueIdx
open Cert.ReferenceIdeal Cert.ReferenceIdeal.Read

variable (x0 : (⟨S4x1024x3, .f32⟩ : BufTy).Contents (Elt Ideal)) (x1 : (⟨S4x256x1024, .f32⟩ : BufTy).Contents (Elt Ideal))
  (x2 : (⟨S4x1024x3x3, .f32⟩ : BufTy).Contents (Elt Ideal)) (x3 : (⟨S256x259, .f32⟩ : BufTy).Contents (Elt Ideal))

/-- The arguments by their coordinates. -/
def XA (b : Fin 4) (j : Fin 1024) (k : Fin 3) : EReal := x0 (ix3 b j k)
def RA (b : Fin 4) (n : Fin 1024) (k a : Fin 3) : EReal := x2 (ix4 b n k a)
def FA (b : Fin 4) (k : Fin 256) (j : Fin 1024) : EReal := x1 (ix3 b k j)
def WA (l : Fin 256) (k : Fin 259) : EReal := x3 (ix2 l k)
/-- A rotation's entries in one row of nine. -/
def R9 (b : Fin 4) (n : Fin 1024) (q : Fin 9) : EReal := RA x2 b n ⟨q.val / 3, by omega⟩ ⟨q.val % 3, by omega⟩

theorem v6_eq (b : Fin 4) (n : Fin 1024) (k a : Fin 3) : val_main_v6 (F := Ideal) x2 (ix4 b n k a) = RA x2 b n k a := by
  rw [val_main_v6_apply, val_main_v0_apply]
  have hb := b.isLt
  have hn := n.isLt
  have hk := k.isLt
  have ha := a.isLt
  refine congrArg x2 (funext fun q => Fin.ext ?_)
  match q with
  | ⟨0, _⟩ =>
    show (((((b.val * 1024 + n.val) * 3 + k.val) * 3 + a.val) / 9216 * 1024 + (((b.val * 1024 + n.val) * 3 + k.val) * 3 + a.val) / 9 % 1024) * 9
      + (((b.val * 1024 + n.val) * 3 + k.val) * 3 + a.val) % 9) / 9216 = b.val
    omega
  | ⟨1, _⟩ =>
    show (((((b.val * 1024 + n.val) * 3 + k.val) * 3 + a.val) / 9216 * 1024 + (((b.val * 1024 + n.val) * 3 + k.val) * 3 + a.val) / 9 % 1024) * 9
      + (((b.val * 1024 + n.val) * 3 + k.val) * 3 + a.val) % 9) / 9 % 1024 = n.val
    omega
  | ⟨2, _⟩ =>
    show (((((b.val * 1024 + n.val) * 3 + k.val) * 3 + a.val) / 9216 * 1024 + (((b.val * 1024 + n.val) * 3 + k.val) * 3 + a.val) / 9 % 1024) * 9
      + (((b.val * 1024 + n.val) * 3 + k.val) * 3 + a.val) % 9) / 3 % 3 = k.val
    omega
  | ⟨3, _⟩ =>
    show (((((b.val * 1024 + n.val) * 3 + k.val) * 3 + a.val) / 9216 * 1024 + (((b.val * 1024 + n.val) * 3 + k.val) * 3 + a.val) / 9 % 1024) * 9
      + (((b.val * 1024 + n.val) * 3 + k.val) * 3 + a.val) % 9) % 3 = a.val
    omega

theorem v5_eq (b : Fin 4) (n j : Fin 1024) (k : Fin 3) : val_main_v5 (F := Ideal) x0 (ix4 b n j k) = XA x0 b j k - XA x0 b n k := by
  rw [val_main_v5_apply, val_main_v3_apply, val_main_v2_apply, val_main_v4_apply, val_main_v1_apply]
  exact congrArg₂ (fun x y : EReal => x - y) (congrArg x0 (funext fun a => by match a with | ⟨0, _⟩ => rfl | ⟨1, _⟩ => rfl | ⟨2, _⟩ => rfl))
    (congrArg x0 (funext fun a => by match a with | ⟨0, _⟩ => rfl | ⟨1, _⟩ => rfl | ⟨2, _⟩ => rfl))

theorem v7_eq (b : Fin 4) (n j : Fin 1024) (a : Fin 3) :
    val_main_v7 (F := Ideal) x0 x2 (ix4 b n j a) = rcE (XA x0 b j) (XA x0 b n) (R9 x2 b n) a := by
  rw [val_main_v7_apply]
  have e : ∀ k : Fin 3, val_main_v5 (F := Ideal) x0 (lidx_main_v7 (ix4 b n j a) k) * val_main_v6 (F := Ideal) x2 (ridx_main_v7 (ix4 b n j a) k)
      = (XA x0 b j k - XA x0 b n k) * RA x2 b n k a := fun k => by
    rw [← v5_eq, ← v6_eq]
    exact congrArg₂ (fun x y : EReal => x * y) (congrArg _ (funext fun q => by match q with | ⟨0, _⟩ => rfl | ⟨1, _⟩ => rfl | ⟨2, _⟩ => rfl | ⟨3, _⟩ => rfl))
      (congrArg _ (funext fun q => by match q with | ⟨0, _⟩ => rfl | ⟨1, _⟩ => rfl | ⟨2, _⟩ => rfl | ⟨3, _⟩ => rfl))
  rw [Finset.sum_congr rfl fun k _ => e k, Fin.sum_univ_three]
  have ha := a.isLt
  have r0 : RA x2 b n 0 a = R9 x2 b n ⟨a.val, by omega⟩ := by
    unfold R9
    exact congrArg₂ (RA x2 b n) (Fin.ext (by show 0 = a.val / 3; omega)) (Fin.ext (by show a.val = a.val % 3; omega))
  have r1 : RA x2 b n 1 a = R9 x2 b n ⟨3 + a.val, by omega⟩ := by
    unfold R9
    exact congrArg₂ (RA x2 b n) (Fin.ext (by show 1 = (3 + a.val) / 3; omega)) (Fin.ext (by show a.val = (3 + a.val) % 3; omega))
  have r2 : RA x2 b n 2 a = R9 x2 b n ⟨6 + a.val, by omega⟩ := by
    unfold R9
    exact congrArg₂ (RA x2 b n) (Fin.ext (by show 2 = (6 + a.val) / 3; omega)) (Fin.ext (by show a.val = (6 + a.val) % 3; omega))
  rw [r0, r1, r2]
  rfl

theorem v9_eq (b : Fin 4) (n j : Fin 1024) : val_main_v9 (F := Ideal) x0 x2 (ix3 b n j) = rcE (XA x0 b j) (XA x0 b n) (R9 x2 b n) 0 := by
  rw [val_main_v9_apply, val_main_v8_apply, ← v7_eq]
  have hb := b.isLt
  have hn := n.isLt
  have hj := j.isLt
  refine congrArg _ (funext fun q => Fin.ext ?_)
  match q with
  | ⟨0, _⟩ => show ((b.val * 1024 + n.val) * 1024 + j.val) / 1048576 = b.val; omega
  | ⟨1, _⟩ => show ((b.val * 1024 + n.val) * 1024 + j.val) / 1024 % 1024 = n.val; omega
  | ⟨2, _⟩ => show ((b.val * 1024 + n.val) * 1024 + j.val) / 1 % 1024 = j.val; omega
  | ⟨3, _⟩ => rfl

theorem v11_eq (b : Fin 4) (n j : Fin 1024) : val_main_v11 (F := Ideal) x0 x2 (ix3 b n j) = rcE (XA x0 b j) (XA x0 b n) (R9 x2 b n) 1 := by
  rw [val_main_v11_apply, val_main_v10_apply, ← v7_eq]
  have hb := b.isLt
  have hn := n.isLt
  have hj := j.isLt
  refine congrArg _ (funext fun q => Fin.ext ?_)
  match q with
  | ⟨0, _⟩ => show ((b.val * 1024 + n.val) * 1024 + j.val) / 1048576 = b.val; omega
  | ⟨1, _⟩ => show ((b.val * 1024 + n.val) * 1024 + j.val) / 1024 % 1024 = n.val; omega
  | ⟨2, _⟩ => show ((b.val * 1024 + n.val) * 1024 + j.val) / 1 % 1024 = j.val; omega
  | ⟨3, _⟩ => rfl

theorem v13_eq (b : Fin 4) (n j : Fin 1024) : val_main_v13 (F := Ideal) x0 x2 (ix3 b n j) = rcE (XA x0 b j) (XA x0 b n) (R9 x2 b n) 2 := by
  rw [val_main_v13_apply, val_main_v12_apply, ← v7_eq]
  have hb := b.isLt
  have hn := n.isLt
  have hj := j.isLt
  refine congrArg _ (funext fun q => Fin.ext ?_)
  match q with
  | ⟨0, _⟩ => show ((b.val * 1024 + n.val) * 1024 + j.val) / 1048576 = b.val; omega
  | ⟨1, _⟩ => show ((b.val * 1024 + n.val) * 1024 + j.val) / 1024 % 1024 = n.val; omega
  | ⟨2, _⟩ => show ((b.val * 1024 + n.val) * 1024 + j.val) / 1 % 1024 = j.val; omega
  | ⟨3, _⟩ => rfl

theorem v20_eq (b : Fin 4) (n j : Fin 1024) : val_main_v20 (F := Ideal) x2 (ix3 b n j) = R9 x2 b n 2 := by
  rw [val_main_v20_apply, val_main_v19_apply, val_main_v18_apply, val_main_v17_apply, val_main_v0_apply]
  have hb := b.isLt
  have hn := n.isLt
  refine congrArg x2 (funext fun q => Fin.ext ?_)
  match q with
  | ⟨0, _⟩ => show (((b.val * 1024 + n.val) / 1024 * 1024 + (b.val * 1024 + n.val) / 1 % 1024) * 9 + (2 + 0)) / 9216 = b.val; omega
  | ⟨1, _⟩ => show (((b.val * 1024 + n.val) / 1024 * 1024 + (b.val * 1024 + n.val) / 1 % 1024) * 9 + (2 + 0)) / 9 % 1024 = n.val; omega
  | ⟨2, _⟩ => show (((b.val * 1024 + n.val) / 1024 * 1024 + (b.val * 1024 + n.val) / 1 % 1024) * 9 + (2 + 0)) / 3 % 3 = 2 / 3; omega
  | ⟨3, _⟩ => show (((b.val * 1024 + n.val) / 1024 * 1024 + (b.val * 1024 + n.val) / 1 % 1024) * 9 + (2 + 0)) % 3 = 2 % 3; omega

/-- The reference's mask is the cylinder's. -/
theorem Mr_eq (b : Fin 4) (n j : Fin 1024) : Mr x0 x2 b n j = maskE (XA x0 b j) (XA x0 b n) (R9 x2 b n) := by
  unfold Mr maskE
  rw [val_main_v27_apply, val_main_v24_apply, val_main_v21_apply, val_main_v23_apply, val_main_v26_apply, val_main_v16_apply,
    val_main_v14_apply, val_main_v15_apply, v9_eq, v11_eq, v13_eq, v20_eq, val_main_v22_apply, val_main_v25_apply]
  rfl

/-- A sample's scaled relative coordinate. -/
theorem v73_eq (b : Fin 4) (c : Fin 3) (n : Fin 1024) (s : Fin 32) :
    val_main_v73 (F := Ideal) x0 x2 (ix4 b c n s) = Ideal.div (XA x0 b (selIdx (Mr x0 x2 b n) s.val) c - XA x0 b n c) radE := by
  rw [val_main_v73_apply, val_main_v71_apply, val_main_v68_apply, val_main_v70_apply, val_main_v69_apply, val_main_v59_apply, val_main_v72_apply]
  have hb := b.isLt
  have hc := c.isLt
  have hn := n.isLt
  have hs := s.isLt
  have e : val_main_v67 (F := Ideal) x0 x2 (idx_main_v68 (ix4 b c n s)) = XA x0 b (selIdx (Mr x0 x2 b n) s.val) c := by
    refine Eq.trans (congrArg _ (funext fun q => Fin.ext ?_)) (v67_eq x0 x2 b c n s)
    match q with
    | ⟨0, _⟩ => show (((b.val * 3 + c.val) * 1024 + n.val) * 32 + s.val) / 98304 = b.val; omega
    | ⟨1, _⟩ => show (((b.val * 3 + c.val) * 1024 + n.val) * 32 + s.val) / 32768 % 3 = c.val; omega
    | ⟨2, _⟩ => show (((b.val * 3 + c.val) * 1024 + n.val) * 32 + s.val) % 32768 = n.val * 32 + s.val; omega
  rw [e]
  refine congrArg (fun y : EReal => Ideal.div (XA x0 b (selIdx (Mr x0 x2 b n) s.val) c - y) radE) ?_
  exact congrArg x0 (funext fun a => by match a with | ⟨0, _⟩ => rfl | ⟨1, _⟩ => rfl | ⟨2, _⟩ => rfl)

theorem v76_eq (b : Fin 4) (a : Fin 3) (n : Fin 1024) (s : Fin 32) :
    val_main_v76 (F := Ideal) x0 x2 (ix4 b a n s)
      = ∑ k : Fin 3, Ideal.div (XA x0 b (selIdx (Mr x0 x2 b n) s.val) k - XA x0 b n k) radE * RA x2 b n k a := by
  rw [val_main_v76_apply, val_main_v75_apply]
  refine Finset.sum_congr rfl fun k _ => ?_
  rw [← v73_eq, val_main_v74_apply]
  exact congrArg₂ (fun x y : EReal => x * y) (congrArg _ (funext fun q => by match q with | ⟨0, _⟩ => rfl | ⟨1, _⟩ => rfl | ⟨2, _⟩ => rfl | ⟨3, _⟩ => rfl))
    (congrArg x2 (funext fun q => by match q with | ⟨0, _⟩ => rfl | ⟨1, _⟩ => rfl | ⟨2, _⟩ => rfl | ⟨3, _⟩ => rfl))

theorem v85_eq (b : Fin 4) (k : Fin 256) (n : Fin 1024) (s : Fin 32) :
    val_main_v85 (F := Ideal) x0 x1 x2 (ix4 b k n s) = FA x1 b k (selIdx (Mr x0 x2 b n) s.val) := by
  rw [val_main_v85_apply]
  have hb := b.isLt
  have hc := k.isLt
  have hn := n.isLt
  have hs := s.isLt
  refine Eq.trans (congrArg _ (funext fun q => Fin.ext ?_)) (v84_eq x0 x2 x1 b k n s)
  match q with
  | ⟨0, _⟩ => show (((b.val * 256 + k.val) * 1024 + n.val) * 32 + s.val) / 8388608 = b.val; omega
  | ⟨1, _⟩ => show (((b.val * 256 + k.val) * 1024 + n.val) * 32 + s.val) / 32768 % 256 = k.val; omega
  | ⟨2, _⟩ => show (((b.val * 256 + k.val) * 1024 + n.val) * 32 + s.val) % 32768 = n.val * 32 + s.val; omega

theorem v86_lo (b : Fin 4) (a : Fin 3) (n : Fin 1024) (s : Fin 32) :
    val_main_v86 (F := Ideal) x0 x1 x2 (ix4 b (⟨a.val, by omega⟩ : Fin 259) n s) = val_main_v76 (F := Ideal) x0 x2 (ix4 b a n s) := by
  unfold val_main_v86
  exact concatenate_pair_apply_left (t := S4x259x1024x32) (s₁ := S4x3x1024x32) (s₂ := S4x256x1024x32) (1 : Fin 4) (val_main_v76 (F := Ideal) x0 x2)
    (val_main_v85 (F := Ideal) x0 x1 x2) _ (ix4 b (⟨a.val, by omega⟩ : Fin 259) n s) rfl (ix4 b a n s)
    (fun q => by match q with | ⟨0, _⟩ => rfl | ⟨1, _⟩ => rfl | ⟨2, _⟩ => rfl | ⟨3, _⟩ => rfl)

theorem v86_hi (b : Fin 4) (k : Fin 256) (n : Fin 1024) (s : Fin 32) :
    val_main_v86 (F := Ideal) x0 x1 x2 (ix4 b (⟨3 + k.val, by omega⟩ : Fin 259) n s) = val_main_v85 (F := Ideal) x0 x1 x2 (ix4 b k n s) := by
  unfold val_main_v86
  exact concatenate_pair_apply_right (t := S4x259x1024x32) (s₁ := S4x3x1024x32) (s₂ := S4x256x1024x32) (1 : Fin 4) (val_main_v76 (F := Ideal) x0 x2)
    (val_main_v85 (F := Ideal) x0 x1 x2) _ (ix4 b (⟨3 + k.val, by omega⟩ : Fin 259) n s) rfl rfl (ix4 b k n s)
    (fun q hq => by match q with | ⟨0, _⟩ => rfl | ⟨1, _⟩ => exact absurd rfl hq | ⟨2, _⟩ => rfl | ⟨3, _⟩ => rfl)
    (by show k.val + 3 = 3 + k.val; omega)

/-- The reference's first layer before its normalization. -/
theorem v88_eq (b : Fin 4) (l : Fin 256) (n : Fin 1024) (s : Fin 32) :
    val_main_v88 (F := Ideal) x0 x1 x2 x3 (ix4 b l n s)
      = (∑ a : Fin 3, WA x3 l ⟨a.val, by omega⟩
          * ∑ k : Fin 3, Ideal.div (XA x0 b (selIdx (Mr x0 x2 b n) s.val) k - XA x0 b n k) radE * RA x2 b n k a)
        + ∑ k : Fin 256, WA x3 l ⟨3 + k.val, by omega⟩ * FA x1 b k (selIdx (Mr x0 x2 b n) s.val) := by
  rw [val_main_v88_apply, val_main_v87_apply]
  refine (Fin.sum_univ_add (M := EReal) (a := 3) (b := 256) _).trans (congrArg₂ (fun x y : EReal => x + y) ?_ ?_)
  · refine Finset.sum_congr rfl fun a _ => ?_
    rw [← v76_eq, ← v86_lo x0 x1 x2]
    exact congrArg₂ (fun x y : EReal => x * y) (congrArg x3 (funext fun q => by match q with | ⟨0, _⟩ => rfl | ⟨1, _⟩ => rfl))
      (congrArg _ (funext fun q => by match q with | ⟨0, _⟩ => rfl | ⟨1, _⟩ => rfl | ⟨2, _⟩ => rfl | ⟨3, _⟩ => rfl))
  · refine Finset.sum_congr rfl fun k _ => ?_
    rw [← v85_eq, ← v86_hi]
    exact congrArg₂ (fun x y : EReal => x * y) (congrArg x3 (funext fun q => by match q with | ⟨0, _⟩ => rfl | ⟨1, _⟩ => rfl))
      (congrArg _ (funext fun q => by match q with | ⟨0, _⟩ => rfl | ⟨1, _⟩ => rfl | ⟨2, _⟩ => rfl | ⟨3, _⟩ => rfl))

end Cert.Proof.Ref
-- ==== Proof.Rows.lean ====
module

public import proofs.«01_k».proof.Proof.Kit
public import Idealize.ShloMosaic.Lib.WritesUnit
public import Idealize.ShloMosaic.Lib.Pipeline.ValueKit.Acc
public import Idealize.ShloMosaic.Lib.Pipeline.ReadBack

@[expose] public section

noncomputable section

namespace Cert.Proof.Kit

open Idealize.ShloMosaic Idealize.ShloMosaic.ValueIdx

/-! A statistics block of eight rows of 256 channels, of which the kernels use the first two: the rows, read after the
    writes the kernels make. -/

/-- Eight rows of 256. -/
abbrev M8 : Shape := ⟨2, ![8, 256]⟩
/-- One row of 256. -/
abbrev M1 : Shape := ⟨2, ![1, 256]⟩
/-- A tile of 128 rows. -/
abbrev MT : Shape := ⟨2, ![128, 256]⟩

variable {sig : RefSig} {κ : Kind} {sp : Space}

theorem inbRow (r : Nat) (hr : r < 8) : ∀ a, (![r, 0] : Fin 2 → ℕ) a + M1.size a ≤ M8.size a := fun a => match a with
  | ⟨0, _⟩ => by show r + 1 ≤ 8; omega
  | ⟨1, _⟩ => by show 0 + 256 ≤ 256; omega

/-- Row `r` of a statistics block. -/
def rowL (r : Nat) (hr : r < 8) (x : Vec Ideal M8 .f32) : Vec Ideal M1 .f32 :=
  View.ld x (Rect.unit ![r, 0] M1.size (inbRow r hr))

theorem rowL_apply (r : Nat) (hr : r < 8) (x : Vec Ideal M8 .f32) (l : Fin 256) : rowL r hr x (ix2 0 l) = x (ix2 ⟨r, hr⟩ l) := by
  refine congrArg x (funext fun a => Fin.ext ?_)
  match a with
  | ⟨0, _⟩ => show r + 1 * 0 = r; omega
  | ⟨1, _⟩ => show 0 + 1 * l.val = l.val; omega

section Writes
variable (v : View sig κ sp M8 .f32) (f : v.ty.Contents (Elt Ideal)) (h1 : ∀ a, (![1, 0] : Fin 2 → ℕ) a + M1.size a ≤ M8.size a)
  (h0 : ∀ a, (![0, 0] : Fin 2 → ℕ) a + M1.size a ≤ M8.size a) (w1 w0 : Vec Ideal M1 .f32)
  (L : List (View.Piece (Elt Ideal) M8 .f32)) (l : Fin 256)

theorem writes_row1 : v.read (Elt Ideal) (v.writes (Elt Ideal) f ((⟨Rect.unit (s := M8) ![1, 0] M1.size h1, w1⟩ : View.Piece (Elt Ideal) M8 .f32)
    :: L)) (ix2 1 l) = w1 (ix2 0 l) :=
  View.read_writes_cons_unit_of_mem v f h1 w1 _ (ix2 1 l) (ix2 0 l) rfl fun a => match a with
    | ⟨0, _⟩ => rfl
    | ⟨1, _⟩ => (Nat.zero_add _).symm

theorem writes_row0 : v.read (Elt Ideal) (v.writes (Elt Ideal) f ((⟨Rect.unit (s := M8) ![1, 0] M1.size h1, w1⟩ : View.Piece (Elt Ideal) M8 .f32)
    :: (⟨Rect.unit (s := M8) ![0, 0] M1.size h0, w0⟩ : View.Piece (Elt Ideal) M8 .f32) :: L)) (ix2 0 l) = w0 (ix2 0 l) := by
  refine (View.read_writes_cons_unit_of_not_mem v f h1 w1 _ (ix2 0 l) rfl 0 (.inl ?_)).trans ?_
  · show (0 : ℕ) < 1; omega
  · exact View.read_writes_cons_unit_of_mem v f h0 w0 _ (ix2 0 l) (ix2 0 l) rfl fun a => match a with
      | ⟨0, _⟩ => rfl
      | ⟨1, _⟩ => (Nat.zero_add _).symm

theorem mem_row1 : (Rect.unit (s := M8) ![1, 0] M1.size h1).emb (ix2 0 l) = ix2 1 l := funext fun a => Fin.ext (match a with
    | ⟨0, _⟩ => rfl
    | ⟨1, _⟩ => by show 0 + 1 * l.val = l.val; omega)

theorem mem_row0 : (Rect.unit (s := M8) ![0, 0] M1.size h0).emb (ix2 0 l) = ix2 0 l := funext fun a => Fin.ext (match a with
    | ⟨0, _⟩ => rfl
    | ⟨1, _⟩ => by show 0 + 1 * l.val = l.val; omega)

theorem canon_row1 : View.canon ((⟨Rect.unit (s := M8) ![1, 0] M1.size h1, w1⟩ : View.Piece (Elt Ideal) M8 .f32) :: L) (ix2 1 l) = w1 (ix2 0 l) := by
  rw [← mem_row1 h1 l]; exact View.canon_cons_emb (Rect.unit (s := M8) ![1, 0] M1.size h1) w1 L (ix2 0 l)

theorem canon_row0 : View.canon ((⟨Rect.unit (s := M8) ![1, 0] M1.size h1, w1⟩ : View.Piece (Elt Ideal) M8 .f32)
    :: (⟨Rect.unit (s := M8) ![0, 0] M1.size h0, w0⟩ : View.Piece (Elt Ideal) M8 .f32) :: L) (ix2 0 l) = w0 (ix2 0 l) := by
  rw [View.canon_cons_of_not_mem]
  · rw [← mem_row0 h0 l]; exact View.canon_cons_emb (Rect.unit (s := M8) ![0, 0] M1.size h0) w0 L (ix2 0 l)
  · intro hm
    obtain ⟨x, hx⟩ := LoadRect.exists_idx_of_mem _ hm
    have := congrArg (fun i : M8.Idx => (i 0).val) hx
    have e : 1 + 1 * (x 0).val = 0 := this
    omega

variable (hw : ∀ a, (![0, 0] : Fin 2 → ℕ) a + M8.size a ≤ M8.size a) (z : Vec Ideal M8 .f32)

theorem hz00 : ∀ a : Fin 2, (![0, 0] : Fin 2 → ℕ) a = 0 := fun a => match a with
  | ⟨0, _⟩ => rfl
  | ⟨1, _⟩ => rfl

theorem readCov_row0 : v.readCov [(⟨Rect.unit (s := M8) ![0, 0] M8.size hw, z⟩ : View.Piece (Elt Ideal) M8 .f32)] (Rect.unit (s := M8) ![0, 0] M1.size h0).toLoadRect
    = rowL 0 (by decide) z :=
  View.readCov_fill v hw z [] _ hz00

theorem readCov_row1 : v.readCov [(⟨Rect.unit (s := M8) ![0, 0] M1.size h0, w0⟩ : View.Piece (Elt Ideal) M8 .f32),
    (⟨Rect.unit (s := M8) ![0, 0] M8.size hw, z⟩ : View.Piece (Elt Ideal) M8 .f32)] (Rect.unit (s := M8) ![1, 0] M1.size h1).toLoadRect
    = rowL 1 (by decide) z := by
  refine (View.readCov_eq_canon' v _ _).trans (funext fun j => ?_)
  rw [View.canon_cons_of_not_mem]
  · exact (congrFun (View.readCov_eq_canon' v [(⟨Rect.unit (s := M8) ![0, 0] M8.size hw, z⟩ : View.Piece (Elt Ideal) M8 .f32)] (Rect.unit (s := M8) ![1, 0] M1.size h1).toLoadRect) j).symm.trans
      (congrFun (View.readCov_fill v hw z [] (Rect.unit (s := M8) ![1, 0] M1.size h1) hz00) j)
  · intro hm
    obtain ⟨x, hx⟩ := LoadRect.exists_idx_of_mem _ hm
    have := congrArg (fun i : M8.Idx => (i 0).val) hx
    have e : 0 + 1 * (x 0).val = 1 + 1 * (j 0).val := this
    have hx0 : (x 0).val < 1 := (x 0).isLt
    omega

end Writes

/-- A row of column sums added to what a row held. -/
def accRow (S : FVec Ideal MT .f32) (prev : Vec Ideal M1 .f32) : FVec Ideal M1 .f32 :=
  shapeCast M1 (addf prev (shapeCast M1 (multiReduction .add [0] ⟨1, ![256]⟩ S 0x00000000#32 (by decide) (.inl rfl) rfl) (by decide))) (by decide)

theorem accRow_apply (S : FVec Ideal MT .f32) (prev : Vec Ideal M1 .f32) (l : Fin 256) :
    accRow S prev (ix2 0 l) = prev (ix2 0 l) + ∑ r : Fin 128, S (ix2 r l) := by
  unfold accRow
  rw [shapeCast_self, addf_apply, castRow1]
  exact congrArg (prev (ix2 0 l) + ·) (sumRows S _ _ _ _ l)

/-- A left-to-right chain of an operation over the first `n + 1` members. -/
def chain {α : Type} (op : α → α → α) (a : α) (f : Nat → α) (n : Nat) : α := Nat.rec (motive := fun _ => α) a (fun k x => op x (f (k + 1))) n

theorem chain_apply {ι α : Type} (op : (ι → α) → (ι → α) → ι → α) (op' : α → α → α) (h : ∀ x y i, op x y i = op' (x i) (y i))
    (a : ι → α) (f : Nat → ι → α) (n : Nat) (i : ι) : chain op a f n i = chain op' (a i) (fun s => f s i) n := by
  induction n with
  | zero => rfl
  | succ n ih => exact (h _ _ _).trans (congrArg (op' · (f (n + 1) i)) ih)

theorem chain_add (f : Nat → EReal) (n : Nat) : chain (· + ·) (0 + f 0) f n = ∑ s : Fin (n + 1), f s.val := by
  induction n with
  | zero => rw [Fin.sum_univ_one]; exact zero_add _
  | succ n ih => rw [Fin.sum_univ_castSucc]; exact congrArg (· + f (n + 1)) ih

end Cert.Proof.Kit
-- ==== Proof.K0Value.lean ====
module

public import proofs.«01_k».proof.Proof.K0Frame
public import proofs.«01_k».proof.Proof.Rows
public import proofs.«01_k».proof.Proof.Spec0
public import Idealize.ShloMosaic.Lib.IdealHost
public import Idealize.ShloMosaic.Lib.MatmulPlain
public import Idealize.ShloMosaic.Lib.Pipeline.ValueKit.Acc
public import Idealize.ShloMosaic.Lib.Pipeline.ValueKit.Geometry

@[expose] public section

set_option maxRecDepth 16384

noncomputable section

namespace Cert.Proof.K0

open Cert.KernelIdeal Cert.KernelIdeal.Gen
open Idealize.ShloMosaic Idealize.ShloMosaic.TcCoe Idealize.ShloMosaic.ValueIdx Cert.Proof.Kit
open Idealize.ShloMosaic.Pipeline (Dat)

variable (V : (c : Dev nD) → (b : Ref sig .tc) → Buf (Elt Ideal) ((c : Thread nD τ).loc b))

/-! ## The body, said once for all the samples -/

/-- Where the running count is `s + 1`: the one-hot rows that pick sample `s`. -/
def oh (cm : FVec Ideal S128x1024 .f32) (s : Nat) : FVec Ideal S128x1024 .bf16 :=
  truncf .bf16 (select (cmpf .oeq cm (broadcast S128x1024 (Scalar.ofBits .f32 (natBits (s + 1)))))
    (broadcast S128x1024 (Scalar.ofBits .f32 0x3F800000#32)) (broadcast S128x1024 (Scalar.ofBits .f32 0x00000000#32))) bitsLt_bf16_f32

theorem concats (f : Fin 8 → FVec Ideal S128x1024 .bf16) :
    Shape.Concatenates ((List.ofFn fun k : Fin 8 => (⟨S128x1024, f k⟩ : (s : Shape) × (s.Idx → EReal))).map (·.1)) S1024x1024 0 :=
  concatenates_S128x1024_S128x1024_S128x1024_S128x1024_S128x1024_S128x1024_S128x1024_S128x1024_S1024x1024_d0

/-- Eight samples' picks from the table. -/
def grp (cm : FVec Ideal S128x1024 .f32) (tab : Vec Ideal S1024x264 .bf16) (g : Nat) : FVec Ideal S1024x264 .f32 :=
  matmul dot_S1024x1024_S1024x264_S1024x264_1_0_0_1_n_n none
    (φ₁ := .bf16) (φ₂ := .bf16) (concatenate (α := EReal) S1024x1024 0 (List.ofFn fun k : Fin 8 => (⟨S128x1024, oh cm (8 * g + k.val)⟩ : (s : Shape) × (s.Idx → EReal)))
      (concats fun k => oh cm (8 * g + k.val))) tab
    (constant S1024x264 .f32 0x00000000#32)

theorem slices (s : Nat) : S1024x264.Slices ![128 * (s % 8), 0] S128x264 :=
  ⟨rfl, fun a => match a with
    | ⟨0, _⟩ => by show 128 * (s % 8) + 128 ≤ 1024; omega
    | ⟨1, _⟩ => by show 0 + 264 ≤ 264; omega⟩

/-- Sample `s`'s table rows: the picked ones, or row 0 where the ball holds fewer. -/
def rowsJ (cm : FVec Ideal S128x1024 .f32) (tot : FVec Ideal S128x1 .f32) (tab : Vec Ideal S1024x264 .bf16) (s : Nat) : FVec Ideal S128x264 .f32 :=
  select (broadcastTo S128x264 (shapeCast S128x1 (cmpf .ogt tot (broadcast S128x1 (Scalar.ofBits .f32 (natBits s)))) shapeCasts_S128x1_S128x1) broadcasts_S128x1_S128x264)
    (extractStridedSlice S128x264 ![128 * (s % 8), 0] (grp cm tab (s / 8)) (slices s))
    (broadcastTo S128x264 (shapeCast S1x264 (k0_pay30 tab) shapeCasts_S1x264_S1x264) broadcasts_S1x264_S128x264)

/-- The first layer's values from a sample's table rows. -/
def layer1 (rj : FVec Ideal S128x264 .f32) (cd : FVec Ideal S128x3 .f32) (m0 m1 m2 : FVec Ideal S128x256 .f32) : FVec Ideal S128x256 .f32 :=
  addf (addf (addf (extractStridedSlice S128x256 ![0, 0] rj slices_S128x264_o0_0_S128x256)
    (mulf (broadcastTo S128x256 (extf .f32 (truncf .bf16 (subf (addf (extractStridedSlice S128x1 ![0, 256] rj slices_S128x264_o0_256_S128x1)
      (extractStridedSlice S128x1 ![0, 259] rj slices_S128x264_o0_259_S128x1)) (extractStridedSlice S128x1 ![0, 0] cd slices_S128x3_o0_0_S128x1)) bitsLt_bf16_f32) bitsLt_bf16_f32)
      broadcasts_S128x1_S128x256) m0))
    (mulf (broadcastTo S128x256 (extf .f32 (truncf .bf16 (subf (addf (extractStridedSlice S128x1 ![0, 257] rj slices_S128x264_o0_257_S128x1)
      (extractStridedSlice S128x1 ![0, 260] rj slices_S128x264_o0_260_S128x1)) (extractStridedSlice S128x1 ![0, 1] cd slices_S128x3_o0_1_S128x1)) bitsLt_bf16_f32) bitsLt_bf16_f32)
      broadcasts_S128x1_S128x256) m1))
    (mulf (broadcastTo S128x256 (extf .f32 (truncf .bf16 (subf (addf (extractStridedSlice S128x1 ![0, 258] rj slices_S128x264_o0_258_S128x1)
      (extractStridedSlice S128x1 ![0, 261] rj slices_S128x264_o0_261_S128x1)) (extractStridedSlice S128x1 ![0, 2] cd slices_S128x3_o0_2_S128x1)) bitsLt_bf16_f32) bitsLt_bf16_f32)
      broadcasts_S128x1_S128x256) m2)

variable {V}

/-- Which points lie in the cylinder of which centre. -/
def maskT (c : Dev nD) (t : Fin cfg0.N) : IVec S128x1024 1 :=
  k0_pay21 (k0_pay7 (iblk V c 3 t)) (k0_pay8 (iblk V c 0 t) (iblk V c 2 t)) (k0_pay9 (iblk V c 0 t) (iblk V c 2 t)) (k0_pay10 (iblk V c 0 t) (iblk V c 2 t))
    (k0_pay11 (iblk V c 3 t)) (k0_pay12 (iblk V c 3 t)) (k0_pay13 (iblk V c 3 t))
/-- The running count at the points inside, 0 elsewhere. -/
def cmT (c : Dev nD) (t : Fin cfg0.N) : FVec Ideal S128x1024 .f32 :=
  k0_pay23 (maskT (V := V) c t) (Scalar.ofBits .f32 0x3F800000#32) (Scalar.ofBits .f32 0x00000000#32) (iblk V c 4 t)
/-- How many points lie inside. -/
def totT (c : Dev nD) (t : Fin cfg0.N) : FVec Ideal S128x1 .f32 :=
  k0_pay24 (maskT (V := V) c t) (Scalar.ofBits .f32 0x3F800000#32) (Scalar.ofBits .f32 0x00000000#32) (iblk V c 4 t)
/-- The coordinate weights turned by the rotation. -/
def m0T (c : Dev nD) (t : Fin cfg0.N) : FVec Ideal S128x256 .f32 :=
  k0_pay26 (k0_pay11 (iblk V c 3 t)) (k0_pay12 (iblk V c 3 t)) (k0_pay14 (k0_pay13 (iblk V c 3 t))) (iblk V c 7 t)
def m1T (c : Dev nD) (t : Fin cfg0.N) : FVec Ideal S128x256 .f32 :=
  k0_pay27 (k0_pay15 (k0_pay7 (iblk V c 3 t))) (k0_pay16 (k0_pay7 (iblk V c 3 t))) (k0_pay17 (k0_pay7 (iblk V c 3 t))) (iblk V c 7 t)
def m2T (c : Dev nD) (t : Fin cfg0.N) : FVec Ideal S128x256 .f32 :=
  k0_pay29 (k0_pay18 (k0_pay7 (iblk V c 3 t))) (k0_pay19 (k0_pay7 (iblk V c 3 t))) (k0_pay20 (k0_pay7 (iblk V c 3 t))) (k0_pay25 (iblk V c 7 t)) (k0_pay28 (iblk V c 7 t))
/-- Sample `s`'s first-layer slab, picked from the table `tab`. -/
def smT (c : Dev nD) (t : Fin cfg0.N) (tab : Vec Ideal S1024x264 .bf16) (s : Nat) : FVec Ideal S128x256 .f32 :=
  layer1 (rowsJ (cmT (V := V) c t) (totT (V := V) c t) tab s) (k0_pay31 (k0_pay6 (iblk V c 2 t))) (m0T (V := V) c t) (m1T (V := V) c t) (m2T (V := V) c t)

/-- The store of sample `s`'s slab. -/
def piece (f : Nat → Vec Ideal S1x1x128x256 .bf16) (s : Nat) : View.Piece (Elt Ideal) S1x32x128x256 .bf16 :=
  ⟨Rect.unit (s := S1x32x128x256) ![0, s % 32, 0, 0] S1x1x128x256.size fun a => match a with
    | ⟨0, _⟩ => by show 0 + 1 ≤ 1; omega
    | ⟨1, _⟩ => by show s % 32 + 1 ≤ 32; omega
    | ⟨2, _⟩ => by show 0 + 128 ≤ 128; omega
    | ⟨3, _⟩ => by show 0 + 256 ≤ 256; omega, f s⟩

/-- The stores of the first `n` samples, the latest first. -/
def pieces (f : Nat → Vec Ideal S1x1x128x256 .bf16) (n : Nat) : List (View.Piece (Elt Ideal) S1x32x128x256 .bf16) :=
  Nat.rec (motive := fun _ => List (View.Piece (Elt Ideal) S1x32x128x256 .bf16)) [] (fun k L => piece f k :: L) n

variable (V)

/-- What a point stores for a sample. -/
def slabT (c : Dev nD) (t : Fin cfg0.N) (tab : Vec Ideal S1024x264 .bf16) (s : Nat) : Vec Ideal S1x1x128x256 .bf16 :=
  shapeCast S1x1x128x256 (truncf .bf16 (smT (V := V) c t tab s) bitsLt_bf16_f32) shapeCasts_S128x256_S1x1x128x256

/-- The table made from a point's blocks. -/
def tabT (c : Dev nD) (t : Fin cfg0.N) : Vec Ideal S1024x264 .bf16 := k0_pay4 (iblk V c 5 t) (iblk V c 6 t) (iblk V c 1 t)

end Cert.Proof.K0
-- ==== Proof.K0Acc.lean ====
module

public import proofs.«01_k».proof.Proof.K0Value

@[expose] public section

set_option maxRecDepth 16384

noncomputable section

namespace Cert.Proof.K0

open Cert.KernelIdeal Cert.KernelIdeal.Gen
open Idealize.ShloMosaic Idealize.ShloMosaic.TcCoe Idealize.ShloMosaic.ValueIdx Cert.Proof.Kit
open Idealize.ShloMosaic.Pipeline (Dat)

variable (V : (c : Dev nD) → (b : Ref sig .tc) → Buf (Elt Ideal) ((c : Thread nD τ).loc b))

/-! What each kind of grid point leaves: the block of first-layer values, the table, the two accumulated rows. -/

/-- The first-layer values summed over the samples. -/
def sumS (c : Dev nD) (t : Fin cfg0.N) (tab : Vec Ideal S1024x264 .bf16) : FVec Ideal S128x256 .f32 :=
  chain addf (addf (broadcast S128x256 (Scalar.ofBits .f32 0x00000000#32)) (smT (V := V) c t tab 0)) (smT (V := V) c t tab) 31
/-- Their squares summed over the samples. -/
def sumQ (c : Dev nD) (t : Fin cfg0.N) (tab : Vec Ideal S1024x264 .bf16) : FVec Ideal S128x256 .f32 :=
  chain addf (addf (broadcast S128x256 (Scalar.ofBits .f32 0x00000000#32)) (mulf (smT (V := V) c t tab 0) (smT (V := V) c t tab 0)))
    (fun s => mulf (smT (V := V) c t tab s) (smT (V := V) c t tab s)) 31

/-- The point before's results. -/
abbrev prev (c : Dev nD) (t : Fin cfg0.N) := outsAt0 V c (t.val - 1) (Nat.lt_of_le_of_lt (Nat.sub_le _ _) t.isLt)

theorem tab_A (c : Dev nD) (t : Fin cfg0.N) (h0 : t.val % 32 = 0) (h1 : t.val % 8 = 0) (h2 : ¬t.val % 32 = 31) :
    (outsAt0 V c t.val t.isLt).2.2.1 = (tabT V c t) := by
  rw [outsAt0_A V c t h0 h1 h2]
  dsimp only
  frame_out
  sl_kernel_rfl

theorem out8_A (c : Dev nD) (t : Fin cfg0.N) (h0 : t.val % 32 = 0) (h1 : t.val % 8 = 0) (h2 : ¬t.val % 32 = 31) :
    (outsAt0 V c t.val t.isLt).1 = View.canon (pieces (slabT V c t (tabT V c t)) 32) := by
  rw [outsAt0_A V c t h0 h1 h2]
  dsimp only
  frame_out
  show _ = View.canon (pieces (slabT V c t (tabT V c t)) 32)
  sl_kernel_rfl

theorem acc0_A (c : Dev nD) (t : Fin cfg0.N) (h0 : t.val % 32 = 0) (h1 : t.val % 8 = 0) (h2 : ¬t.val % 32 = 31) (l : Fin 256) :
    (outsAt0 V c t.val t.isLt).2.2.2 (ix2 0 l) = accRow (sumS V c t (tabT V c t)) (rowL 0 (by decide) (k0_pay3 (F := Ideal))) (ix2 0 l) := by
  rw [outsAt0_A V c t h0 h1 h2]
  dsimp only
  frame_out
  refine (canon_row0 _ _ _ _ _ _).trans ?_
  rw [readCov_row0]
  refine congrFun (?_ : _ = accRow (sumS V c t (tabT V c t)) (rowL 0 (by decide) (k0_pay3 (F := Ideal)))) _
  sl_kernel_rfl

theorem acc1_A (c : Dev nD) (t : Fin cfg0.N) (h0 : t.val % 32 = 0) (h1 : t.val % 8 = 0) (h2 : ¬t.val % 32 = 31) (l : Fin 256) :
    (outsAt0 V c t.val t.isLt).2.2.2 (ix2 1 l) = accRow (sumQ V c t (tabT V c t)) (rowL 1 (by decide) (k0_pay3 (F := Ideal))) (ix2 0 l) := by
  rw [outsAt0_A V c t h0 h1 h2]
  dsimp only
  frame_out
  refine (canon_row1 _ _ _ _).trans ?_
  rw [readCov_row1]
  refine congrFun (?_ : _ = accRow (sumQ V c t (tabT V c t)) (rowL 1 (by decide) (k0_pay3 (F := Ideal)))) _
  sl_kernel_rfl

theorem tab_B (c : Dev nD) (t : Fin cfg0.N) (h0 : ¬t.val % 32 = 0) (h1 : ¬t.val % 8 = 0) (h2 : ¬t.val % 32 = 31) :
    (outsAt0 V c t.val t.isLt).2.2.1 = (prev V c t).2.2.1 := by
  rw [outsAt0_B V c t h0 h1 h2]
  dsimp only
  generalize (prev V c t).2.2.1 = P
  generalize (prev V c t).2.2.2 = Q
  rfl

theorem out8_B (c : Dev nD) (t : Fin cfg0.N) (h0 : ¬t.val % 32 = 0) (h1 : ¬t.val % 8 = 0) (h2 : ¬t.val % 32 = 31) :
    (outsAt0 V c t.val t.isLt).1 = View.canon (pieces (slabT V c t (prev V c t).2.2.1) 32) := by
  rw [outsAt0_B V c t h0 h1 h2]
  dsimp only
  generalize (prev V c t).2.2.1 = P
  generalize (prev V c t).2.2.2 = Q
  frame_out
  repeat rw [Idealize.ShloMosaic.read_unread_whole]
  show _ = View.canon (pieces (slabT V c t P) 32)
  sl_kernel_rfl

theorem acc0_B (c : Dev nD) (t : Fin cfg0.N) (h0 : ¬t.val % 32 = 0) (h1 : ¬t.val % 8 = 0) (h2 : ¬t.val % 32 = 31) (l : Fin 256) :
    (outsAt0 V c t.val t.isLt).2.2.2 (ix2 0 l) = accRow (sumS V c t (prev V c t).2.2.1) (rowL 0 (by decide) (prev V c t).2.2.2) (ix2 0 l) := by
  rw [outsAt0_B V c t h0 h1 h2]
  dsimp only
  generalize (prev V c t).2.2.1 = P
  generalize (prev V c t).2.2.2 = Q
  frame_out
  refine (writes_row0 _ _ _ _ _ _ _ _).trans ?_
  repeat rw [Idealize.ShloMosaic.read_unread_whole]
  refine congrFun (?_ : _ = accRow (sumS V c t P) (rowL 0 (by decide) Q)) _
  sl_kernel_rfl

theorem acc1_B (c : Dev nD) (t : Fin cfg0.N) (h0 : ¬t.val % 32 = 0) (h1 : ¬t.val % 8 = 0) (h2 : ¬t.val % 32 = 31) (l : Fin 256) :
    (outsAt0 V c t.val t.isLt).2.2.2 (ix2 1 l) = accRow (sumQ V c t (prev V c t).2.2.1) (rowL 1 (by decide) (prev V c t).2.2.2) (ix2 0 l) := by
  rw [outsAt0_B V c t h0 h1 h2]
  dsimp only
  generalize (prev V c t).2.2.1 = P
  generalize (prev V c t).2.2.2 = Q
  frame_out
  refine (writes_row1 _ _ _ _ _ _).trans ?_
  repeat rw [Idealize.ShloMosaic.read_unread_whole]
  refine congrFun (?_ : _ = accRow (sumQ V c t P) (rowL 1 (by decide) Q)) _
  sl_kernel_rfl

theorem tab_C (c : Dev nD) (t : Fin cfg0.N) (h0 : ¬t.val % 32 = 0) (h1 : t.val % 8 = 0) (h2 : ¬t.val % 32 = 31) :
    (outsAt0 V c t.val t.isLt).2.2.1 = (tabT V c t) := by
  rw [outsAt0_C V c t h0 h1 h2]
  dsimp only
  generalize (prev V c t).2.2.2 = Q
  frame_out
  sl_kernel_rfl

theorem out8_C (c : Dev nD) (t : Fin cfg0.N) (h0 : ¬t.val % 32 = 0) (h1 : t.val % 8 = 0) (h2 : ¬t.val % 32 = 31) :
    (outsAt0 V c t.val t.isLt).1 = View.canon (pieces (slabT V c t (tabT V c t)) 32) := by
  rw [outsAt0_C V c t h0 h1 h2]
  dsimp only
  generalize (prev V c t).2.2.2 = Q
  frame_out
  show _ = View.canon (pieces (slabT V c t (tabT V c t)) 32)
  sl_kernel_rfl

theorem acc0_C (c : Dev nD) (t : Fin cfg0.N) (h0 : ¬t.val % 32 = 0) (h1 : t.val % 8 = 0) (h2 : ¬t.val % 32 = 31) (l : Fin 256) :
    (outsAt0 V c t.val t.isLt).2.2.2 (ix2 0 l) = accRow (sumS V c t (tabT V c t)) (rowL 0 (by decide) (prev V c t).2.2.2) (ix2 0 l) := by
  rw [outsAt0_C V c t h0 h1 h2]
  dsimp only
  generalize (prev V c t).2.2.2 = Q
  frame_out
  refine (writes_row0 _ _ _ _ _ _ _ _).trans ?_
  repeat rw [Idealize.ShloMosaic.read_unread_whole]
  refine congrFun (?_ : _ = accRow (sumS V c t (tabT V c t)) (rowL 0 (by decide) Q)) _
  sl_kernel_rfl

theorem acc1_C (c : Dev nD) (t : Fin cfg0.N) (h0 : ¬t.val % 32 = 0) (h1 : t.val % 8 = 0) (h2 : ¬t.val % 32 = 31) (l : Fin 256) :
    (outsAt0 V c t.val t.isLt).2.2.2 (ix2 1 l) = accRow (sumQ V c t (tabT V c t)) (rowL 1 (by decide) (prev V c t).2.2.2) (ix2 0 l) := by
  rw [outsAt0_C V c t h0 h1 h2]
  dsimp only
  generalize (prev V c t).2.2.2 = Q
  frame_out
  refine (writes_row1 _ _ _ _ _ _).trans ?_
  repeat rw [Idealize.ShloMosaic.read_unread_whole]
  refine congrFun (?_ : _ = accRow (sumQ V c t (tabT V c t)) (rowL 1 (by decide) Q)) _
  sl_kernel_rfl

theorem tab_D (c : Dev nD) (t : Fin cfg0.N) (h0 : ¬t.val % 32 = 0) (h1 : ¬t.val % 8 = 0) (h2 : t.val % 32 = 31) :
    (outsAt0 V c t.val t.isLt).2.2.1 = (prev V c t).2.2.1 := by
  rw [outsAt0_D V c t h0 h1 h2]
  dsimp only
  generalize (prev V c t).2.2.1 = P
  generalize (prev V c t).2.2.2 = Q
  rfl

theorem out8_D (c : Dev nD) (t : Fin cfg0.N) (h0 : ¬t.val % 32 = 0) (h1 : ¬t.val % 8 = 0) (h2 : t.val % 32 = 31) :
    (outsAt0 V c t.val t.isLt).1 = View.canon (pieces (slabT V c t (prev V c t).2.2.1) 32) := by
  rw [outsAt0_D V c t h0 h1 h2]
  dsimp only
  generalize (prev V c t).2.2.1 = P
  generalize (prev V c t).2.2.2 = Q
  frame_out
  repeat rw [Idealize.ShloMosaic.read_unread_whole]
  show _ = View.canon (pieces (slabT V c t P) 32)
  sl_kernel_rfl

theorem acc0_D (c : Dev nD) (t : Fin cfg0.N) (h0 : ¬t.val % 32 = 0) (h1 : ¬t.val % 8 = 0) (h2 : t.val % 32 = 31) (l : Fin 256) :
    (outsAt0 V c t.val t.isLt).2.1 (ix2 0 l) = accRow (sumS V c t (prev V c t).2.2.1) (rowL 0 (by decide) (prev V c t).2.2.2) (ix2 0 l) := by
  rw [outsAt0_D V c t h0 h1 h2]
  dsimp only
  generalize (prev V c t).2.2.1 = P
  generalize (prev V c t).2.2.2 = Q
  frame_out
  refine (writes_row0 _ _ _ _ _ _ _ _).trans ?_
  repeat rw [Idealize.ShloMosaic.read_unread_whole]
  refine congrFun (?_ : _ = accRow (sumS V c t P) (rowL 0 (by decide) Q)) _
  sl_kernel_rfl

theorem acc1_D (c : Dev nD) (t : Fin cfg0.N) (h0 : ¬t.val % 32 = 0) (h1 : ¬t.val % 8 = 0) (h2 : t.val % 32 = 31) (l : Fin 256) :
    (outsAt0 V c t.val t.isLt).2.1 (ix2 1 l) = accRow (sumQ V c t (prev V c t).2.2.1) (rowL 1 (by decide) (prev V c t).2.2.2) (ix2 0 l) := by
  rw [outsAt0_D V c t h0 h1 h2]
  dsimp only
  generalize (prev V c t).2.2.1 = P
  generalize (prev V c t).2.2.2 = Q
  frame_out
  refine (writes_row1 _ _ _ _ _ _).trans ?_
  repeat rw [Idealize.ShloMosaic.read_unread_whole]
  refine congrFun (?_ : _ = accRow (sumQ V c t P) (rowL 1 (by decide) Q)) _
  sl_kernel_rfl

end Cert.Proof.K0
-- ==== Proof.K0Point.lean ====
module

public import proofs.«01_k».proof.Proof.K0Acc

@[expose] public section

set_option maxRecDepth 16384

noncomputable section

namespace Cert.Proof.K0

open Cert.KernelIdeal Cert.KernelIdeal.Gen
open Idealize.ShloMosaic Idealize.ShloMosaic.TcCoe Idealize.ShloMosaic.ValueIdx Cert.Proof.Kit
open Idealize.ShloMosaic.Pipeline (Dat)

variable (V : (c : Dev nD) → (b : Ref sig .tc) → Buf (Elt Ideal) ((c : Thread nD τ).loc b))

/-! The body's operations, read at an index. -/

theorem slice2' {α : Type} {M N m n : Nat} (o p : Nat) (x : (⟨2, ![M, N]⟩ : Shape).Idx → α)
    (h : (⟨2, ![M, N]⟩ : Shape).Slices ![o, p] ⟨2, ![m, n]⟩) (r : Fin m) (l : Fin n) :
    extractStridedSlice ⟨2, ![m, n]⟩ ![o, p] x h (ix2 r l)
      = x (ix2 ⟨o + r.val, Nat.lt_of_lt_of_le (Nat.add_lt_add_left r.isLt o) (h.2 0)⟩ ⟨p + l.val, Nat.lt_of_lt_of_le (Nat.add_lt_add_left l.isLt p) (h.2 1)⟩) :=
  slice2 o p x h r l _ _

theorem andi_at {s : Shape} {w : Nat} (x y : IVec s w) (i : s.Idx) : andi x y i = IntOp.andi (x i) (y i) := rfl

theorem e0 : (Scalar.ofBits .f32 0x00000000#32 : Ideal .f32) = 0 := Ideal.ofBits_zero_f32
theorem e1 : (Scalar.ofBits .f32 0x3F800000#32 : Ideal .f32) = 1 := Ideal.ofBits_one_f32

section Blocks
variable (x0 : Vec Ideal S1x3x1024 .f32) (x2 : Vec Ideal S1x128x3 .f32) (x3 : Vec Ideal S1x128x9 .f32) (x4 : Vec Ideal S1024x1024 .bf16) (x7 : Vec Ideal S8x256 .f32)

theorem mask_apply (r : Fin 128) (j : Fin 1024) :
    k0_pay21 (F := Ideal) (k0_pay7 x3) (k0_pay8 x0 x2) (k0_pay9 x0 x2) (k0_pay10 x0 x2) (k0_pay11 x3) (k0_pay12 x3) (k0_pay13 x3) (ix2 r j)
      = maskE (fun k => x0 (ix3 0 k j)) (fun k => x2 (ix3 0 r k)) (fun q => x3 (ix3 0 r q)) := by
  simp only [k0_pay21, k0_pay7, k0_pay8, k0_pay9, k0_pay10, k0_pay11, k0_pay12, k0_pay13, k0_pay14, k0_pay15, k0_pay16, k0_pay17, k0_pay18, k0_pay19,
    k0_pay20, k0_pay5, k0_pay6, andi_at, cmpf_apply, addf_apply, mulf_apply, subf_apply, broadcast_apply, truncf_apply, extf_apply, bcastRow, bcastCol,
    slice2', castDrop3, Nat.zero_add]
  rfl

theorem csum_apply (M : IVec S128x1024 1) (r : Fin 128) (j : Fin 1024) :
    k0_pay22 (F := Ideal) M (Scalar.ofBits .f32 0x3F800000#32) (Scalar.ofBits .f32 0x00000000#32) x4 (ix2 r j)
      = csumE (fun i => M (ix2 r i)) (fun i j => x4 (ix2 i j)) j := by
  unfold k0_pay22
  refine (Ideal.matmul_plain_apply (M := 128) (K := 1024) (N := 1024) none _ _ _ _ _).trans ?_
  have h0 : constant (F := Ideal) S128x1024 .f32 0x00000000#32 (ix2 r j) = 0 := Ideal.ofBits_zero_f32
  rw [h0, zero_add]
  unfold csumE
  refine Finset.sum_congr rfl fun k _ => ?_
  simp only [truncf_apply, select_apply, broadcast_apply, shapeCast_self, e0, e1]

theorem cm_apply (M : IVec S128x1024 1) (r : Fin 128) (j : Fin 1024) :
    k0_pay23 (F := Ideal) M (Scalar.ofBits .f32 0x3F800000#32) (Scalar.ofBits .f32 0x00000000#32) x4 (ix2 r j)
      = Scalar.select (M (ix2 r j)) (csumE (fun i => M (ix2 r i)) (fun i j => x4 (ix2 i j)) j) 0 := by
  unfold k0_pay23
  rw [select_apply, broadcast_apply, csum_apply, e0]

theorem tot_apply (M : IVec S128x1024 1) (r : Fin 128) :
    k0_pay24 (F := Ideal) M (Scalar.ofBits .f32 0x3F800000#32) (Scalar.ofBits .f32 0x00000000#32) x4 (ix2 r 0)
      = csumE (fun i => M (ix2 r i)) (fun i j => x4 (ix2 i j)) 1023 := by
  unfold k0_pay24
  rw [slice2', ← csum_apply]
  refine congrArg _ ?_
  refine congrArg₂ ix2 (Fin.ext (Nat.zero_add _)) rfl

theorem m0_apply (r : Fin 128) (l : Fin 256) :
    k0_pay26 (F := Ideal) (k0_pay11 x3) (k0_pay12 x3) (k0_pay14 (k0_pay13 x3)) x7 (ix2 r l)
      = mkE (fun q => x3 (ix3 0 r q)) (fun k => x7 (ix2 ⟨k.val, by omega⟩ l)) 0 := by
  simp only [k0_pay26, k0_pay25, k0_pay7, k0_pay11, k0_pay12, k0_pay13, k0_pay14, addf_apply, mulf_apply, truncf_apply, extf_apply, bcastRow, bcastCol,
    slice2', castDrop3, shapeCast_self, Nat.zero_add]
  rfl
theorem m1_apply (r : Fin 128) (l : Fin 256) :
    k0_pay27 (F := Ideal) (k0_pay15 (k0_pay7 x3)) (k0_pay16 (k0_pay7 x3)) (k0_pay17 (k0_pay7 x3)) x7 (ix2 r l)
      = mkE (fun q => x3 (ix3 0 r q)) (fun k => x7 (ix2 ⟨k.val, by omega⟩ l)) 1 := by
  simp only [k0_pay27, k0_pay25, k0_pay7, k0_pay15, k0_pay16, k0_pay17, addf_apply, mulf_apply, truncf_apply, extf_apply, bcastRow, bcastCol,
    slice2', castDrop3, shapeCast_self, Nat.zero_add]
  rfl
theorem m2_apply (r : Fin 128) (l : Fin 256) :
    k0_pay29 (F := Ideal) (k0_pay18 (k0_pay7 x3)) (k0_pay19 (k0_pay7 x3)) (k0_pay20 (k0_pay7 x3)) (k0_pay25 x7) (k0_pay28 x7) (ix2 r l)
      = mkE (fun q => x3 (ix3 0 r q)) (fun k => x7 (ix2 ⟨k.val, by omega⟩ l)) 2 := by
  simp only [k0_pay29, k0_pay28, k0_pay25, k0_pay7, k0_pay18, k0_pay19, k0_pay20, addf_apply, mulf_apply, truncf_apply, extf_apply, bcastRow, bcastCol,
    slice2', castDrop3, shapeCast_self, Nat.zero_add]
  rfl

theorem cdiv_apply (r : Fin 128) (k : Fin 3) : k0_pay31 (F := Ideal) (k0_pay6 x2) (ix2 r k) = Ideal.div (x2 (ix3 0 r k)) radE := by
  simp only [k0_pay31, k0_pay6, divf_apply, broadcast_apply, castDrop3]
  rfl

end Blocks

theorem oh_apply (cm : FVec Ideal S128x1024 .f32) (s : Nat) (r : Fin 128) (j : Fin 1024) :
    oh cm s (ix2 r j) = Scalar.select (Ideal.cmp .oeq (cm (ix2 r j)) (Ideal.ofBits .f32 (natBits (s + 1)))) (1 : EReal) 0 := by
  simp only [oh, truncf_apply, select_apply, cmpf_apply, broadcast_apply, e0, e1]
  rfl

theorem grp_apply (cm : FVec Ideal S128x1024 .f32) (tab : Vec Ideal S1024x264 .bf16) (s : Nat) (r : Fin 128) (l : Fin 264) :
    extractStridedSlice S128x264 ![128 * (s % 8), 0] (grp cm tab (s / 8)) (slices s) (ix2 r l)
      = ∑ j : Fin 1024, Scalar.select (Ideal.cmp .oeq (cm (ix2 r j)) (Ideal.ofBits .f32 (natBits (s + 1)))) (1 : EReal) 0 * tab (ix2 j l) := by
  have hr := r.isLt
  have hs : s % 8 < 8 := Nat.mod_lt _ (by decide)
  rw [slice2 (128 * (s % 8)) 0 _ _ r l (by omega) (by have := l.isLt; omega)]
  unfold grp
  refine (Ideal.matmul_plain_apply (M := 1024) (K := 1024) (N := 264) none _ tab _ _ _).trans ?_
  have e0 : constant (F := Ideal) S1024x264 .f32 0x00000000#32 (ix2 ⟨128 * (s % 8) + r.val, by omega⟩ ⟨0 + l.val, by have := l.isLt; omega⟩) = 0 := Ideal.ofBits_zero_f32
  rw [e0, zero_add]
  refine Finset.sum_congr rfl fun k _ => ?_
  have h8 := concat8 (fun j : Fin 8 => oh cm (8 * (s / 8) + j.val)) (concats fun k => oh cm (8 * (s / 8) + k.val)) ⟨s % 8, hs⟩ r (by omega) k
  have hss : 8 * (s / 8) + s % 8 = s := Nat.div_add_mod s 8
  have hl : (⟨0 + l.val, by have := l.isLt; omega⟩ : Fin 264) = l := Fin.ext (Nat.zero_add _)
  rw [hl]
  refine congrArg (· * tab (ix2 k l)) (h8.trans ?_)
  rw [oh_apply]
  dsimp only
  rw [hss]

theorem rowsJ_apply (cm : FVec Ideal S128x1024 .f32) (tot : FVec Ideal S128x1 .f32) (tab : Vec Ideal S1024x264 .bf16) (s : Nat) (r : Fin 128) (l : Fin 264) :
    rowsJ cm tot tab s (ix2 r l) = Scalar.select (Ideal.cmp .ogt (tot (ix2 r 0)) (Ideal.ofBits .f32 (natBits s)))
      (∑ j : Fin 1024, Scalar.select (Ideal.cmp .oeq (cm (ix2 r j)) (Ideal.ofBits .f32 (natBits (s + 1)))) (1 : EReal) 0 * tab (ix2 j l)) (tab (ix2 0 l)) := by
  unfold rowsJ
  rw [select_apply, bcastCol, shapeCast_self, cmpf_apply, grp_apply, bcastRow, shapeCast_self]
  unfold k0_pay30
  rw [extf_apply, slice2']
  simp only [broadcast_apply, Nat.zero_add]
  rfl

theorem layer1_apply (rj : FVec Ideal S128x264 .f32) (cd : FVec Ideal S128x3 .f32) (m0 m1 m2 : FVec Ideal S128x256 .f32) (r : Fin 128) (l : Fin 256) :
    layer1 rj cd m0 m1 m2 (ix2 r l) = rj (ix2 r ⟨l.val, by omega⟩) + (rj (ix2 r 256) + rj (ix2 r 259) - cd (ix2 r 0)) * m0 (ix2 r l)
      + (rj (ix2 r 257) + rj (ix2 r 260) - cd (ix2 r 1)) * m1 (ix2 r l) + (rj (ix2 r 258) + rj (ix2 r 261) - cd (ix2 r 2)) * m2 (ix2 r l) := by
  simp only [layer1, addf_apply, mulf_apply, subf_apply, truncf_apply, extf_apply, bcastCol, slice2', Nat.zero_add]
  rfl

/-- A sample's slab in a point's blocks. -/
theorem smT_apply (c : Dev nD) (t : Fin cfg0.N) (tab : Vec Ideal S1024x264 .bf16) (s : Nat) (r : Fin 128) (l : Fin 256)
    (X : Fin 1024 → Fin 3 → EReal) (C : Fin 3 → EReal) (R : Fin 9 → EReal) (T : Fin 1024 → Fin 1024 → EReal) (W : Fin 3 → EReal)
    (hX : ∀ j k, iblk V c 0 t (ix3 0 k j) = X j k) (hC : ∀ k, iblk V c 2 t (ix3 0 r k) = C k) (hR : ∀ q, iblk V c 3 t (ix3 0 r q) = R q)
    (hT : ∀ i j, iblk V c 4 t (ix2 i j) = T i j) (hW : ∀ k : Fin 3, iblk V c 7 t (ix2 ⟨k.val, by omega⟩ l) = W k) :
    smT (V := V) c t tab s (ix2 r l)
      = lay1E (rowE (fun j => maskE (X j) C R) T (fun j => tab (ix2 j ⟨l.val, by omega⟩)) s)
          (fun k => rowE (fun j => maskE (X j) C R) T (fun j => tab (ix2 j ⟨256 + k.val, by omega⟩)) s)
          (fun k => rowE (fun j => maskE (X j) C R) T (fun j => tab (ix2 j ⟨259 + k.val, by omega⟩)) s) C R W := by
  have hM : ∀ j, maskT (V := V) c t (ix2 r j) = maskE (X j) C R := fun j => by
    refine (mask_apply _ _ _ r j).trans ?_
    refine congr (congr (congrArg _ ?_) ?_) ?_
    · exact funext fun k => hX j k
    · exact funext hC
    · exact funext hR
  have hMf : (fun j => maskT (V := V) c t (ix2 r j)) = fun j => maskE (X j) C R := funext hM
  have hTf : (fun i j => iblk V c 4 t (ix2 (n0 := 1024) (n1 := 1024) i j)) = T := funext fun i => funext fun j => hT i j
  have hrow : ∀ q, rowsJ (cmT (V := V) c t) (totT (V := V) c t) tab s (ix2 r q) = rowE (fun j => maskE (X j) C R) T (fun j => tab (ix2 j q)) s := fun q => by
    rw [rowsJ_apply]
    unfold totT cmT rowE
    simp only [tot_apply, cm_apply]
    rw [hMf, hTf]
    simp only [hM]
  unfold smT m0T m1T m2T
  rw [layer1_apply, m0_apply, m1_apply, m2_apply, cdiv_apply, cdiv_apply, cdiv_apply, hC, hC, hC]
  simp only [hrow]
  have hRf : (fun q => iblk V c 3 t (ix3 (n0 := 1) (n1 := 128) (n2 := 9) 0 r q)) = R := funext hR
  have hWf : (fun k : Fin 3 => iblk V c 7 t (ix2 (n0 := 8) (n1 := 256) ⟨k.val, by omega⟩ l)) = W := funext hW
  rw [hRf, hWf]
  rfl

/-- The table: the features' part of the first layer, then the scaled coordinates, then what casting them leaves. -/
theorem tab_feat (x5 : Vec Ideal S1x1024x256 .f32) (x6 : Vec Ideal S256x256 .f32) (x1 : Vec Ideal S1x1024x3 .f32) (j : Fin 1024) (l : Fin 256) :
    k0_pay4 (F := Ideal) x5 x6 x1 (ix2 j ⟨l.val, by omega⟩) = ∑ k : Fin 256, x5 (ix3 0 j k) * x6 (ix2 k l) := by
  simp only [k0_pay4, shapeCast_self, truncf_apply]
  refine (concatenate_apply_piece (α := EReal) (t := S1024x264) 1 _ _ _ 0 (by show 0 < 4; omega) S1024x256 _ rfl rfl 0 rfl (ix2 j l) ?_ ?_).trans ?_
  · intro b hb
    match b with
    | ⟨0, _⟩ => rfl
    | ⟨1, _⟩ => exact absurd rfl hb
  · exact Nat.zero_add _
  · refine (Ideal.matmul_plain_apply (M := 1024) (K := 256) (N := 256) none _ _ _ _ _).trans ?_
    have h0 : constant (F := Ideal) S1024x256 .f32 0x00000000#32 (ix2 j l) = 0 := Ideal.ofBits_zero_f32
    rw [h0, zero_add]
    refine Finset.sum_congr rfl fun k _ => ?_
    simp only [truncf_apply, castDrop3]

theorem tab_hi (x5 : Vec Ideal S1x1024x256 .f32) (x6 : Vec Ideal S256x256 .f32) (x1 : Vec Ideal S1x1024x3 .f32) (j : Fin 1024) (k : Fin 3) :
    k0_pay4 (F := Ideal) x5 x6 x1 (ix2 j ⟨256 + k.val, by omega⟩) = Ideal.div (x1 (ix3 0 j k)) radE := by
  simp only [k0_pay4, shapeCast_self, truncf_apply]
  refine (concatenate_apply_piece (α := EReal) (t := S1024x264) 1 _ _ _ 1 (by show 1 < 4; omega) S1024x3 _ rfl rfl 256 rfl (ix2 j k) ?_ ?_).trans ?_
  · intro b hb
    match b with
    | ⟨0, _⟩ => rfl
    | ⟨1, _⟩ => exact absurd rfl hb
  · rfl
  · simp only [extf_apply, truncf_apply, divf_apply, broadcast_apply, castDrop3]
    rfl

theorem tab_lo (x5 : Vec Ideal S1x1024x256 .f32) (x6 : Vec Ideal S256x256 .f32) (x1 : Vec Ideal S1x1024x3 .f32) (j : Fin 1024) (k : Fin 3) :
    k0_pay4 (F := Ideal) x5 x6 x1 (ix2 j ⟨259 + k.val, by omega⟩) = Ideal.div (x1 (ix3 0 j k)) radE - Ideal.div (x1 (ix3 0 j k)) radE := by
  simp only [k0_pay4, shapeCast_self, truncf_apply]
  refine (concatenate_apply_piece (α := EReal) (t := S1024x264) 1 _ _ _ 2 (by show 2 < 4; omega) S1024x3 _ rfl rfl 259 rfl (ix2 j k) ?_ ?_).trans ?_
  · intro b hb
    match b with
    | ⟨0, _⟩ => rfl
    | ⟨1, _⟩ => exact absurd rfl hb
  · rfl
  · simp only [subf_apply, extf_apply, truncf_apply, divf_apply, broadcast_apply, castDrop3]
    rfl

end Cert.Proof.K0
-- ==== Proof.K0Final.lean ====
module

public import proofs.«01_k».proof.Proof.K0Point

@[expose] public section

set_option maxRecDepth 16384

noncomputable section

namespace Cert.Proof.K0

open Cert.KernelIdeal Cert.KernelIdeal.Gen
open Idealize.ShloMosaic Idealize.ShloMosaic.TcCoe Idealize.ShloMosaic.ValueIdx Cert.Proof.Kit
open Idealize.ShloMosaic.Pipeline (Dat)

variable (V : (c : Dev nD) → (b : Ref sig .tc) → Buf (Elt Ideal) ((c : Thread nD τ).loc b))

/-! ## The blocks, placed in their arrays -/

theorem idx0 : ∀ t : Fin cfg0.N, win0_0.index t = ![t.val / 8, 0, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8, t.val % 8, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 8, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 8, 0, t.val % 8, 0] := (by decide +kernel : ∀ t : Fin grid0.N, _)

theorem tlt (t : Fin cfg0.N) : t.val < 32 := lt_of_lt_of_eq t.isLt (show cfg0.N = 32 from N_0)

/-- The batch a grid point works on. -/
def bOf (t : Fin cfg0.N) : Fin 4 := ⟨t.val / 8, by have := tlt t; omega⟩
/-- The centre a point's tile row is. -/
def nOf (t : Fin cfg0.N) (r : Fin 128) : Fin 1024 := ⟨128 * (t.val % 8) + r.val, by have := r.isLt; omega⟩

theorem emb0 (t : Fin cfg0.N) (k : Fin 3) (j : Fin 1024) : (win0_0.blk t).view.emb (ix3 0 k j) = ix3 (bOf t) k j := by
  have e := idx0 t
  funext a
  refine Fin.ext ?_
  show win0_0.index t a * _ + 1 * _ = _
  rw [e]
  match a with
  | ⟨0, _⟩ => show t.val / 8 * 1 + 1 * 0 = t.val / 8; omega
  | ⟨1, _⟩ => show 0 * 3 + 1 * k.val = k.val; omega
  | ⟨2, _⟩ => show 0 * 1024 + 1 * j.val = j.val; omega
theorem emb1 (t : Fin cfg0.N) (j : Fin 1024) (k : Fin 3) : (win0_1.blk t).view.emb (ix3 0 j k) = ix3 (bOf t) j k := by
  have e := idx1 t
  funext a
  refine Fin.ext ?_
  show win0_1.index t a * _ + 1 * _ = _
  rw [e]
  match a with
  | ⟨0, _⟩ => show t.val / 8 * 1 + 1 * 0 = t.val / 8; omega
  | ⟨1, _⟩ => show 0 * 1024 + 1 * j.val = j.val; omega
  | ⟨2, _⟩ => show 0 * 3 + 1 * k.val = k.val; omega
theorem emb2 (t : Fin cfg0.N) (r : Fin 128) (k : Fin 3) : (win0_2.blk t).view.emb (ix3 0 r k) = ix3 (bOf t) (nOf t r) k := by
  have e := idx2 t
  funext a
  refine Fin.ext ?_
  show win0_2.index t a * _ + 1 * _ = _
  rw [e]
  match a with
  | ⟨0, _⟩ => show t.val / 8 * 1 + 1 * 0 = t.val / 8; omega
  | ⟨1, _⟩ => show t.val % 8 * 128 + 1 * r.val = 128 * (t.val % 8) + r.val; omega
  | ⟨2, _⟩ => show 0 * 3 + 1 * k.val = k.val; omega
theorem emb3 (t : Fin cfg0.N) (r : Fin 128) (k : Fin 9) : (win0_3.blk t).view.emb (ix3 0 r k) = ix3 (bOf t) (nOf t r) k := by
  have e := idx3 t
  funext a
  refine Fin.ext ?_
  show win0_3.index t a * _ + 1 * _ = _
  rw [e]
  match a with
  | ⟨0, _⟩ => show t.val / 8 * 1 + 1 * 0 = t.val / 8; omega
  | ⟨1, _⟩ => show t.val % 8 * 128 + 1 * r.val = 128 * (t.val % 8) + r.val; omega
  | ⟨2, _⟩ => show 0 * 9 + 1 * k.val = k.val; omega
theorem emb4 (t : Fin cfg0.N) (i j : Fin 1024) : (win0_4.blk t).view.emb (ix2 i j) = ix2 i j := by blk_ext [idx4 t]
theorem emb5 (t : Fin cfg0.N) (j : Fin 1024) (k : Fin 256) : (win0_5.blk t).view.emb (ix3 0 j k) = ix3 (bOf t) j k := by
  have e := idx5 t
  funext a
  refine Fin.ext ?_
  show win0_5.index t a * _ + 1 * _ = _
  rw [e]
  match a with
  | ⟨0, _⟩ => show t.val / 8 * 1 + 1 * 0 = t.val / 8; omega
  | ⟨1, _⟩ => show 0 * 1024 + 1 * j.val = j.val; omega
  | ⟨2, _⟩ => show 0 * 256 + 1 * k.val = k.val; omega
theorem emb6 (t : Fin cfg0.N) (i j : Fin 256) : (win0_6.blk t).view.emb (ix2 i j) = ix2 i j := by blk_ext [idx6 t]
theorem emb7 (t : Fin cfg0.N) (i : Fin 8) (j : Fin 256) : (win0_7.blk t).view.emb (ix2 i j) = ix2 i j := by blk_ext [idx7 t]
theorem emb8 (t : Fin cfg0.N) (s : Fin 32) (r : Fin 128) (k : Fin 256) :
    (win0_8.blk t).view.emb (ix4 0 s r k) = ix4 (bOf t) s (nOf t r) k := by
  have e := idx8 t
  funext a
  refine Fin.ext ?_
  show win0_8.index t a * _ + 1 * _ = _
  rw [e]
  match a with
  | ⟨0, _⟩ => show t.val / 8 * 1 + 1 * 0 = t.val / 8; omega
  | ⟨1, _⟩ => show 0 * 32 + 1 * s.val = s.val; omega
  | ⟨2, _⟩ => show t.val % 8 * 128 + 1 * r.val = 128 * (t.val % 8) + r.val; omega
  | ⟨3, _⟩ => show 0 * 256 + 1 * k.val = k.val; omega

/-! ## The first layer over the arrays -/

/-- A point of the batch. -/
def Xa (c : Dev nD) (b : Fin 4) (j : Fin 1024) (k : Fin 3) : EReal := V c main_v0 (ix3 b k j)
/-- A centre. -/
def Ca (c : Dev nD) (b : Fin 4) (n : Fin 1024) (k : Fin 3) : EReal := V c main_arg0 (ix3 b n k)
/-- Its rotation. -/
def Ra (c : Dev nD) (b : Fin 4) (n : Fin 1024) (q : Fin 9) : EReal := V c main_v1 (ix3 b n q)
/-- The counting matrix. -/
def Ta (c : Dev nD) (i j : Fin 1024) : EReal := V c main_v14 (ix2 i j)
/-- A channel's coordinate weights. -/
def Wa (c : Dev nD) (l : Fin 256) (k : Fin 3) : EReal := V c main_v6 (ix2 (n0 := 8) ⟨k.val, by omega⟩ l)
/-- A feature of a point. -/
def Fa (c : Dev nD) (b : Fin 4) (j : Fin 1024) (k : Fin 256) : EReal := V c main_v2 (ix3 b j k)
/-- A feature's weight. -/
def Wf (c : Dev nD) (k l : Fin 256) : EReal := V c main_v8 (ix2 k l)
/-- The features' part of the first layer. -/
def tabF (c : Dev nD) (b : Fin 4) (l : Fin 256) (j : Fin 1024) : EReal := ∑ k : Fin 256, Fa V c b j k * Wf V c k l
/-- A scaled coordinate. -/
def tabH (c : Dev nD) (b : Fin 4) (k : Fin 3) (j : Fin 1024) : EReal := Ideal.div (V c main_arg0 (ix3 b j k)) radE

/-- Which points lie in a centre's cylinder. -/
def Ma (c : Dev nD) (b : Fin 4) (n : Fin 1024) (j : Fin 1024) : BitVec 1 := maskE (Xa V c b j) (Ca V c b n) (Ra V c b n)

/-- The first layer's value for a sample of a centre. -/
def y1E (c : Dev nD) (b : Fin 4) (s : Nat) (n : Fin 1024) (l : Fin 256) : EReal :=
  lay1E (rowE (Ma V c b n) (Ta V c) (tabF V c b l) s) (fun k => rowE (Ma V c b n) (Ta V c) (tabH V c b k) s)
    (fun k => rowE (Ma V c b n) (Ta V c) (fun j => tabH V c b k j - tabH V c b k j) s) (Ca V c b n) (Ra V c b n) (Wa V c l)

/-- A table that holds a batch's features' part and coordinates. -/
def TabOk (c : Dev nD) (b : Fin 4) (tab : Vec Ideal S1024x264 .bf16) : Prop :=
  ∀ j : Fin 1024, (∀ l : Fin 256, tab (ix2 j ⟨l.val, by omega⟩) = tabF V c b l j)
    ∧ (∀ k : Fin 3, tab (ix2 j ⟨256 + k.val, by omega⟩) = tabH V c b k j)
    ∧ (∀ k : Fin 3, tab (ix2 j ⟨259 + k.val, by omega⟩) = tabH V c b k j - tabH V c b k j)

theorem tabT_ok (c : Dev nD) (t : Fin cfg0.N) : TabOk V c (bOf t) (tabT V c t) := fun j => by
  have h1 : ∀ k : Fin 3, iblk V c 1 t (ix3 0 j k) = V c main_arg0 (ix3 (bOf t) j k) := fun k => congrArg (V c main_arg0) (emb1 t j k)
  have h5 : ∀ k : Fin 256, iblk V c 5 t (ix3 0 j k) = Fa V c (bOf t) j k := fun k => congrArg (V c main_v2) (emb5 t j k)
  have h6 : ∀ k l : Fin 256, iblk V c 6 t (ix2 k l) = Wf V c k l := fun k l => congrArg (V c main_v8) (emb6 t k l)
  refine ⟨fun l => ?_, fun k => ?_, fun k => ?_⟩
  · refine (tab_feat _ _ _ j l).trans ?_
    exact Finset.sum_congr rfl fun k _ => congrArg₂ (fun x y : EReal => x * y) (h5 k) (h6 k l)
  · refine (tab_hi _ _ _ j k).trans ?_
    rw [h1]; rfl
  · refine (tab_lo _ _ _ j k).trans ?_
    rw [h1]; rfl

/-- The table a point reads. -/
def tabUsed (c : Dev nD) (t : Fin cfg0.N) : Vec Ideal S1024x264 .bf16 :=
  if t.val % 8 = 0 then tabT V c t else (prev V c t).2.2.1

theorem tab_eq (c : Dev nD) (t : Fin cfg0.N) : (outsAt0 V c t.val t.isLt).2.2.1 = tabUsed V c t := by
  unfold tabUsed
  by_cases h0 : t.val % 32 = 0
  · rw [if_pos (show t.val % 8 = 0 by omega)]
    exact tab_A V c t h0 (by omega) (by omega)
  · by_cases h1 : t.val % 8 = 0
    · rw [if_pos h1]
      exact tab_C V c t h0 h1 (by omega)
    · rw [if_neg h1]
      by_cases h2 : t.val % 32 = 31
      · exact tab_D V c t h0 h1 h2
      · exact tab_B V c t h0 h1 h2

theorem tab_ok (c : Dev nD) : ∀ (n : Nat) (hn : n < cfg0.N), TabOk V c (bOf ⟨n, hn⟩) (outsAt0 V c n hn).2.2.1 := by
  intro n
  induction n with
  | zero =>
    intro hn
    have e := tab_eq V c ⟨0, hn⟩
    unfold tabUsed at e
    rw [if_pos (show (0 : ℕ) % 8 = 0 from rfl)] at e
    dsimp only at e
    rw [e]
    exact tabT_ok V c ⟨0, hn⟩
  | succ n ih =>
    intro hn
    have e := tab_eq V c ⟨n + 1, hn⟩
    unfold tabUsed at e
    dsimp only at e
    rw [e]
    by_cases h : (n + 1) % 8 = 0
    · rw [if_pos h]
      exact tabT_ok V c ⟨n + 1, hn⟩
    · rw [if_neg h]
      have hb : bOf ⟨n + 1, hn⟩ = bOf ⟨n, Nat.lt_of_succ_lt hn⟩ := Fin.ext (by show (n + 1) / 8 = n / 8; omega)
      rw [hb]
      exact ih _

theorem used_ok (c : Dev nD) (t : Fin cfg0.N) : TabOk V c (bOf t) (tabUsed V c t) := by
  rw [← tab_eq]
  exact tab_ok V c t.val t.isLt

theorem sm_eq (c : Dev nD) (t : Fin cfg0.N) (s : Nat) (r : Fin 128) (l : Fin 256) :
    smT (V := V) c t (tabUsed V c t) s (ix2 r l) = y1E V c (bOf t) s (nOf t r) l := by
  have hok := used_ok V c t
  refine (smT_apply V c t (tabUsed V c t) s r l (Xa V c (bOf t)) (Ca V c (bOf t) (nOf t r)) (Ra V c (bOf t) (nOf t r)) (Ta V c) (Wa V c l)
    (fun j k => congrArg (V c main_v0) (emb0 t k j)) (fun k => congrArg (V c main_arg0) (emb2 t r k)) (fun q => congrArg (V c main_v1) (emb3 t r q))
    (fun i j => congrArg (V c main_v14) (emb4 t i j)) (fun k => congrArg (V c main_v6) (emb7 t ⟨k.val, by omega⟩ l))).trans ?_
  have hf : (fun j => tabUsed V c t (ix2 j (⟨l.val, by omega⟩ : Fin 264))) = tabF V c (bOf t) l := funext fun j => (hok j).1 l
  have hh : ∀ k : Fin 3, (fun j => tabUsed V c t (ix2 j (⟨256 + k.val, by omega⟩ : Fin 264))) = tabH V c (bOf t) k := fun k => funext fun j => (hok j).2.1 k
  have hl : ∀ k : Fin 3, (fun j => tabUsed V c t (ix2 j (⟨259 + k.val, by omega⟩ : Fin 264))) = fun j => tabH V c (bOf t) k j - tabH V c (bOf t) k j :=
    fun k => funext fun j => (hok j).2.2 k
  rw [hf]
  simp only [hh, hl]
  rfl

/-! ## The array of first-layer values -/

theorem pieces_apply (f : Nat → Vec Ideal S1x1x128x256 .bf16) (n : Nat) (hn : n ≤ 32) (s : Fin 32) (hs : s.val < n) (r : Fin 128) (l : Fin 256) :
    View.canon (pieces f n) (ix4 0 s r l) = f s.val (ix4 0 0 r l) := by
  induction n with
  | zero => exact absurd hs (Nat.not_lt_zero _)
  | succ n ih =>
    show View.canon (piece f n :: pieces f n) _ = _
    by_cases h : s.val = n
    · have e : (piece f n).1.emb (ix4 0 0 r l) = ix4 0 s r l := funext fun a => Fin.ext (match a with
        | ⟨0, _⟩ => rfl
        | ⟨1, _⟩ => by show n % 32 + 1 * 0 = s.val; omega
        | ⟨2, _⟩ => by show 0 + 1 * r.val = r.val; omega
        | ⟨3, _⟩ => by show 0 + 1 * l.val = l.val; omega)
      rw [← e, h]
      exact View.canon_cons_emb (piece f n).1 (f n) (pieces f n) (ix4 0 0 r l)
    · rw [View.canon_cons_of_not_mem]
      · exact ih (by omega) (by omega)
      · intro hm
        obtain ⟨x, hx⟩ := LoadRect.exists_idx_of_mem _ hm
        have := congrArg (fun i : S1x32x128x256.Idx => (i 1).val) hx
        have e : n % 32 + 1 * (x 1).val = s.val := this
        have hx1 : (x 1).val < 1 := (x 1).isLt
        omega

theorem out8 (c : Dev nD) (t : Fin cfg0.N) : (outsAt0 V c t.val t.isLt).1 = View.canon (pieces (slabT V c t (tabUsed V c t)) 32) := by
  unfold tabUsed
  by_cases h0 : t.val % 32 = 0
  · rw [if_pos (show t.val % 8 = 0 by omega)]
    exact out8_A V c t h0 (by omega) (by omega)
  · by_cases h1 : t.val % 8 = 0
    · rw [if_pos h1]
      exact out8_C V c t h0 h1 (by omega)
    · rw [if_neg h1]
      by_cases h2 : t.val % 32 = 31
      · exact out8_D V c t h0 h1 h2
      · exact out8_B V c t h0 h1 h2

/-- The first layer's values. -/
def G8 (c : Dev nD) : Vec Ideal S4x32x1024x256 .bf16 := fun i => y1E V c (i 0) (i 1).val (i 2) (i 3)

theorem final8 (c : Dev nD) : (dat V c).arrAt 8 cfg0.N = G8 V c := by
  refine (dat V c).arrAt_eq_of_covers 8 _ (by decide +kernel) fun t hf y => ?_
  blk_simp
  rw [after0_8, out8]
  change S1x32x128x256.Idx at y
  obtain ⟨z, s, n, l, rfl⟩ : ∃ (z : Fin 1) (s : Fin 32) (n : Fin 128) (l : Fin 256), y = ix4 z s n l := ⟨y 0, y 1, y 2, y 3, eq_ix4 y⟩
  have hz : z = 0 := Subsingleton.elim _ _
  subst hz
  refine (pieces_apply _ 32 (le_refl _) s s.isLt n l).trans ?_
  refine Eq.trans ?_ (congrArg (G8 V c) (emb8 t s n l).symm)
  unfold slabT
  rw [castAdd4, truncf_apply, sm_eq]
  rfl

/-! ## The statistics -/

theorem sumS_apply (c : Dev nD) (t : Fin cfg0.N) (r : Fin 128) (l : Fin 256) :
    sumS V c t (tabUsed V c t) (ix2 r l) = ∑ s : Fin 32, y1E V c (bOf t) s.val (nOf t r) l := by
  unfold sumS
  rw [chain_apply addf (· + ·) (fun _ _ _ => addf_apply ..), addf_apply, broadcast_apply, e0,
    chain_add (fun s => smT (V := V) c t (tabUsed V c t) s (ix2 r l)) 31]
  exact Finset.sum_congr rfl fun s _ => sm_eq V c t s.val r l

theorem sumQ_apply (c : Dev nD) (t : Fin cfg0.N) (r : Fin 128) (l : Fin 256) :
    sumQ V c t (tabUsed V c t) (ix2 r l) = ∑ s : Fin 32, y1E V c (bOf t) s.val (nOf t r) l * y1E V c (bOf t) s.val (nOf t r) l := by
  unfold sumQ
  rw [chain_apply addf (· + ·) (fun _ _ _ => addf_apply ..), addf_apply, broadcast_apply, e0,
    chain_add (fun s => mulf (smT (V := V) c t (tabUsed V c t) s) (smT (V := V) c t (tabUsed V c t) s) (ix2 r l)) 31]
  refine Finset.sum_congr rfl fun s _ => ?_
  rw [mulf_apply, sm_eq V c t s.val r l]

/-- The accumulated row after some points is the sum of the points' tiles. -/
theorem acc_row (R : Fin 8) (S : Fin cfg0.N → FVec Ideal S128x256 .f32) (c : Dev nD) (l : Fin 256)
    (hA : ∀ t : Fin cfg0.N, t.val % 32 = 0 → (outsAt0 V c t.val t.isLt).2.2.2 (ix2 R l) = ∑ r : Fin 128, S t (ix2 r l))
    (hB : ∀ t : Fin cfg0.N, ¬t.val % 32 = 0 → ¬t.val % 32 = 31 → (outsAt0 V c t.val t.isLt).2.2.2 (ix2 R l)
      = (prev V c t).2.2.2 (ix2 R l) + ∑ r : Fin 128, S t (ix2 r l)) :
    ∀ (n : Nat) (hn : n < cfg0.N), n < 31 → (outsAt0 V c n hn).2.2.2 (ix2 R l)
      = ∑ k : Fin (n + 1), ∑ r : Fin 128, S ⟨k.val, Nat.lt_of_lt_of_le k.isLt hn⟩ (ix2 r l) := by
  intro n
  induction n with
  | zero => intro hn _; rw [Fin.sum_univ_one]; exact hA ⟨0, hn⟩ rfl
  | succ n ih =>
    intro hn h31
    rw [Fin.sum_univ_castSucc]
    refine (hB ⟨n + 1, hn⟩ (by show ¬(n + 1) % 32 = 0; omega) (by show ¬(n + 1) % 32 = 31; omega)).trans ?_
    exact congrArg (· + ∑ r : Fin 128, S ⟨n + 1, hn⟩ (ix2 r l)) (ih (Nat.lt_of_succ_lt hn) (by omega))

theorem last_row (R : Fin 8) (S : Fin cfg0.N → FVec Ideal S128x256 .f32) (c : Dev nD) (l : Fin 256)
    (hA : ∀ t : Fin cfg0.N, t.val % 32 = 0 → (outsAt0 V c t.val t.isLt).2.2.2 (ix2 R l) = ∑ r : Fin 128, S t (ix2 r l))
    (hB : ∀ t : Fin cfg0.N, ¬t.val % 32 = 0 → ¬t.val % 32 = 31 → (outsAt0 V c t.val t.isLt).2.2.2 (ix2 R l)
      = (prev V c t).2.2.2 (ix2 R l) + ∑ r : Fin 128, S t (ix2 r l))
    (hC : ∀ t : Fin cfg0.N, t.val % 32 = 31 → (outsAt0 V c t.val t.isLt).2.1 (ix2 R l)
      = (prev V c t).2.2.2 (ix2 R l) + ∑ r : Fin 128, S t (ix2 r l))
    (t : Fin cfg0.N) (ht : t.val = 31) :
    (outsAt0 V c t.val t.isLt).2.1 (ix2 R l) = ∑ k : Fin 32, ∑ r : Fin 128, S ⟨k.val, lt_of_lt_of_eq k.isLt N_0.symm⟩ (ix2 r l) := by
  refine (hC t (by omega)).trans ?_
  rw [acc_row V R S c l hA hB (t.val - 1) _ (by omega)]
  have e : ∑ k : Fin 32, ∑ r : Fin 128, S ⟨k.val, lt_of_lt_of_eq k.isLt N_0.symm⟩ (ix2 r l)
      = ∑ k : Fin (30 + 1), ∑ r : Fin 128, S ⟨k.val, lt_of_lt_of_eq (Nat.lt_succ_of_lt k.isLt) N_0.symm⟩ (ix2 r l)
        + ∑ r : Fin 128, S ⟨31, lt_of_lt_of_eq (by decide) N_0.symm⟩ (ix2 r l) := Fin.sum_univ_castSucc _
  rw [e]
  obtain ⟨n, hn⟩ := t
  dsimp only at ht
  subst ht
  rfl

theorem whole9 : ∀ t : Fin cfg0.N, t.val = 31 → win0_9.WholeAt t := (by decide +kernel : ∀ t : Fin grid0.N, _)

theorem zero_row (r : Nat) (hr : r < 8) (l : Fin 256) : rowL r hr (k0_pay3 (F := Ideal)) (ix2 0 l) = 0 := by
  rw [rowL_apply]
  unfold k0_pay3
  rw [shapeCast_self]
  exact Ideal.ofBits_zero_f32

/-- The statistics block: the sums in row 0, the sums of squares in row 1. -/
theorem final9_0 (c : Dev nD) (l : Fin 256) : (dat V c).arrAt 9 cfg0.N (ix2 0 l)
    = ∑ t : Fin 32, ∑ r : Fin 128, ∑ s : Fin 32, y1E V c (bOf t) s.val (nOf t r) l := by
  obtain ⟨t₀, ht₀⟩ : ∃ t : Fin cfg0.N, t.val = 31 := ⟨⟨31, lt_of_lt_of_eq (by decide) N_0.symm⟩, rfl⟩
  refine ((dat V c).arrAt_emb_eq_after_last 9 t₀ (whole9 t₀ ht₀) (ix2 0 l)).trans ?_
  blk_simp
  rw [after0_9]
  refine (last_row V 0 (fun t => sumS V c t (tabUsed V c t)) c l (fun t h => ?_) (fun t h0 h2 => ?_) (fun t h2 => ?_) t₀ ht₀).trans ?_
  · rw [acc0_A V c t h (by omega) (by omega), accRow_apply, zero_row, zero_add]
    unfold tabUsed
    rw [if_pos (show t.val % 8 = 0 by omega)]
  · unfold tabUsed
    by_cases h1 : t.val % 8 = 0
    · rw [if_pos h1, acc0_C V c t h0 h1 h2, accRow_apply, rowL_apply]; rfl
    · rw [if_neg h1, acc0_B V c t h0 h1 h2, accRow_apply, rowL_apply]; rfl
  · unfold tabUsed
    rw [if_neg (show ¬t.val % 8 = 0 by omega), acc0_D V c t (by omega) (by omega) h2, accRow_apply, rowL_apply]; rfl
  · exact Finset.sum_congr rfl fun t _ => Finset.sum_congr rfl fun r _ => sumS_apply V c t r l

theorem final9_1 (c : Dev nD) (l : Fin 256) : (dat V c).arrAt 9 cfg0.N (ix2 1 l)
    = ∑ t : Fin 32, ∑ r : Fin 128, ∑ s : Fin 32, y1E V c (bOf t) s.val (nOf t r) l * y1E V c (bOf t) s.val (nOf t r) l := by
  obtain ⟨t₀, ht₀⟩ : ∃ t : Fin cfg0.N, t.val = 31 := ⟨⟨31, lt_of_lt_of_eq (by decide) N_0.symm⟩, rfl⟩
  refine ((dat V c).arrAt_emb_eq_after_last 9 t₀ (whole9 t₀ ht₀) (ix2 1 l)).trans ?_
  blk_simp
  rw [after0_9]
  refine (last_row V 1 (fun t => sumQ V c t (tabUsed V c t)) c l (fun t h => ?_) (fun t h0 h2 => ?_) (fun t h2 => ?_) t₀ ht₀).trans ?_
  · rw [acc1_A V c t h (by omega) (by omega), accRow_apply, zero_row, zero_add]
    unfold tabUsed
    rw [if_pos (show t.val % 8 = 0 by omega)]
  · unfold tabUsed
    by_cases h1 : t.val % 8 = 0
    · rw [if_pos h1, acc1_C V c t h0 h1 h2, accRow_apply, rowL_apply]; rfl
    · rw [if_neg h1, acc1_B V c t h0 h1 h2, accRow_apply, rowL_apply]; rfl
  · unfold tabUsed
    rw [if_neg (show ¬t.val % 8 = 0 by omega), acc1_D V c t (by omega) (by omega) h2, accRow_apply, rowL_apply]; rfl
  · exact Finset.sum_congr rfl fun t _ => Finset.sum_congr rfl fun r _ => sumQ_apply V c t r l

end Cert.Proof.K0
-- ==== Proof.K1Value.lean ====
module

public import proofs.«01_k».proof.Proof.K1Frame
public import proofs.«01_k».proof.Proof.Spec
public import proofs.«01_k».proof.Proof.Rows
public import Idealize.ShloMosaic.Lib.IdealHost
public import Idealize.ShloMosaic.Lib.MatmulPlain
public import Idealize.ShloMosaic.Lib.Pipeline.ValueKit.Acc
public import Idealize.ShloMosaic.Lib.Pipeline.ValueKit.Geometry

@[expose] public section

set_option maxRecDepth 16384

noncomputable section

namespace Cert.Proof.K1

open Cert.KernelIdeal Cert.KernelIdeal.Gen
open Idealize.ShloMosaic Idealize.ShloMosaic.TcCoe Idealize.ShloMosaic.ValueIdx Cert.Proof.Kit
open Idealize.ShloMosaic.Pipeline (Dat)

variable (V : (c : Dev nD) → (b : Ref sig .tc) → Buf (Elt Ideal) ((c : Thread nD τ).loc b))

/-! ## The body, said once for all the samples -/

/-- One sample's slab, scaled, moved and rectified. -/
def act (sc sh : FVec Ideal S1x256 .f32) (y : Vec Ideal S1x1x128x256 .bf16) : FVec Ideal S128x256 .bf16 :=
  truncf .bf16 (maximumf (addf (mulf (extf .f32 (shapeCast S128x256 y shapeCasts_S1x1x128x256_S128x256) bitsLt_bf16_f32)
    (broadcastTo S128x256 sc broadcasts_S1x256_S128x256)) (broadcastTo S128x256 sh broadcasts_S1x256_S128x256))
    (broadcast S128x256 (Scalar.ofBits .f32 0x00000000#32))) bitsLt_bf16_f32

theorem concats (f : Fin 8 → FVec Ideal S128x256 .bf16) :
    Shape.Concatenates ((List.ofFn fun k : Fin 8 => (⟨S128x256, f k⟩ : (s : Shape) × (s.Idx → EReal))).map (·.1)) S1024x256 0 :=
  concatenates_S128x256_S128x256_S128x256_S128x256_S128x256_S128x256_S128x256_S128x256_S1024x256_d0

/-- Eight samples' slabs times the second weight. -/
def grp (sc sh : FVec Ideal S1x256 .f32) (w : FVec Ideal S256x256 .bf16) (y : Fin 8 → Vec Ideal S1x1x128x256 .bf16) : FVec Ideal S1024x256 .f32 :=
  matmul dot_S1024x256_S256x256_S1024x256_1_0_0_1_n_n none
    (φ₁ := .bf16) (concatenate (α := EReal) S1024x256 0 (List.ofFn fun k : Fin 8 => (⟨S128x256, act sc sh (y k)⟩ : (s : Shape) × (s.Idx → EReal))) (concats fun k => act sc sh (y k))) w
    (constant S1024x256 .f32 0x00000000#32)

theorem slices (s : Nat) : S1024x256.Slices ![128 * (s % 8), 0] S128x256 :=
  ⟨rfl, fun a => match a with
    | ⟨0, _⟩ => by show 128 * (s % 8) + 128 ≤ 1024; omega
    | ⟨1, _⟩ => by show 0 + 256 ≤ 256; omega⟩

/-- Sample `s`'s second-layer slab. -/
def smp (sc sh : FVec Ideal S1x256 .f32) (w : FVec Ideal S256x256 .bf16) (y : Nat → Vec Ideal S1x1x128x256 .bf16) (s : Nat) : FVec Ideal S128x256 .f32 :=
  extractStridedSlice S128x256 ![128 * (s % 8), 0] (grp sc sh w fun k => y (8 * (s / 8) + k.val)) (slices s)

/-- Sample `s`'s slab of the block of first-layer values. -/
def slab (x : Vec Ideal S1x32x128x256 .bf16) (s : Nat) : Vec Ideal S1x1x128x256 .bf16 :=
  View.ld x (Rect.unit ![0, s % 32, 0, 0] S1x1x128x256.size fun a => match a with
    | ⟨0, _⟩ => by show 0 + 1 ≤ 1; omega
    | ⟨1, _⟩ => by show s % 32 + 1 ≤ 32; omega
    | ⟨2, _⟩ => by show 0 + 128 ≤ 128; omega
    | ⟨3, _⟩ => by show 0 + 256 ≤ 256; omega)

variable {V}

/-- The scale row of the blocks a point sees. -/
def scT (c : Dev nD) (t : Fin cfg1.N) : FVec Ideal S1x256 .f32 :=
  k1_pay3 (rowL 0 (by decide) (iblk V c 1 t)) (rowL 1 (by decide) (iblk V c 1 t)) (iblk V c 3 t)
/-- The shift row. -/
def shT (c : Dev nD) (t : Fin cfg1.N) : FVec Ideal S1x256 .f32 :=
  k1_pay4 (rowL 0 (by decide) (iblk V c 1 t)) (rowL 1 (by decide) (iblk V c 1 t)) (iblk V c 3 t) (iblk V c 4 t)
/-- Sample `s`'s slab at a point. -/
def smT (c : Dev nD) (t : Fin cfg1.N) (s : Nat) : FVec Ideal S128x256 .f32 :=
  smp (scT (V := V) c t) (shT (V := V) c t) (k1_pay5 (iblk V c 2 t)) (slab (iblk V c 0 t)) s

variable (V)

/-- The extremes over the samples. -/
def extr (op : FVec Ideal S128x256 .f32 → FVec Ideal S128x256 .f32 → FVec Ideal S128x256 .f32) (c : Dev nD) (t : Fin cfg1.N) : Vec Ideal S1x128x256 .f32 :=
  shapeCast S1x128x256 (chain op (smT (V := V) c t 0) (smT (V := V) c t) 31) shapeCasts_S128x256_S1x128x256

theorem out5_A (c : Dev nD) (t : Fin cfg1.N) (h0 : t.val % 32 = 0) (h1 : ¬t.val % 32 = 31) :
    (outsAt0 V c t.val t.isLt).1 = extr V maximumf c t := by
  rw [outsAt0_A V c t h0 h1]
  dsimp only
  frame_out
  sl_kernel_rfl

theorem out6_A (c : Dev nD) (t : Fin cfg1.N) (h0 : t.val % 32 = 0) (h1 : ¬t.val % 32 = 31) :
    (outsAt0 V c t.val t.isLt).2.1 = extr V minimumf c t := by
  rw [outsAt0_A V c t h0 h1]
  dsimp only
  frame_out
  sl_kernel_rfl

theorem out5_B (c : Dev nD) (t : Fin cfg1.N) (h0 : ¬t.val % 32 = 0) (h1 : ¬t.val % 32 = 31) :
    (outsAt0 V c t.val t.isLt).1 = extr V maximumf c t := by
  rw [outsAt0_B V c t h0 h1]
  dsimp only
  frame_out
  sl_kernel_rfl

theorem out6_B (c : Dev nD) (t : Fin cfg1.N) (h0 : ¬t.val % 32 = 0) (h1 : ¬t.val % 32 = 31) :
    (outsAt0 V c t.val t.isLt).2.1 = extr V minimumf c t := by
  rw [outsAt0_B V c t h0 h1]
  dsimp only
  frame_out
  sl_kernel_rfl

theorem out5_C (c : Dev nD) (t : Fin cfg1.N) (h0 : ¬t.val % 32 = 0) (h1 : t.val % 32 = 31) :
    (outsAt0 V c t.val t.isLt).1 = extr V maximumf c t := by
  rw [outsAt0_C V c t h0 h1]
  dsimp only
  frame_out
  sl_kernel_rfl

theorem out6_C (c : Dev nD) (t : Fin cfg1.N) (h0 : ¬t.val % 32 = 0) (h1 : t.val % 32 = 31) :
    (outsAt0 V c t.val t.isLt).2.1 = extr V minimumf c t := by
  rw [outsAt0_C V c t h0 h1]
  dsimp only
  frame_out
  sl_kernel_rfl

end Cert.Proof.K1
-- ==== Proof.K1Acc.lean ====
module

public import proofs.«01_k».proof.Proof.K1Value

@[expose] public section

set_option maxRecDepth 16384

noncomputable section

namespace Cert.Proof.K1

open Cert.KernelIdeal Cert.KernelIdeal.Gen
open Idealize.ShloMosaic Idealize.ShloMosaic.TcCoe Idealize.ShloMosaic.ValueIdx Cert.Proof.Kit
open Idealize.ShloMosaic.Pipeline (Dat)

variable (V : (c : Dev nD) → (b : Ref sig .tc) → Buf (Elt Ideal) ((c : Thread nD τ).loc b))

/-- The second-layer values summed over the samples. -/
def sumS (c : Dev nD) (t : Fin cfg1.N) : FVec Ideal S128x256 .f32 :=
  chain addf (addf (broadcast S128x256 (Scalar.ofBits .f32 0x00000000#32)) (smT (V := V) c t 0)) (smT (V := V) c t) 31
/-- Their squares summed over the samples. -/
def sumQ (c : Dev nD) (t : Fin cfg1.N) : FVec Ideal S128x256 .f32 :=
  chain addf (addf (broadcast S128x256 (Scalar.ofBits .f32 0x00000000#32)) (mulf (smT (V := V) c t 0) (smT (V := V) c t 0)))
    (fun s => mulf (smT (V := V) c t s) (smT (V := V) c t s)) 31

theorem acc0_A (c : Dev nD) (t : Fin cfg1.N) (h0 : t.val % 32 = 0) (h1 : ¬t.val % 32 = 31) (l : Fin 256) :
    (outsAt0 V c t.val t.isLt).2.2.2 (ix2 0 l) = accRow (sumS V c t) (rowL 0 (by decide) (k1_pay1 (F := Ideal))) (ix2 0 l) := by
  rw [outsAt0_A V c t h0 h1]
  dsimp only
  frame_out
  refine (canon_row0 _ _ _ _ _ _).trans ?_
  rw [readCov_row0]
  refine congrFun (?_ : _ = accRow (sumS V c t) (rowL 0 (by decide) (k1_pay1 (F := Ideal)))) _
  sl_kernel_rfl

theorem acc1_A (c : Dev nD) (t : Fin cfg1.N) (h0 : t.val % 32 = 0) (h1 : ¬t.val % 32 = 31) (l : Fin 256) :
    (outsAt0 V c t.val t.isLt).2.2.2 (ix2 1 l) = accRow (sumQ V c t) (rowL 1 (by decide) (k1_pay1 (F := Ideal))) (ix2 0 l) := by
  rw [outsAt0_A V c t h0 h1]
  dsimp only
  frame_out
  refine (canon_row1 _ _ _ _).trans ?_
  rw [readCov_row1]
  refine congrFun (?_ : _ = accRow (sumQ V c t) (rowL 1 (by decide) (k1_pay1 (F := Ideal)))) _
  sl_kernel_rfl

theorem acc0_B (c : Dev nD) (t : Fin cfg1.N) (h0 : ¬t.val % 32 = 0) (h1 : ¬t.val % 32 = 31) (l : Fin 256) :
    (outsAt0 V c t.val t.isLt).2.2.2 (ix2 0 l)
      = accRow (sumS V c t) (rowL 0 (by decide) (outsAt0 V c (t.val - 1) (Nat.lt_of_le_of_lt (Nat.sub_le _ _) t.isLt)).2.2.2) (ix2 0 l) := by
  rw [outsAt0_B V c t h0 h1]
  dsimp only
  generalize (outsAt0 V c (t.val - 1) (Nat.lt_of_le_of_lt (Nat.sub_le _ _) t.isLt)).2.2.2 = P
  frame_out
  refine (writes_row0 _ _ _ _ _ _ _ _).trans ?_
  rw [Idealize.ShloMosaic.read_unread_whole]
  refine congrFun (?_ : _ = accRow (sumS V c t) (rowL 0 (by decide) P)) _
  sl_kernel_rfl

theorem acc1_B (c : Dev nD) (t : Fin cfg1.N) (h0 : ¬t.val % 32 = 0) (h1 : ¬t.val % 32 = 31) (l : Fin 256) :
    (outsAt0 V c t.val t.isLt).2.2.2 (ix2 1 l)
      = accRow (sumQ V c t) (rowL 1 (by decide) (outsAt0 V c (t.val - 1) (Nat.lt_of_le_of_lt (Nat.sub_le _ _) t.isLt)).2.2.2) (ix2 0 l) := by
  rw [outsAt0_B V c t h0 h1]
  dsimp only
  generalize (outsAt0 V c (t.val - 1) (Nat.lt_of_le_of_lt (Nat.sub_le _ _) t.isLt)).2.2.2 = P
  frame_out
  refine (writes_row1 _ _ _ _ _ _).trans ?_
  rw [Idealize.ShloMosaic.read_unread_whole]
  refine congrFun (?_ : _ = accRow (sumQ V c t) (rowL 1 (by decide) P)) _
  sl_kernel_rfl

theorem acc0_C (c : Dev nD) (t : Fin cfg1.N) (h0 : ¬t.val % 32 = 0) (h1 : t.val % 32 = 31) (l : Fin 256) :
    (outsAt0 V c t.val t.isLt).2.2.1 (ix2 0 l)
      = accRow (sumS V c t) (rowL 0 (by decide) (outsAt0 V c (t.val - 1) (Nat.lt_of_le_of_lt (Nat.sub_le _ _) t.isLt)).2.2.2) (ix2 0 l) := by
  rw [outsAt0_C V c t h0 h1]
  dsimp only
  generalize (outsAt0 V c (t.val - 1) (Nat.lt_of_le_of_lt (Nat.sub_le _ _) t.isLt)).2.2.2 = P
  frame_out
  refine (writes_row0 _ _ _ _ _ _ _ _).trans ?_
  rw [Idealize.ShloMosaic.read_unread_whole]
  refine congrFun (?_ : _ = accRow (sumS V c t) (rowL 0 (by decide) P)) _
  sl_kernel_rfl

theorem acc1_C (c : Dev nD) (t : Fin cfg1.N) (h0 : ¬t.val % 32 = 0) (h1 : t.val % 32 = 31) (l : Fin 256) :
    (outsAt0 V c t.val t.isLt).2.2.1 (ix2 1 l)
      = accRow (sumQ V c t) (rowL 1 (by decide) (outsAt0 V c (t.val - 1) (Nat.lt_of_le_of_lt (Nat.sub_le _ _) t.isLt)).2.2.2) (ix2 0 l) := by
  rw [outsAt0_C V c t h0 h1]
  dsimp only
  generalize (outsAt0 V c (t.val - 1) (Nat.lt_of_le_of_lt (Nat.sub_le _ _) t.isLt)).2.2.2 = P
  frame_out
  refine (writes_row1 _ _ _ _ _ _).trans ?_
  rw [Idealize.ShloMosaic.read_unread_whole]
  refine congrFun (?_ : _ = accRow (sumQ V c t) (rowL 1 (by decide) P)) _
  sl_kernel_rfl

end Cert.Proof.K1
-- ==== Proof.K1Final.lean ====
module

public import proofs.«01_k».proof.Proof.K1Acc

@[expose] public section

set_option maxRecDepth 16384

noncomputable section

namespace Cert.Proof.K1

open Cert.KernelIdeal Cert.KernelIdeal.Gen
open Idealize.ShloMosaic Idealize.ShloMosaic.TcCoe Idealize.ShloMosaic.ValueIdx Cert.Proof.Kit
open Idealize.ShloMosaic.Pipeline (Dat)

variable (V : (c : Dev nD) → (b : Ref sig .tc) → Buf (Elt Ideal) ((c : Thread nD τ).loc b))

theorem pay3_apply (s q g : Vec Ideal S1x256 .f32) (l : Fin 256) :
    k1_pay3 (F := Ideal) s q g (ix2 0 l) = scaleE (s (ix2 0 l)) (q (ix2 0 l)) (g (ix2 0 l)) := by
  unfold k1_pay3 k1_pay2
  simp only [shapeCast_self, addf_apply, mulf_apply, broadcast_apply, divf_apply, subf_apply]
  have e1 : (Scalar.ofBits .f32 0x3F800000#32 : Ideal .f32) = 1 := Ideal.ofBits_one_f32
  simp only [e1]
  rfl

theorem pay4_apply (s q g b : Vec Ideal S1x256 .f32) (l : Fin 256) :
    k1_pay4 (F := Ideal) s q g b (ix2 0 l) = shiftE (s (ix2 0 l)) (q (ix2 0 l)) (g (ix2 0 l)) (b (ix2 0 l)) := by
  unfold k1_pay4
  rw [subf_apply, mulf_apply, pay3_apply]
  unfold k1_pay2
  simp only [shapeCast_self, broadcast_apply, divf_apply]
  rfl

theorem act_apply (sc sh : FVec Ideal S1x256 .f32) (y : Vec Ideal S1x1x128x256 .bf16) (r : Fin 128) (k : Fin 256) :
    act sc sh y (ix2 r k) = max (y (ix4 0 0 r k) * sc (ix2 0 k) + sh (ix2 0 k)) 0 := by
  unfold act
  have e0 : (Scalar.ofBits .f32 0x00000000#32 : Ideal .f32) = 0 := Ideal.ofBits_zero_f32
  simp only [truncf_apply, maximumf_apply, addf_apply, mulf_apply, extf_apply, bcastRow, castDrop4, broadcast_apply, e0]

theorem smp_apply (sc sh : FVec Ideal S1x256 .f32) (w : FVec Ideal S256x256 .bf16) (y : Nat → Vec Ideal S1x1x128x256 .bf16) (s : Nat)
    (r : Fin 128) (l : Fin 256) :
    smp sc sh w y s (ix2 r l) = ∑ k : Fin 256, max (y s (ix4 0 0 r k) * sc (ix2 0 k) + sh (ix2 0 k)) 0 * w (ix2 k l) := by
  unfold smp
  have hr := r.isLt
  have hs : s % 8 < 8 := Nat.mod_lt _ (by decide)
  rw [slice2 (128 * (s % 8)) 0 _ _ r l (by omega) (by have := l.isLt; omega)]
  unfold grp
  refine (Ideal.matmul_plain_apply (M := 1024) (K := 256) (N := 256) none _ w _ _ _).trans ?_
  have e0 : constant (F := Ideal) S1024x256 .f32 0x00000000#32 (ix2 ⟨128 * (s % 8) + r.val, by omega⟩ ⟨0 + l.val, by have := l.isLt; omega⟩) = 0 := Ideal.ofBits_zero_f32
  rw [e0, zero_add]
  refine Finset.sum_congr rfl fun k _ => ?_
  have h8 := concat8 (fun j : Fin 8 => act sc sh (y (8 * (s / 8) + j.val))) (concats fun k => act sc sh (y (8 * (s / 8) + k.val))) ⟨s % 8, hs⟩ r (by omega) k
  have hss : 8 * (s / 8) + s % 8 = s := Nat.div_add_mod s 8
  have hl : (⟨0 + l.val, by have := l.isLt; omega⟩ : Fin 256) = l := Fin.ext (Nat.zero_add _)
  rw [hl]
  refine congrArg (· * w (ix2 k l)) (h8.trans ?_)
  rw [act_apply]
  dsimp only
  rw [hss]

theorem rowL_scT (c : Dev nD) (t : Fin cfg1.N) (l : Fin 256) : scT (V := V) c t (ix2 0 l)
    = scaleE (iblk V c 1 t (ix2 0 l)) (iblk V c 1 t (ix2 1 l)) (iblk V c 3 t (ix2 0 l)) := by
  unfold scT
  rw [pay3_apply, rowL_apply, rowL_apply]
  rfl

theorem rowL_shT (c : Dev nD) (t : Fin cfg1.N) (l : Fin 256) : shT (V := V) c t (ix2 0 l)
    = shiftE (iblk V c 1 t (ix2 0 l)) (iblk V c 1 t (ix2 1 l)) (iblk V c 3 t (ix2 0 l)) (iblk V c 4 t (ix2 0 l)) := by
  unfold shT
  rw [pay4_apply, rowL_apply, rowL_apply]
  rfl

/-! ## The blocks, placed in their arrays -/

theorem idx0 : ∀ t : Fin cfg1.N, win1_0.index t = ![t.val / 8, 0, t.val % 8, 0] := (by decide +kernel : ∀ t : Fin grid1.N, _)
theorem idx1 : ∀ t : Fin cfg1.N, win1_1.index t = ![0, 0] := (by decide +kernel : ∀ t : Fin grid1.N, _)
theorem idx2 : ∀ t : Fin cfg1.N, win1_2.index t = ![0, 0] := (by decide +kernel : ∀ t : Fin grid1.N, _)
theorem idx3 : ∀ t : Fin cfg1.N, win1_3.index t = ![0, 0] := (by decide +kernel : ∀ t : Fin grid1.N, _)
theorem idx4 : ∀ t : Fin cfg1.N, win1_4.index t = ![0, 0] := (by decide +kernel : ∀ t : Fin grid1.N, _)
theorem idx5 : ∀ t : Fin cfg1.N, win1_5.index t = ![t.val / 8, t.val % 8, 0] := (by decide +kernel : ∀ t : Fin grid1.N, _)
theorem idx6 : ∀ t : Fin cfg1.N, win1_6.index t = ![t.val / 8, t.val % 8, 0] := (by decide +kernel : ∀ t : Fin grid1.N, _)

theorem tlt (t : Fin cfg1.N) : t.val < 32 := lt_of_lt_of_eq t.isLt (show cfg1.N = 32 from N_1)

/-- The batch a grid point works on. -/
def bOf (t : Fin cfg1.N) : Fin 4 := ⟨t.val / 8, by have := tlt t; omega⟩
/-- The centre a point's tile row is. -/
def nOf (t : Fin cfg1.N) (r : Fin 128) : Fin 1024 := ⟨128 * (t.val % 8) + r.val, by have := r.isLt; omega⟩

theorem emb0 (t : Fin cfg1.N) (s : Fin 32) (r : Fin 128) (k : Fin 256) :
    (win1_0.blk t).view.emb (ix4 0 s r k) = ix4 (bOf t) s (nOf t r) k := by
  have e := idx0 t
  funext a
  refine Fin.ext ?_
  show win1_0.index t a * _ + 1 * _ = _
  rw [e]
  match a with
  | ⟨0, _⟩ => show t.val / 8 * 1 + 1 * 0 = t.val / 8; omega
  | ⟨1, _⟩ => show 0 * 32 + 1 * s.val = s.val; omega
  | ⟨2, _⟩ => show t.val % 8 * 128 + 1 * r.val = 128 * (t.val % 8) + r.val; omega
  | ⟨3, _⟩ => show 0 * 256 + 1 * k.val = k.val; omega
theorem emb1 (t : Fin cfg1.N) (r : Fin 8) (k : Fin 256) : (win1_1.blk t).view.emb (ix2 r k) = ix2 r k := by blk_ext [idx1 t]
theorem emb2 (t : Fin cfg1.N) (r : Fin 256) (k : Fin 256) : (win1_2.blk t).view.emb (ix2 r k) = ix2 r k := by blk_ext [idx2 t]
theorem emb3 (t : Fin cfg1.N) (k : Fin 256) : (win1_3.blk t).view.emb (ix2 0 k) = ix2 0 k := by blk_ext [idx3 t]
theorem emb4 (t : Fin cfg1.N) (k : Fin 256) : (win1_4.blk t).view.emb (ix2 0 k) = ix2 0 k := by blk_ext [idx4 t]
theorem emb5 (t : Fin cfg1.N) (r : Fin 128) (l : Fin 256) : (win1_5.blk t).view.emb (ix3 0 r l) = ix3 (bOf t) (nOf t r) l := by
  have e := idx5 t
  funext a
  refine Fin.ext ?_
  show win1_5.index t a * _ + 1 * _ = _
  rw [e]
  match a with
  | ⟨0, _⟩ => show t.val / 8 * 1 + 1 * 0 = t.val / 8; omega
  | ⟨1, _⟩ => show t.val % 8 * 128 + 1 * r.val = 128 * (t.val % 8) + r.val; omega
  | ⟨2, _⟩ => show 0 * 256 + 1 * l.val = l.val; omega
theorem emb6 (t : Fin cfg1.N) (r : Fin 128) (l : Fin 256) : (win1_6.blk t).view.emb (ix3 0 r l) = ix3 (bOf t) (nOf t r) l := by
  have e := idx6 t
  funext a
  refine Fin.ext ?_
  show win1_6.index t a * _ + 1 * _ = _
  rw [e]
  match a with
  | ⟨0, _⟩ => show t.val / 8 * 1 + 1 * 0 = t.val / 8; omega
  | ⟨1, _⟩ => show t.val % 8 * 128 + 1 * r.val = 128 * (t.val % 8) + r.val; omega
  | ⟨2, _⟩ => show 0 * 256 + 1 * l.val = l.val; omega

/-- The second layer's value for a sample of a centre. -/
def y2E (c : Dev nD) (b : Fin 4) (s : Nat) (n : Fin 1024) (l : Fin 256) : EReal :=
  ∑ k : Fin 256, actE (V c main_v19_1 (ix2 (n0 := 8) 0 k)) (V c main_v19_1 (ix2 (n0 := 8) 1 k)) (V c main_v15 (ix2 (n0 := 1) 0 k)) (V c main_v16 (ix2 (n0 := 1) 0 k))
    (V c main_v19_0 (ix4 b ⟨s % 32, Nat.mod_lt _ (by decide)⟩ n k)) * V c main_v9 (ix2 k l)

theorem slab_apply (x : Vec Ideal S1x32x128x256 .bf16) (s : Nat) (r : Fin 128) (k : Fin 256) :
    slab x s (ix4 0 0 r k) = x (ix4 0 ⟨s % 32, Nat.mod_lt _ (by decide)⟩ r k) := by
  refine congrArg x (funext fun a => Fin.ext ?_)
  match a with
  | ⟨0, _⟩ => rfl
  | ⟨1, _⟩ => show s % 32 + 1 * 0 = s % 32; omega
  | ⟨2, _⟩ => show 0 + 1 * r.val = r.val; omega
  | ⟨3, _⟩ => show 0 + 1 * k.val = k.val; omega

theorem smT_apply (c : Dev nD) (t : Fin cfg1.N) (s : Nat) (r : Fin 128) (l : Fin 256) :
    smT (V := V) c t s (ix2 r l) = y2E V c (bOf t) s (nOf t r) l := by
  unfold smT
  rw [smp_apply]
  unfold y2E
  refine Finset.sum_congr rfl fun k _ => ?_
  rw [rowL_scT, rowL_shT, slab_apply]
  have h0 : iblk V c 0 t (ix4 0 ⟨s % 32, Nat.mod_lt _ (by decide)⟩ r k) = V c main_v19_0 (ix4 (bOf t) ⟨s % 32, Nat.mod_lt _ (by decide)⟩ (nOf t r) k) :=
    congrArg (V c main_v19_0) (emb0 t ⟨s % 32, Nat.mod_lt _ (by decide)⟩ r k)
  have h1 : ∀ i : Fin 8, iblk V c 1 t (ix2 i k) = V c main_v19_1 (ix2 i k) := fun i => congrArg (V c main_v19_1) (emb1 t i k)
  have h2 : k1_pay5 (F := Ideal) (iblk V c 2 t) (ix2 k l) = V c main_v9 (ix2 k l) := by
    unfold k1_pay5
    rw [shapeCast_self]
    exact congrArg (V c main_v9) (emb2 t k l)
  have h3 : iblk V c 3 t (ix2 0 k) = V c main_v15 (ix2 0 k) := congrArg (V c main_v15) (emb3 t k)
  have h4 : iblk V c 4 t (ix2 0 k) = V c main_v16 (ix2 0 k) := congrArg (V c main_v16) (emb4 t k)
  rw [h0, h1, h1, h2, h3, h4]
  rfl

theorem sumS_apply (c : Dev nD) (t : Fin cfg1.N) (r : Fin 128) (l : Fin 256) :
    sumS V c t (ix2 r l) = ∑ s : Fin 32, y2E V c (bOf t) s.val (nOf t r) l := by
  have e0 : (Scalar.ofBits .f32 0x00000000#32 : Ideal .f32) = 0 := Ideal.ofBits_zero_f32
  unfold sumS
  rw [chain_apply addf (· + ·) (fun _ _ _ => addf_apply ..), addf_apply, broadcast_apply, e0,
    chain_add (fun s => smT (V := V) c t s (ix2 r l)) 31]
  exact Finset.sum_congr rfl fun s _ => smT_apply V c t s.val r l

theorem sumQ_apply (c : Dev nD) (t : Fin cfg1.N) (r : Fin 128) (l : Fin 256) :
    sumQ V c t (ix2 r l) = ∑ s : Fin 32, y2E V c (bOf t) s.val (nOf t r) l * y2E V c (bOf t) s.val (nOf t r) l := by
  have e0 : (Scalar.ofBits .f32 0x00000000#32 : Ideal .f32) = 0 := Ideal.ofBits_zero_f32
  unfold sumQ
  rw [chain_apply addf (· + ·) (fun _ _ _ => addf_apply ..), addf_apply, broadcast_apply, e0,
    chain_add (fun s => mulf (smT (V := V) c t s) (smT (V := V) c t s) (ix2 r l)) 31]
  refine Finset.sum_congr rfl fun s _ => ?_
  rw [mulf_apply, smT_apply V c t s.val r l]

/-! ## The extremes' arrays -/

/-- The largest second-layer value of a centre and channel. -/
def G5 (c : Dev nD) : Vec Ideal S4x1024x256 .f32 := fun i =>
  chain max (y2E V c (i 0) 0 (i 1) (i 2)) (fun s => y2E V c (i 0) s (i 1) (i 2)) 31
/-- The smallest. -/
def G6 (c : Dev nD) : Vec Ideal S4x1024x256 .f32 := fun i =>
  chain min (y2E V c (i 0) 0 (i 1) (i 2)) (fun s => y2E V c (i 0) s (i 1) (i 2)) 31

theorem extr_max (c : Dev nD) (t : Fin cfg1.N) (r : Fin 128) (l : Fin 256) :
    extr V maximumf c t (ix3 0 r l) = G5 V c (ix3 (bOf t) (nOf t r) l) := by
  unfold extr
  rw [castAdd3, chain_apply maximumf max (fun _ _ _ => maximumf_apply ..)]
  simp only [smT_apply]
  rfl

theorem extr_min (c : Dev nD) (t : Fin cfg1.N) (r : Fin 128) (l : Fin 256) :
    extr V minimumf c t (ix3 0 r l) = G6 V c (ix3 (bOf t) (nOf t r) l) := by
  unfold extr
  rw [castAdd3, chain_apply minimumf min (fun _ _ _ => minimumf_apply ..)]
  simp only [smT_apply]
  rfl

theorem out5 (c : Dev nD) (t : Fin cfg1.N) : (outsAt0 V c t.val t.isLt).1 = extr V maximumf c t := by
  by_cases h0 : t.val % 32 = 0
  · exact out5_A V c t h0 (by omega)
  · by_cases h1 : t.val % 32 = 31
    · exact out5_C V c t h0 h1
    · exact out5_B V c t h0 h1
theorem out6 (c : Dev nD) (t : Fin cfg1.N) : (outsAt0 V c t.val t.isLt).2.1 = extr V minimumf c t := by
  by_cases h0 : t.val % 32 = 0
  · exact out6_A V c t h0 (by omega)
  · by_cases h1 : t.val % 32 = 31
    · exact out6_C V c t h0 h1
    · exact out6_B V c t h0 h1

theorem final5 (c : Dev nD) : (dat V c).arrAt 5 cfg1.N = G5 V c := by
  refine (dat V c).arrAt_eq_of_covers 5 _ (by decide +kernel) fun t hf y => ?_
  blk_simp
  rw [after0_5, out5]
  change S1x128x256.Idx at y
  obtain ⟨z, n, l, rfl⟩ : ∃ (z : Fin 1) (n : Fin 128) (l : Fin 256), y = ix3 z n l := ⟨y 0, y 1, y 2, eq_ix3 y⟩
  have hz : z = 0 := Subsingleton.elim _ _
  subst hz
  exact (extr_max V c t n l).trans (congrArg (G5 V c) (emb5 t n l).symm)

theorem final6 (c : Dev nD) : (dat V c).arrAt 6 cfg1.N = G6 V c := by
  refine (dat V c).arrAt_eq_of_covers 6 _ (by decide +kernel) fun t hf y => ?_
  blk_simp
  rw [after0_6, out6]
  change S1x128x256.Idx at y
  obtain ⟨z, n, l, rfl⟩ : ∃ (z : Fin 1) (n : Fin 128) (l : Fin 256), y = ix3 z n l := ⟨y 0, y 1, y 2, eq_ix3 y⟩
  have hz : z = 0 := Subsingleton.elim _ _
  subst hz
  exact (extr_min V c t n l).trans (congrArg (G6 V c) (emb6 t n l).symm)

/-! ## The statistics -/

/-- The accumulated row after some points is the sum of the points' tiles. -/
theorem acc_row (R : Fin 8) (hR : R.val < 8) (S : Fin cfg1.N → FVec Ideal S128x256 .f32) (c : Dev nD) (l : Fin 256)
    (hA : ∀ t : Fin cfg1.N, t.val % 32 = 0 → (outsAt0 V c t.val t.isLt).2.2.2 (ix2 R l) = ∑ r : Fin 128, S t (ix2 r l))
    (hB : ∀ t : Fin cfg1.N, ¬t.val % 32 = 0 → ¬t.val % 32 = 31 → (outsAt0 V c t.val t.isLt).2.2.2 (ix2 R l)
      = (outsAt0 V c (t.val - 1) (Nat.lt_of_le_of_lt (Nat.sub_le _ _) t.isLt)).2.2.2 (ix2 R l) + ∑ r : Fin 128, S t (ix2 r l)) :
    ∀ (n : Nat) (hn : n < cfg1.N), n < 31 → (outsAt0 V c n hn).2.2.2 (ix2 R l)
      = ∑ k : Fin (n + 1), ∑ r : Fin 128, S ⟨k.val, Nat.lt_of_lt_of_le k.isLt hn⟩ (ix2 r l) := by
  intro n
  induction n with
  | zero => intro hn _; rw [Fin.sum_univ_one]; exact hA ⟨0, hn⟩ rfl
  | succ n ih =>
    intro hn h31
    rw [Fin.sum_univ_castSucc]
    refine (hB ⟨n + 1, hn⟩ (by show ¬(n + 1) % 32 = 0; omega) (by show ¬(n + 1) % 32 = 31; omega)).trans ?_
    exact congrArg (· + ∑ r : Fin 128, S ⟨n + 1, hn⟩ (ix2 r l)) (ih (Nat.lt_of_succ_lt hn) (by omega))

theorem last_row (R : Fin 8) (hR : R.val < 8) (S : Fin cfg1.N → FVec Ideal S128x256 .f32) (c : Dev nD) (l : Fin 256)
    (hA : ∀ t : Fin cfg1.N, t.val % 32 = 0 → (outsAt0 V c t.val t.isLt).2.2.2 (ix2 R l) = ∑ r : Fin 128, S t (ix2 r l))
    (hB : ∀ t : Fin cfg1.N, ¬t.val % 32 = 0 → ¬t.val % 32 = 31 → (outsAt0 V c t.val t.isLt).2.2.2 (ix2 R l)
      = (outsAt0 V c (t.val - 1) (Nat.lt_of_le_of_lt (Nat.sub_le _ _) t.isLt)).2.2.2 (ix2 R l) + ∑ r : Fin 128, S t (ix2 r l))
    (hC : ∀ t : Fin cfg1.N, ¬t.val % 32 = 0 → t.val % 32 = 31 → (outsAt0 V c t.val t.isLt).2.2.1 (ix2 R l)
      = (outsAt0 V c (t.val - 1) (Nat.lt_of_le_of_lt (Nat.sub_le _ _) t.isLt)).2.2.2 (ix2 R l) + ∑ r : Fin 128, S t (ix2 r l))
    (t : Fin cfg1.N) (ht : t.val = 31) :
    (outsAt0 V c t.val t.isLt).2.2.1 (ix2 R l) = ∑ k : Fin 32, ∑ r : Fin 128, S ⟨k.val, lt_of_lt_of_eq k.isLt N_1.symm⟩ (ix2 r l) := by
  refine (hC t (by omega) (by omega)).trans ?_
  rw [acc_row V R hR S c l hA hB (t.val - 1) _ (by omega)]
  have e : ∑ k : Fin 32, ∑ r : Fin 128, S ⟨k.val, lt_of_lt_of_eq k.isLt N_1.symm⟩ (ix2 r l)
      = ∑ k : Fin (30 + 1), ∑ r : Fin 128, S ⟨k.val, lt_of_lt_of_eq (Nat.lt_succ_of_lt k.isLt) N_1.symm⟩ (ix2 r l)
        + ∑ r : Fin 128, S ⟨31, lt_of_lt_of_eq (by decide) N_1.symm⟩ (ix2 r l) := Fin.sum_univ_castSucc _
  rw [e]
  obtain ⟨n, hn⟩ := t
  dsimp only at ht
  subst ht
  rfl

theorem whole7 : ∀ t : Fin cfg1.N, t.val = 31 → win1_7.WholeAt t := (by decide +kernel : ∀ t : Fin grid1.N, _)

theorem zero_row (r : Nat) (hr : r < 8) (l : Fin 256) : rowL r hr (k1_pay1 (F := Ideal)) (ix2 0 l) = 0 := by
  rw [rowL_apply]
  unfold k1_pay1
  rw [shapeCast_self]
  exact Ideal.ofBits_zero_f32

/-- The statistics block: the sums in row 0, the sums of squares in row 1. -/
theorem final7_0 (c : Dev nD) (l : Fin 256) : (dat V c).arrAt 7 cfg1.N (ix2 0 l)
    = ∑ t : Fin 32, ∑ r : Fin 128, ∑ s : Fin 32, y2E V c (bOf t) s.val (nOf t r) l := by
  obtain ⟨t₀, ht₀⟩ : ∃ t : Fin cfg1.N, t.val = 31 := ⟨⟨31, lt_of_lt_of_eq (by decide) N_1.symm⟩, rfl⟩
  refine ((dat V c).arrAt_emb_eq_after_last 7 t₀ (whole7 t₀ ht₀) (ix2 0 l)).trans ?_
  blk_simp
  rw [after0_7]
  refine (last_row V 0 (by decide) (sumS V c) c l (fun t h => ?_) (fun t h0 h1 => ?_) (fun t h0 h1 => ?_) t₀ ht₀).trans ?_
  · rw [acc0_A V c t h (by omega), accRow_apply, zero_row, zero_add]
  · rw [acc0_B V c t h0 h1, accRow_apply, rowL_apply]
    rfl
  · rw [acc0_C V c t h0 h1, accRow_apply, rowL_apply]
    rfl
  · exact Finset.sum_congr rfl fun t _ => Finset.sum_congr rfl fun r _ => sumS_apply V c t r l

theorem final7_1 (c : Dev nD) (l : Fin 256) : (dat V c).arrAt 7 cfg1.N (ix2 1 l)
    = ∑ t : Fin 32, ∑ r : Fin 128, ∑ s : Fin 32, y2E V c (bOf t) s.val (nOf t r) l * y2E V c (bOf t) s.val (nOf t r) l := by
  obtain ⟨t₀, ht₀⟩ : ∃ t : Fin cfg1.N, t.val = 31 := ⟨⟨31, lt_of_lt_of_eq (by decide) N_1.symm⟩, rfl⟩
  refine ((dat V c).arrAt_emb_eq_after_last 7 t₀ (whole7 t₀ ht₀) (ix2 1 l)).trans ?_
  blk_simp
  rw [after0_7]
  refine (last_row V 1 (by decide) (sumQ V c) c l (fun t h => ?_) (fun t h0 h1 => ?_) (fun t h0 h1 => ?_) t₀ ht₀).trans ?_
  · rw [acc1_A V c t h (by omega), accRow_apply, zero_row, zero_add]
  · rw [acc1_B V c t h0 h1, accRow_apply, rowL_apply]
    rfl
  · rw [acc1_C V c t h0 h1, accRow_apply, rowL_apply]
    rfl
  · exact Finset.sum_congr rfl fun t _ => Finset.sum_congr rfl fun r _ => sumQ_apply V c t r l

end Cert.Proof.K1
-- ==== Proof.K2Value.lean ====
module

public import proofs.«01_k».proof.Proof.K2Frame
public import proofs.«01_k».proof.Proof.Spec
public import proofs.«01_k».proof.Proof.Kit
public import Idealize.ShloMosaic.Lib.IdealHost
public import Idealize.ShloMosaic.Lib.Pipeline.ValueKit.Acc
public import Idealize.ShloMosaic.Lib.Pipeline.ValueKit.Geometry

@[expose] public section

set_option maxRecDepth 16384

noncomputable section

namespace Cert.Proof.K2

open Cert.KernelIdeal Cert.KernelIdeal.Gen
open Idealize.ShloMosaic Idealize.ShloMosaic.TcCoe Idealize.ShloMosaic.ValueIdx Cert.Proof.Kit
open Idealize.ShloMosaic.Pipeline (Dat)

variable (V : (c : Dev nD) → (b : Ref sig .tc) → Buf (Elt Ideal) ((c : Thread nD τ).loc b))

/-- The pooled block at an index: the extreme the sign of the scale picks, normalised and rectified. -/
theorem pay2_apply (s q g b : Vec Ideal S1x256 .f32) (mx mn : Vec Ideal S1x128x256 .f32) (n : Fin 128) (l : Fin 256) :
    k2_pay2 (F := Ideal) s q g b mx mn (ix2 n l) =
      poolE (s (ix2 0 l)) (q (ix2 0 l)) (g (ix2 0 l)) (b (ix2 0 l)) (mx (ix3 0 n l)) (mn (ix3 0 n l)) := by
  unfold k2_pay2
  simp only [shapeCast_self, maximumf_apply, addf_apply, mulf_apply, select_apply, bcastRow, castDrop3, broadcast_apply, cmpf_apply,
    divf_apply, subf_apply, Ideal.ofBits_zero_f32, Ideal.ofBits_one_f32]
  have e0 : (Scalar.ofBits .f32 0x00000000#32 : Ideal .f32) = 0 := Ideal.ofBits_zero_f32
  have e1 : (Scalar.ofBits .f32 0x3F800000#32 : Ideal .f32) = 1 := Ideal.ofBits_one_f32
  simp only [e0, e1]
  rfl

/-- The first two rows of the statistics block. -/
def rowE (r : Fin 8) (x : Vec Ideal S8x256 .f32) : Vec Ideal S1x256 .f32 := fun j => x (ix2 r (j 1))

theorem out_eq (c : Dev nD) (t : Fin cfg2.N) : outsAt2 V c t = k2_pay1 (F := Ideal) (k2_pay2
    (rowE 0 (iblk V c 2 t)) (rowE 1 (iblk V c 2 t)) (iblk V c 3 t) (iblk V c 4 t) (iblk V c 0 t) (iblk V c 1 t)) := by
  unfold outsAt2
  frame_out
  congr 2
  · funext j; unfold View.ld rowE; congr 1
    refine Shape.idx_ext₂ ?_ ?_
    · have := idx2_lt0 j; show 0 + 1 * (j 0).val = 0; omega
    · show 0 + 1 * (j 1).val = (j 1).val; omega
  · funext j; unfold View.ld rowE; congr 1
    refine Shape.idx_ext₂ ?_ ?_
    · have := idx2_lt0 j; show 1 + 1 * (j 0).val = 1; omega
    · show 0 + 1 * (j 1).val = (j 1).val; omega

/-- The pooling call's output array. -/
def G5 (c : Dev nD) : Vec Ideal S4x1024x256 .f32 := fun i =>
  poolE (V c main_v20_2 (ix2 0 (i 2))) (V c main_v20_2 (ix2 1 (i 2))) (V c main_v17 (ix2 0 (i 2))) (V c main_v18 (ix2 0 (i 2)))
    (V c main_v20_0 i) (V c main_v20_1 i)

theorem idx0 : ∀ t : Fin cfg2.N, win2_0.index t = win2_5.index t := (by decide +kernel : ∀ t : Fin grid2.N, _)
theorem idx1 : ∀ t : Fin cfg2.N, win2_1.index t = win2_5.index t := (by decide +kernel : ∀ t : Fin grid2.N, _)
theorem idx2 : ∀ t : Fin cfg2.N, win2_2.index t = ![0, 0] := (by decide +kernel : ∀ t : Fin grid2.N, _)
theorem idx3 : ∀ t : Fin cfg2.N, win2_3.index t = ![0, 0] := (by decide +kernel : ∀ t : Fin grid2.N, _)
theorem idx4 : ∀ t : Fin cfg2.N, win2_4.index t = ![0, 0] := (by decide +kernel : ∀ t : Fin grid2.N, _)
theorem idx5 : ∀ t : Fin cfg2.N, win2_5.index t (2 : Fin 3) = 0 := (by decide +kernel : ∀ t : Fin grid2.N, _)

theorem emb0 (t : Fin cfg2.N) (z : Fin 1) (n : Fin 128) (l : Fin 256) :
    (win2_0.blk t).view.emb (ix3 z n l) = (win2_5.blk t).view.emb (ix3 z n l) := by
  have e := idx0 t
  funext a
  refine Fin.ext ?_
  show win2_0.index t a * _ + 1 * _ = win2_5.index t a * _ + 1 * _
  rw [e]
theorem emb1 (t : Fin cfg2.N) (z : Fin 1) (n : Fin 128) (l : Fin 256) :
    (win2_1.blk t).view.emb (ix3 z n l) = (win2_5.blk t).view.emb (ix3 z n l) := by
  have e := idx1 t
  funext a
  refine Fin.ext ?_
  show win2_1.index t a * _ + 1 * _ = win2_5.index t a * _ + 1 * _
  rw [e]
theorem emb2 (t : Fin cfg2.N) (r : Fin 8) (k : Fin 256) : (win2_2.blk t).view.emb (ix2 r k) = ix2 r k := by blk_ext [idx2 t]
theorem emb3 (t : Fin cfg2.N) (k : Fin 256) : (win2_3.blk t).view.emb (ix2 0 k) = ix2 0 k := by blk_ext [idx3 t]
theorem emb4 (t : Fin cfg2.N) (k : Fin 256) : (win2_4.blk t).view.emb (ix2 0 k) = ix2 0 k := by blk_ext [idx4 t]
theorem emb5 (t : Fin cfg2.N) (z : Fin 1) (n : Fin 128) (l : Fin 256) : (win2_5.blk t).view.emb (ix3 z n l) 2 = l := by
  refine Fin.ext ?_
  have := idx5 t
  show win2_5.index t 2 * 256 + 1 * l.val = l.val
  omega

theorem final (c : Dev nD) : (dat V c).arrAt 5 cfg2.N = G5 V c := by
  refine (dat V c).arrAt_eq_of_covers 5 _ (by decide +kernel) fun t hf y => ?_
  blk_simp
  rw [after2_5, out_eq]
  change S1x128x256.Idx at y
  obtain ⟨z, n, l, rfl⟩ : ∃ (z : Fin 1) (n : Fin 128) (l : Fin 256), y = ix3 z n l := ⟨y 0, y 1, y 2, eq_ix3 y⟩
  unfold k2_pay1
  rw [castAdd3, pay2_apply]
  unfold G5 rowE
  blk_simp [iblk]
  have hz : z = 0 := Subsingleton.elim _ _
  subst hz
  have h5 := emb5 t 0 n l
  exact congr (congr (congr (congr (congr (congrArg poolE (congrArg (V c main_v20_2) ((emb2 t 0 l).trans (congrArg (ix2 0) h5.symm))))
    (congrArg (V c main_v20_2) ((emb2 t 1 l).trans (congrArg (ix2 1) h5.symm))))
    (congrArg (V c main_v17) ((emb3 t l).trans (congrArg (ix2 0) h5.symm))))
    (congrArg (V c main_v18) ((emb4 t l).trans (congrArg (ix2 0) h5.symm))))
    (congrArg (V c main_v20_0) (emb0 t 0 n l))) (congrArg (V c main_v20_1) (emb1 t 0 n l))

end Cert.Proof.K2
-- ==== Proof.HostVals.lean ====
module

public import proofs.«01_k».proof.Proof.Whole
public import proofs.«01_k».proof.Proof.RefY
public import proofs.«01_k».proof.Proof.K0Final
public import proofs.«01_k».proof.Proof.K1Final
public import proofs.«01_k».proof.Proof.K2Value

@[expose] public section

set_option maxRecDepth 16384

noncomputable section

namespace Cert.Proof.Host

open Cert.KernelIdeal Cert.KernelIdeal.Gen
open Idealize.ShloMosaic Idealize.ShloMosaic.TcCoe Idealize.ShloMosaic.ValueIdx Cert.Proof.Ref
open Idealize.ShloMosaic.Pipeline (Dat)

variable (m : (ℓ : Loc nD τ sig) → Buf (Elt Ideal) ℓ) (c : Dev nD)

/-- The arguments the kernel is launched with. -/
abbrev a0 : (⟨S4x1024x3, .f32⟩ : BufTy).Contents (Elt Ideal) := m ((c : Thread nD τ).loc main_arg0)
abbrev a1 : (⟨S4x256x1024, .f32⟩ : BufTy).Contents (Elt Ideal) := m ((c : Thread nD τ).loc main_arg1)
abbrev a2 : (⟨S4x1024x3x3, .f32⟩ : BufTy).Contents (Elt Ideal) := m ((c : Thread nD τ).loc main_arg2)
abbrev a3 : (⟨S256x259, .f32⟩ : BufTy).Contents (Elt Ideal) := m ((c : Thread nD τ).loc main_arg3)
abbrev a4 : (⟨S256, .f32⟩ : BufTy).Contents (Elt Ideal) := m ((c : Thread nD τ).loc main_arg4)
abbrev a5 : (⟨S256, .f32⟩ : BufTy).Contents (Elt Ideal) := m ((c : Thread nD τ).loc main_arg5)
abbrev a6 : (⟨S256x256, .f32⟩ : BufTy).Contents (Elt Ideal) := m ((c : Thread nD τ).loc main_arg6)
abbrev a7 : (⟨S256, .f32⟩ : BufTy).Contents (Elt Ideal) := m ((c : Thread nD τ).loc main_arg7)
abbrev a8 : (⟨S256, .f32⟩ : BufTy).Contents (Elt Ideal) := m ((c : Thread nD τ).loc main_arg8)

/-- A buffer only the first host stretch writes. -/
theorem V3_V1 (r : Ref sig .tc) (h2 : r ∉ hostOps0_2_W) (h1 : r ∉ hostOps0_1_W) : V3 m c r = V1 m c r := (V3_of m c r h2).trans (V2_of m c r h1)

theorem v0_eq : V3 m c main_v0 = transpose S4x3x1024 [0, 2, 1] (a0 m c) transposes_S4x1024x3_S4x3x1024_0_2_1 := by
  rw [V3_V1 m c main_v0 (by decide) (by decide)]
  after_results
  try rfl

theorem v1_eq : V3 m c main_v1 = shapeCast S4x1024x9 (a2 m c) shapeCasts_S4x1024x3x3_S4x1024x9 := by
  rw [V3_V1 m c main_v1 (by decide) (by decide)]
  after_results
  try rfl

theorem v2_eq : V3 m c main_v2 = transpose S4x1024x256 [0, 2, 1] (a1 m c) transposes_S4x256x1024_S4x1024x256_0_2_1 := by
  rw [V3_V1 m c main_v2 (by decide) (by decide)]
  after_results
  try rfl

theorem v6_eq : V3 m c main_v6 = concatenate S8x256 0
    [⟨S3x256, transpose S3x256 [1, 0] (extractStridedSlice S256x3 ![0, 0] (a3 m c) slices_S256x259_S256x3_0_0) transposes_S256x3_S3x256_1_0⟩,
      ⟨S5x256, broadcastInDim S5x256 ![] bcast_S_S5x256 (constant (F := Ideal) S_ .f32 0x00000000#32)⟩] concatenates_S3x256_S5x256_S8x256_d0 := by
  rw [V3_V1 m c main_v6 (by decide) (by decide)]
  after_results
  try rfl

theorem v8_eq : V3 m c main_v8 = transpose S256x256 [1, 0] (extractStridedSlice S256x256 ![0, 3] (a3 m c) slices_S256x259_S256x256_0_3) transposes_S256x256_S256x256_1_0 := by
  rw [V3_V1 m c main_v8 (by decide) (by decide)]
  after_results
  try rfl

theorem v9_eq : V3 m c main_v9 = transpose S256x256 [1, 0] (a6 m c) transposes_S256x256_S256x256_1_0 := by
  rw [V3_V1 m c main_v9 (by decide) (by decide)]
  after_results
  try rfl

theorem v14_eq : V3 m c main_v14 = truncf .bf16 (select (cmpi .sle (iotaInDim S1024x1024 32 0) (iotaInDim S1024x1024 32 1))
    (broadcastInDim S1024x1024 ![] bcast_S_S1024x1024 (constant (F := Ideal) S_ .f32 0x3F800000#32))
    (broadcastInDim S1024x1024 ![] bcast_S_S1024x1024 (constant (F := Ideal) S_ .f32 0x00000000#32))) bitsLt_bf16_f32 := by
  after_results
  try rfl

theorem v15_eq : V3 m c main_v15 = shapeCast S1x256 (a4 m c) shapeCasts_S256_S1x256 := by
  after_results
  try rfl
theorem v16_eq : V3 m c main_v16 = shapeCast S1x256 (a5 m c) shapeCasts_S256_S1x256 := by
  after_results
  try rfl
theorem v17_eq : V3 m c main_v17 = shapeCast S1x256 (a7 m c) shapeCasts_S256_S1x256 := by
  after_results
  try rfl
theorem v18_eq : V3 m c main_v18 = shapeCast S1x256 (a8 m c) shapeCasts_S256_S1x256 := by
  after_results
  try rfl

theorem v22_eq : V7 m (Whole.outs m) c main_v22 = transpose S4x256x1024 [0, 2, 1] (Whole.W6 m c main_v21) transposes_S4x1024x256_S4x256x1024_0_2_1 := by
  rw [← Whole.V6_eq]
  after_results
  try rfl

/-! ## What the first region reads, by coordinates -/

theorem arg0_eq : V3 m c main_arg0 = a0 m c := by
  rw [V3_V1 m c main_arg0 (by decide) (by decide), V1_of m c main_arg0 (by decide)]

theorem Xa_eq (b : Fin 4) (j : Fin 1024) (k : Fin 3) : K0.Xa (Whole.A3 m) c b j k = XA (a0 m c) b j k := by
  unfold K0.Xa XA
  refine (congrFun (v0_eq m c) _).trans ?_
  exact transpose_apply _ _ _ _ _ fun q => by match q with | ⟨0, _⟩ => rfl | ⟨1, _⟩ => rfl | ⟨2, _⟩ => rfl

theorem Ca_eq (b : Fin 4) (n : Fin 1024) (k : Fin 3) : K0.Ca (Whole.A3 m) c b n k = XA (a0 m c) b n k :=
  congrFun (arg0_eq m c) _

theorem Ra_eq (b : Fin 4) (n : Fin 1024) (q : Fin 9) : K0.Ra (Whole.A3 m) c b n q = R9 (a2 m c) b n q := by
  unfold K0.Ra R9 RA
  refine (congrFun (v1_eq m c) _).trans ?_
  refine shapeCast_apply _ _ _ _ ?_
  rw [Shape.rowMajor_val_four, Shape.rowMajor_val_three]
  show ((b.val * 1024 + n.val) * 3 + q.val / 3) * 3 + q.val % 3 = (b.val * 1024 + n.val) * 9 + q.val
  omega

theorem Fa_eq (b : Fin 4) (j : Fin 1024) (k : Fin 256) : K0.Fa (Whole.A3 m) c b j k = FA (a1 m c) b k j := by
  unfold K0.Fa FA
  refine (congrFun (v2_eq m c) _).trans ?_
  exact transpose_apply _ _ _ _ _ fun q => by match q with | ⟨0, _⟩ => rfl | ⟨1, _⟩ => rfl | ⟨2, _⟩ => rfl

theorem Wf_eq (k l : Fin 256) : K0.Wf (Whole.A3 m) c k l = WA (a3 m c) l ⟨3 + k.val, by omega⟩ := by
  unfold K0.Wf WA
  refine (congrFun (v8_eq m c) _).trans ?_
  refine (transpose_apply _ _ _ _ (ix2 l k) fun q => by match q with | ⟨0, _⟩ => rfl | ⟨1, _⟩ => rfl).trans ?_
  exact extractStridedSlice_apply _ _ _ _ _ fun q => by
    match q with
    | ⟨0, _⟩ => exact (Nat.zero_add _).symm
    | ⟨1, _⟩ => rfl

theorem Wa_eq (l : Fin 256) (k : Fin 3) : K0.Wa (Whole.A3 m) c l k = WA (a3 m c) l ⟨k.val, by omega⟩ := by
  unfold K0.Wa WA
  refine (congrFun (v6_eq m c) _).trans ?_
  refine (concatenate_pair_apply_left (t := S8x256) (s₁ := S3x256) (s₂ := S5x256) (0 : Fin 2) _ _ _ _ rfl (ix2 k l)
    (fun q => by match q with | ⟨0, _⟩ => rfl | ⟨1, _⟩ => rfl)).trans ?_
  refine (transpose_apply _ _ _ _ (ix2 l k) fun q => by match q with | ⟨0, _⟩ => rfl | ⟨1, _⟩ => rfl).trans ?_
  exact extractStridedSlice_apply _ _ _ _ _ fun q => by
    match q with
    | ⟨0, _⟩ => exact (Nat.zero_add _).symm
    | ⟨1, _⟩ => exact (Nat.zero_add _).symm

theorem sle_small {i j : Nat} (hi : i < 1024) (hj : j < 1024) : IntOp.cmpi .sle (BitVec.ofNat 32 i) (BitVec.ofNat 32 j) = if i ≤ j then 1#1 else 0#1 := by
  show BitVec.ofBool (BitVec.sle (BitVec.ofNat 32 i) (BitVec.ofNat 32 j)) = _
  have h : BitVec.sle (BitVec.ofNat 32 i) (BitVec.ofNat 32 j) = decide (i ≤ j) := by
    rw [BitVec.sle_eq_decide, BitVec.toInt_ofNat', BitVec.toInt_ofNat']
    refine decide_eq_decide.mpr ?_
    simp only [Int.bmod_def]
    omega
  rw [h]
  by_cases hij : i ≤ j
  · rw [if_pos hij, decide_eq_true hij]; rfl
  · rw [if_neg hij, decide_eq_false hij]; rfl

theorem Ta_eq (i j : Fin 1024) : K0.Ta (Whole.A3 m) c i j = if i ≤ j then 1 else 0 := by
  unfold K0.Ta
  refine (congrFun (v14_eq m c) _).trans ?_
  rw [truncf_apply, select_apply]
  show Scalar.select (IntOp.cmpi .sle (BitVec.ofNat 32 i.val) (BitVec.ofNat 32 j.val)) (Ideal.ofBits .f32 0x3F800000#32) (Ideal.ofBits .f32 0x00000000#32) = _
  rw [sle_small i.isLt j.isLt, Ideal.ofBits_zero_f32, Ideal.ofBits_one_f32]
  by_cases hij : i ≤ j
  · rw [if_pos hij, if_pos (Fin.le_def.mp hij)]; rfl
  · rw [if_neg hij, if_neg (fun h => hij (Fin.le_def.mpr h))]; rfl

/-! ## What the later regions read -/

theorem v9_at (k l : Fin 256) : V3 m c main_v9 (ix2 k l) = (a6 m c) (ix2 l k) := by
  refine (congrFun (v9_eq m c) _).trans ?_
  exact transpose_apply _ _ _ _ _ fun q => by match q with | ⟨0, _⟩ => rfl | ⟨1, _⟩ => rfl
theorem v15_at (l : Fin 256) : V3 m c main_v15 (ix2 (0 : Fin 1) l) = (a4 m c) (ix1 l) := (congrFun (v15_eq m c) _).trans (Kit.castRow1 _ _ _ _)
theorem v16_at (l : Fin 256) : V3 m c main_v16 (ix2 (0 : Fin 1) l) = (a5 m c) (ix1 l) := (congrFun (v16_eq m c) _).trans (Kit.castRow1 _ _ _ _)
theorem v17_at (l : Fin 256) : V3 m c main_v17 (ix2 (0 : Fin 1) l) = (a7 m c) (ix1 l) := (congrFun (v17_eq m c) _).trans (Kit.castRow1 _ _ _ _)
theorem v18_at (l : Fin 256) : V3 m c main_v18 (ix2 (0 : Fin 1) l) = (a8 m c) (ix1 l) := (congrFun (v18_eq m c) _).trans (Kit.castRow1 _ _ _ _)

theorem W4_of (r : Ref sig .tc) (h : r ∉ ([main_v19_0, main_v19_1] : List (Ref sig .tc))) : Whole.W4 m c r = V3 m c r := by
  rw [← Whole.V4_eq]; exact V4_of m _ c r h
theorem W5_of (r : Ref sig .tc) (h : r ∉ ([main_v20_0, main_v20_1, main_v20_2] : List (Ref sig .tc))) : Whole.W5 m c r = Whole.W4 m c r := by
  rw [← Whole.V5_eq, ← Whole.V4_eq]; exact V5_of m _ c r h

/-- The result, in the second pipeline's extremes. -/
theorem v22_at (b : Fin 4) (l : Fin 256) (n : Fin 1024) : V7 m (Whole.outs m) c main_v22 (ix3 b l n) = K2.G5 (Whole.A5 m) c (ix3 b n l) := by
  refine (congrFun (v22_eq m c) _).trans ?_
  refine (transpose_apply _ _ _ _ (ix3 b n l) fun q => by match q with | ⟨0, _⟩ => rfl | ⟨1, _⟩ => rfl | ⟨2, _⟩ => rfl).trans ?_
  rw [Whole.W6_main_v21, K2.final]

end Cert.Proof.Host
-- ==== Proof.RealMath.lean ====
module

public import proofs.«01_k».proof.Proof.Select
public import proofs.«01_k».proof.Proof.Rows
public import proofs.«01_k».proof.Proof.Spec

@[expose] public section

noncomputable section

namespace Cert.Proof

open Idealize.ShloMosaic

/-! ## Sums of reals among the extended reals -/

theorem coe_sum {ι : Type} (t : Finset ι) (f : ι → ℝ) : (∑ i ∈ t, (f i : EReal)) = ((∑ i ∈ t, f i : ℝ) : EReal) := by
  classical
  induction t using Finset.induction_on with
  | empty => simp
  | insert a s ha ih => rw [Finset.sum_insert ha, Finset.sum_insert ha, ih, EReal.coe_add]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The grid's points and their tile rows run once through the batches and the centres. -/
theorem sum_tiles (f : Fin 4 → Fin 1024 → EReal) :
    (∑ t : Fin 32, ∑ r : Fin 128, f ⟨t.val / 8, by omega⟩ ⟨128 * (t.val % 8) + r.val, by omega⟩) = ∑ b : Fin 4, ∑ n : Fin 1024, f b n := by
  rw [← Fintype.sum_prod_type', ← Fintype.sum_prod_type']
  refine Fintype.sum_bijective (fun p : Fin 32 × Fin 128 => ((⟨p.1.val / 8, by omega⟩ : Fin 4), (⟨128 * (p.1.val % 8) + p.2.val, by omega⟩ : Fin 1024))) ⟨?_, ?_⟩ _ _ fun p => rfl
  · rintro ⟨⟨a, ha⟩, ⟨b, hb⟩⟩ ⟨⟨a', ha'⟩, ⟨b', hb'⟩⟩ h
    simp only [Prod.mk.injEq, Fin.mk.injEq] at h ⊢
    omega
  · rintro ⟨⟨a, ha⟩, ⟨b, hb⟩⟩
    refine ⟨(⟨8 * a + b / 128, by omega⟩, ⟨b % 128, by omega⟩), ?_⟩
    simp only [Prod.mk.injEq, Fin.mk.injEq]
    omega

/-! ## The statistics of one channel -/

variable {ι : Type} [Fintype ι]

/-- The samples' mean, and the mean of their squared deviations from it. -/
def meanR (y : ι → ℝ) : ℝ := (∑ i, y i) / 131072
def varR (y : ι → ℝ) : ℝ := (∑ i, (y i - meanR y) * (y i - meanR y)) / 131072

theorem varR_nonneg (y : ι → ℝ) : 0 ≤ varR y :=
  div_nonneg (Finset.sum_nonneg fun i _ => mul_self_nonneg _) (by norm_num)

/-- The mean of the squares less the square of the mean. -/
theorem varR_eq (hN : Fintype.card ι = 131072) (y : ι → ℝ) :
    varR y = (∑ i, y i * y i) / 131072 - meanR y * meanR y := by
  have h : (∑ i, (y i - meanR y) * (y i - meanR y)) = (∑ i, y i * y i) - 2 * meanR y * (∑ i, y i) + 131072 * (meanR y * meanR y) := by
    have e : ∀ i, (y i - meanR y) * (y i - meanR y) = y i * y i - 2 * meanR y * y i + meanR y * meanR y := fun i => by ring
    rw [Finset.sum_congr rfl fun i _ => e i, Finset.sum_add_distrib, Finset.sum_sub_distrib, ← Finset.mul_sum, Finset.sum_const, Finset.card_univ, hN]
    simp
  have hs : (∑ i, y i) = 131072 * meanR y := by unfold meanR; ring
  unfold varR
  rw [h, hs]
  ring

/-- A sample normalized. -/
def bnR (y : ι → ℝ) (e g b : ℝ) (x : ℝ) : ℝ := max ((x - meanR y) / Real.sqrt (varR y + e) * g + b) 0
/-- The factor. -/
def scaleR (y : ι → ℝ) (e g : ℝ) : ℝ := 1 / Real.sqrt (varR y + e) * g

theorem div_real {x d : ℝ} (hd : d ≠ 0) : Ideal.div (x : EReal) (d : EReal) = ((x / d : ℝ) : EReal) := by
  rw [Ideal.div_coe hd, ← EReal.coe_mul]
  congr 1
  ring

theorem sqrt_real {x : ℝ} (hx : 0 ≤ x) : Ideal.sqrt (x : EReal) = ((Real.sqrt x : ℝ) : EReal) := by
  rw [Ideal.sqrt_coe]
  exact if_neg (not_lt.mpr hx)

theorem scaleE_real (hN : Fintype.card ι = 131072) (y : ι → ℝ) {e : ℝ} (he : 0 < e) (hE : epsE = (e : EReal)) (g : ℝ) :
    scaleE ((∑ i, y i : ℝ) : EReal) ((∑ i, y i * y i : ℝ) : EReal) (g : EReal) = ((scaleR y e g : ℝ) : EReal) := by
  have hp : 0 < varR y + e := add_pos_of_nonneg_of_pos (varR_nonneg y) he
  unfold scaleE
  rw [cntE_val, div_real (by norm_num), div_real (by norm_num), ← EReal.coe_mul, ← EReal.coe_sub, hE, ← EReal.coe_add]
  have hv : (∑ i, y i * y i) / 131072 - (∑ i, y i) / 131072 * ((∑ i, y i) / 131072) + e = varR y + e := by rw [varR_eq hN]; rfl
  rw [hv, sqrt_real hp.le, ← EReal.coe_one, div_real (Real.sqrt_pos.mpr hp).ne', ← EReal.coe_mul]
  rfl

theorem affine_real (hN : Fintype.card ι = 131072) (y : ι → ℝ) {e : ℝ} (he : 0 < e) (hE : epsE = (e : EReal)) (g b x : ℝ) :
    (x : EReal) * scaleE ((∑ i, y i : ℝ) : EReal) ((∑ i, y i * y i : ℝ) : EReal) (g : EReal)
        + shiftE ((∑ i, y i : ℝ) : EReal) ((∑ i, y i * y i : ℝ) : EReal) (g : EReal) (b : EReal)
      = ((x * scaleR y e g + (b - meanR y * scaleR y e g) : ℝ) : EReal) := by
  unfold shiftE
  rw [scaleE_real hN y he hE, cntE_val, div_real (by norm_num), ← EReal.coe_mul, ← EReal.coe_mul, ← EReal.coe_sub, ← EReal.coe_add]
  rfl

theorem affine_eq (y : ι → ℝ) (e g b x : ℝ) :
    max (x * scaleR y e g + (b - meanR y * scaleR y e g)) 0 = bnR y e g b x := by
  unfold bnR scaleR
  congr 1
  ring

theorem actE_real (hN : Fintype.card ι = 131072) (y : ι → ℝ) {e : ℝ} (he : 0 < e) (hE : epsE = (e : EReal)) (g b x : ℝ) :
    actE ((∑ i, y i : ℝ) : EReal) ((∑ i, y i * y i : ℝ) : EReal) (g : EReal) (b : EReal) (x : EReal) = ((bnR y e g b x : ℝ) : EReal) := by
  unfold actE
  rw [affine_real hN y he hE, ← EReal.coe_zero, coe_max, affine_eq]

/-- The normalized extreme is a bound of the normalized samples, and one of them. -/
theorem poolE_real (hN : Fintype.card ι = 131072) (y : ι → ℝ) {e : ℝ} (he : 0 < e) (hE : epsE = (e : EReal)) (g b : ℝ) {κ : Type} (x : κ → ℝ)
    (mx mn : EReal) (hmx : ∀ s, (x s : EReal) ≤ mx) (hmx' : ∃ s, mx = x s) (hmn : ∀ s, mn ≤ (x s : EReal)) (hmn' : ∃ s, mn = x s) :
    ∃ s, poolE ((∑ i, y i : ℝ) : EReal) ((∑ i, y i * y i : ℝ) : EReal) (g : EReal) (b : EReal) mx mn = ((bnR y e g b (x s) : ℝ) : EReal)
      ∧ ∀ s', bnR y e g b (x s') ≤ bnR y e g b (x s) := by
  obtain ⟨p, hp⟩ := hmx'
  obtain ⟨q, hq⟩ := hmn'
  have hsc := scaleE_real hN y he hE g
  unfold poolE
  rw [hsc]
  by_cases h : 0 < scaleR y e g
  · refine ⟨p, ?_, fun s' => ?_⟩
    · rw [cmp_ogt_true (by rw [← EReal.coe_zero]; exact EReal.coe_lt_coe_iff.mpr h), sel_true, hp, ← hsc, affine_real hN y he hE, ← EReal.coe_zero, coe_max, affine_eq]
    · rw [← affine_eq, ← affine_eq]
      have hb : x s' ≤ x p := EReal.coe_le_coe_iff.mp (hp ▸ hmx s')
      exact max_le_max (add_le_add_left (mul_le_mul_of_nonneg_right hb h.le) _) le_rfl
  · refine ⟨q, ?_, fun s' => ?_⟩
    · rw [cmp_ogt_false (by rw [← EReal.coe_zero]; exact fun hh => h (EReal.coe_lt_coe_iff.mp hh)), sel_false, hq, ← hsc, affine_real hN y he hE, ← EReal.coe_zero, coe_max, affine_eq]
    · rw [← affine_eq, ← affine_eq]
      have hb : x q ≤ x s' := EReal.coe_le_coe_iff.mp (hq ▸ hmn s')
      exact max_le_max (add_le_add_left (mul_le_mul_of_nonpos_right hb (not_lt.mp h)) _) le_rfl

/-- A chain of maxima bounds its terms and is one of them. -/
theorem chain_max (f : Nat → EReal) : ∀ n, (∀ k ≤ n, f k ≤ Kit.chain max (f 0) f n) ∧ ∃ k ≤ n, Kit.chain max (f 0) f n = f k
  | 0 => ⟨fun k hk => by rw [Nat.le_zero.mp hk]; exact le_rfl, 0, le_rfl, rfl⟩
  | n + 1 => by
    obtain ⟨h, k, hk, e⟩ := chain_max f n
    have hs : Kit.chain max (f 0) f (n + 1) = max (Kit.chain max (f 0) f n) (f (n + 1)) := rfl
    rw [hs]
    refine ⟨fun j hj => ?_, ?_⟩
    · rcases Nat.lt_or_ge j (n + 1) with hlt | hge
      · exact (h j (by omega)).trans (le_max_left _ _)
      · rw [show j = n + 1 by omega]; exact le_max_right _ _
    · rcases le_total (Kit.chain max (f 0) f n) (f (n + 1)) with hle | hle
      · exact ⟨n + 1, le_rfl, max_eq_right hle⟩
      · exact ⟨k, by omega, (max_eq_left hle).trans e⟩

/-- A chain of minima is below its terms and is one of them. -/
theorem chain_min (f : Nat → EReal) : ∀ n, (∀ k ≤ n, Kit.chain min (f 0) f n ≤ f k) ∧ ∃ k ≤ n, Kit.chain min (f 0) f n = f k
  | 0 => ⟨fun k hk => by rw [Nat.le_zero.mp hk]; exact le_rfl, 0, le_rfl, rfl⟩
  | n + 1 => by
    obtain ⟨h, k, hk, e⟩ := chain_min f n
    have hs : Kit.chain min (f 0) f (n + 1) = min (Kit.chain min (f 0) f n) (f (n + 1)) := rfl
    rw [hs]
    refine ⟨fun j hj => ?_, ?_⟩
    · rcases Nat.lt_or_ge j (n + 1) with hlt | hge
      · exact (min_le_left _ _).trans (h j (by omega))
      · rw [show j = n + 1 by omega]; exact min_le_right _ _
    · rcases le_total (Kit.chain min (f 0) f n) (f (n + 1)) with hle | hle
      · exact ⟨k, by omega, (min_eq_left hle).trans e⟩
      · exact ⟨n + 1, le_rfl, min_eq_right hle⟩

end Cert.Proof
-- ==== Proof.RefBN.lean ====
module

public import proofs.«01_k».proof.Proof.RefY
public import proofs.«01_k».proof.Proof.RealMath

@[expose] public section

set_option maxRecDepth 16384

noncomputable section

namespace Cert.Proof.Ref

open Idealize.ShloMosaic Idealize.ShloMosaic.ValueIdx
open Cert.ReferenceIdeal Cert.ReferenceIdeal.Gen Cert.ReferenceIdeal.Read

/-! ## One normalization, over any array of samples -/

/-- An array of samples, one channel's statistics, one value a channel. -/
abbrev Arr := (⟨S4x256x1024x32, .f32⟩ : BufTy).Contents (Elt Ideal)
abbrev Stat := (⟨S1x256x1x1, .f32⟩ : BufTy).Contents (Elt Ideal)
abbrev Chan := (⟨S256, .f32⟩ : BufTy).Contents (Elt Ideal)
abbrev Scal := (⟨S_, .f32⟩ : BufTy).Contents (Elt Ideal)

/-- The samples of a channel: batch, centre, place. -/
abbrev Smp := Fin 4 × Fin 1024 × Fin 32

theorem card_smp : Fintype.card Smp = 131072 := by
  simp only [Fintype.card_prod, Fintype.card_fin]

/-- A channel's sum. -/
def sumA (Y : Arr) : Chan := Host.reduceAdd Y (constant (F := Ideal) S_ .f32 0x00000000#32) reducesTo_S4x256x1024x32_S256_d0_2_3 h_S_
/-- A number for all the channels. -/
def splat (x : Scal) : Stat := broadcastInDim S1x256x1x1 ![] bcast_S_S1x256x1x1 x
/-- One value a channel, as statistics. -/
def asStat (x : Chan) : Stat := broadcastInDim S1x256x1x1 ![1] bcast_S256_S1x256x1x1_1 x
/-- Statistics, at every sample. -/
def spread (x : Stat) : Arr := broadcastInDim S4x256x1024x32 ![0, 1, 2, 3] bcast_S1x256x1x1_S4x256x1024x32_0_1_2_3 x
def meanA (Y : Arr) : Stat := Host.divf (F := Ideal) (φ := .f32) (asStat (sumA Y)) (splat (constant (F := Ideal) S_ .f32 0x48000000#32))
def devA (Y : Arr) : Arr := subf (F := Ideal) (φ := .f32) Y (spread (meanA Y))
def cntA : Scal := subf (constant (F := Ideal) S_ .f32 0x48000000#32) (sitofp .f32 (constantI S_ 32 0#32))
def varA (Y : Arr) : Stat :=
  select (broadcastInDim S1x256x1x1 ![] bcast_S_S1x256x1x1 (cmpf (F := Ideal) (φ := .f32) .ogt cntA (constant (F := Ideal) S_ .f32 0x00000000#32)))
    (Host.divf (F := Ideal) (φ := .f32) (asStat (sumA (mulf (F := Ideal) (φ := .f32) (devA Y) (devA Y)))) (splat cntA)) (splat (constant (F := Ideal) S_ .f32 0x7FC00000#32))
def normA (Y : Arr) (G B : Chan) : Arr :=
  maximumf (F := Ideal) (φ := .f32) (addf (F := Ideal) (φ := .f32) (mulf (F := Ideal) (φ := .f32)
      (Host.divf (F := Ideal) (φ := .f32) (devA Y) (spread (Host.sqrt (F := Ideal) (φ := .f32) (addf (F := Ideal) (φ := .f32) (varA Y) (splat (constant (F := Ideal) S_ .f32 0x3727C5AC#32))))))
      (spread (shapeCast S1x256x1x1 G shapeCasts_S256_S1x256x1x1))) (spread (shapeCast S1x256x1x1 B shapeCasts_S256_S1x256x1x1)))
    (broadcastInDim S4x256x1024x32 ![] bcast_S_S4x256x1024x32 (constant (F := Ideal) S_ .f32 0x00000000#32))

theorem drop_iff (b : Fin 4) (l l' : Fin 256) (n : Fin 1024) (s : Fin 32) :
    reducesTo_S4x256x1024x32_S256_d0_2_3.drop (ix4 b l' n s) = ix1 l ↔ l' = l := by
  have hv : (reducesTo_S4x256x1024x32_S256_d0_2_3.drop (ix4 b l' n s) 0 : Nat) = l'.val :=
    Shape.ReducesTo.drop_apply_val reducesTo_S4x256x1024x32_S256_d0_2_3 (ix4 b l' n s) 0
  constructor
  · intro h
    refine Fin.ext ?_
    rw [← hv, h]
  · rintro rfl
    refine funext fun a => ?_
    match a with
    | ⟨0, _⟩ => exact Fin.ext hv

theorem sumA_apply (Y : Arr) (l : Fin 256) : sumA Y (ix1 l) = ∑ p : Smp, Y (ix4 p.1 l p.2.1 p.2.2) := by
  unfold sumA
  rw [hostReduceAdd_apply, Ideal.hostReduceAdd]
  have h0 : (constant (F := Ideal) S_ .f32 0x00000000#32) (Shape.Idx.first h_S_) = (0 : EReal) := Ideal.ofBits_zero_f32
  rw [h0, zero_add]
  symm
  refine Finset.sum_bij (fun (p : Smp) _ => (ix4 p.1 l p.2.1 p.2.2 : S4x256x1024x32.Idx)) ?_ ?_ ?_ ?_
  · intro p _
    exact Finset.mem_filter.mpr ⟨Finset.mem_univ _, (drop_iff _ _ _ _ _).mpr rfl⟩
  · rintro ⟨b, n, s⟩ _ ⟨b', n', s'⟩ _ h
    have hb : b = b' := congrFun h 0
    have hn : n = n' := congrFun h 2
    have hs : s = s' := congrFun h 3
    rw [hb, hn, hs]
  · intro i hi
    obtain ⟨b, l', n, s, rfl⟩ : ∃ (b : Fin 4) (l' : Fin 256) (n : Fin 1024) (s : Fin 32), i = ix4 b l' n s := ⟨i 0, i 1, i 2, i 3, eq_ix4 i⟩
    have := (drop_iff b l l' n s).mp (Finset.mem_filter.mp hi).2
    subst this
    exact ⟨(b, n, s), Finset.mem_univ _, rfl⟩
  · intro p _
    rfl

theorem spread_apply (x : Stat) (b : Fin 4) (l : Fin 256) (n : Fin 1024) (s : Fin 32) : spread x (ix4 b l n s) = x (ix4 0 l 0 0) := by
  unfold spread
  exact broadcastInDim_apply _ _ _ _ _ fun q => by match q with | ⟨0, _⟩ => rfl | ⟨1, _⟩ => rfl | ⟨2, _⟩ => rfl | ⟨3, _⟩ => rfl

theorem asStat_apply (x : Chan) (l : Fin 256) : asStat x (ix4 0 l 0 0) = x (ix1 l) := by
  unfold asStat
  exact broadcastInDim_apply _ _ _ _ _ fun q => by match q with | ⟨0, _⟩ => rfl

theorem cast_apply (x : Chan) (l : Fin 256) : shapeCast S1x256x1x1 x shapeCasts_S256_S1x256x1x1 (ix4 0 l 0 0) = x (ix1 l) := by
  refine shapeCast_apply _ _ _ _ ?_
  rw [Shape.rowMajor_val_one, Shape.rowMajor_val_four]
  show l.val = ((0 * 256 + l.val) * 1 + 0) * 1 + 0
  omega

theorem splat_apply (x : Scal) (i : S1x256x1x1.Idx) : splat x i = x ix0 := broadcastInDim_scalar_apply _ _ _

section Real
variable (Y : Arr) (y : Fin 256 → Smp → ℝ) (hY : ∀ b l n s, Y (ix4 b l n s) = ((y l (b, n, s) : ℝ) : EReal))
include hY

theorem meanA_real (l : Fin 256) : meanA Y (ix4 0 l 0 0) = ((meanR (y l) : ℝ) : EReal) := by
  unfold meanA
  rw [hostDivf_apply, asStat_apply, splat_apply, sumA_apply]
  rw [Finset.sum_congr rfl fun (p : Smp) _ => hY p.1 l p.2.1 p.2.2, coe_sum]
  show Ideal.div _ cntE = _
  rw [cntE_val, div_real (by norm_num)]
  rfl

theorem devA_real (b : Fin 4) (l : Fin 256) (n : Fin 1024) (s : Fin 32) : devA Y (ix4 b l n s) = ((y l (b, n, s) - meanR (y l) : ℝ) : EReal) := by
  unfold devA
  rw [subf_apply, spread_apply, meanA_real Y y hY, hY, EReal.coe_sub]

omit hY in
theorem cntA_val (i : S_.Idx) : cntA i = ((131072 : ℝ) : EReal) := by
  have h : cntA i = cntE - (((0#32 : BitVec 32).toInt : ℝ) : EReal) := rfl
  rw [h, cntE_val]
  simp

theorem varA_real (l : Fin 256) : varA Y (ix4 0 l 0 0) = ((varR (y l) : ℝ) : EReal) := by
  unfold varA
  rw [select_apply]
  have hc : broadcastInDim S1x256x1x1 ![] bcast_S_S1x256x1x1 (cmpf (F := Ideal) (φ := .f32) .ogt cntA (constant (F := Ideal) S_ .f32 0x00000000#32)) (ix4 0 l 0 0) = 1#1 := by
    refine (broadcastInDim_scalar_apply _ _ _).trans ?_
    rw [cmpf_apply, cntA_val]
    refine cmp_ogt_true ?_
    show Ideal.ofBits .f32 0x00000000#32 < _
    rw [Ideal.ofBits_zero_f32, ← EReal.coe_zero]
    exact EReal.coe_lt_coe_iff.mpr (by norm_num)
  rw [hc, sel_true, hostDivf_apply, asStat_apply, splat_apply, sumA_apply, cntA_val]
  have hd : ∀ p : Smp, mulf (F := Ideal) (φ := .f32) (devA Y) (devA Y) (ix4 p.1 l p.2.1 p.2.2) = (((y l p - meanR (y l)) * (y l p - meanR (y l)) : ℝ) : EReal) := fun p => by
    rw [mulf_apply, devA_real Y y hY, EReal.coe_mul]
  rw [Finset.sum_congr rfl fun p _ => hd p, coe_sum, div_real (by norm_num)]
  rfl

theorem normA_real {e : ℝ} (he : 0 < e) (hE : epsE = (e : EReal)) (G B : Chan) (g h : Fin 256 → ℝ) (hG : ∀ l, G (ix1 l) = ((g l : ℝ) : EReal))
    (hB : ∀ l, B (ix1 l) = ((h l : ℝ) : EReal)) (b : Fin 4) (l : Fin 256) (n : Fin 1024) (s : Fin 32) :
    normA Y G B (ix4 b l n s) = ((bnR (y l) e (g l) (h l) (y l (b, n, s)) : ℝ) : EReal) := by
  have hp : 0 < varR (y l) + e := add_pos_of_nonneg_of_pos (varR_nonneg _) he
  have hs : Host.sqrt (F := Ideal) (φ := .f32) (addf (F := Ideal) (φ := .f32) (varA Y) (splat (constant (F := Ideal) S_ .f32 0x3727C5AC#32))) (ix4 0 l 0 0)
      = ((Real.sqrt (varR (y l) + e) : ℝ) : EReal) := by
    show Ideal.sqrt (varA Y (ix4 0 l 0 0) + epsE) = _
    rw [varA_real Y y hY, hE, ← EReal.coe_add, sqrt_real hp.le]
  have hz : broadcastInDim S4x256x1024x32 ![] bcast_S_S4x256x1024x32 (constant (F := Ideal) S_ .f32 0x00000000#32) (ix4 b l n s) = (0 : EReal) :=
    (broadcastInDim_scalar_apply _ _ _).trans Ideal.ofBits_zero_f32
  unfold normA
  rw [maximumf_apply, addf_apply, mulf_apply, hostDivf_apply, spread_apply, spread_apply, spread_apply, cast_apply, cast_apply, hG, hB, hz, hs, devA_real Y y hY,
    div_real (Real.sqrt_pos.mpr hp).ne', ← EReal.coe_mul, ← EReal.coe_add, ← EReal.coe_zero]
  exact coe_max _ _

end Real

/-! ## The reference's two normalizations, and its maximum -/

variable (x0 : (⟨S4x1024x3, .f32⟩ : BufTy).Contents (Elt Ideal)) (x1 : (⟨S4x256x1024, .f32⟩ : BufTy).Contents (Elt Ideal))
  (x2 : (⟨S4x1024x3x3, .f32⟩ : BufTy).Contents (Elt Ideal)) (x3 : (⟨S256x259, .f32⟩ : BufTy).Contents (Elt Ideal))
  (x4 x5 : Chan) (x6 : (⟨S256x256, .f32⟩ : BufTy).Contents (Elt Ideal)) (x7 x8 : Chan)

theorem v108_eq : val_main_v108 (F := Ideal) x0 x1 x2 x3 x4 x5 = normA (val_main_v88 (F := Ideal) x0 x1 x2 x3) x4 x5 := rfl

theorem v130_eq : val_main_v130 (F := Ideal) x0 x1 x2 x3 x4 x5 x6 x7 x8 = normA (val_main_v110 (F := Ideal) x0 x1 x2 x3 x4 x5 x6) x7 x8 := rfl

theorem v110_eq (b : Fin 4) (l : Fin 256) (n : Fin 1024) (s : Fin 32) : val_main_v110 (F := Ideal) x0 x1 x2 x3 x4 x5 x6 (ix4 b l n s)
    = ∑ k : Fin 256, (x6 (ix2 l k) : EReal) * (val_main_v108 (F := Ideal) x0 x1 x2 x3 x4 x5 (ix4 b k n s) : EReal) := by
  rw [val_main_v110_apply, val_main_v109_apply]
  refine Finset.sum_congr rfl fun k _ => ?_
  exact congrArg₂ (fun x y : EReal => x * y) (congrArg x6 (funext fun q => by match q with | ⟨0, _⟩ => rfl | ⟨1, _⟩ => rfl))
    (congrArg _ (funext fun q => by match q with | ⟨0, _⟩ => rfl | ⟨1, _⟩ => rfl | ⟨2, _⟩ => rfl | ⟨3, _⟩ => rfl))

theorem reduces3 : S4x256x1024x32.Reduces [3] S4x256x1024 := by decide

theorem lift3 (b : Fin 4) (l : Fin 256) (n : Fin 1024) (s : Fin 32) : reduces3.lift (ix3 b l n) s = ix4 b l n s :=
  funext fun q => by match q with | ⟨0, _⟩ => rfl | ⟨1, _⟩ => rfl | ⟨2, _⟩ => rfl | ⟨3, _⟩ => rfl

/-- The largest of an array's samples, at a centre and a channel. -/
def maxA (Z : Arr) : (⟨S4x256x1024, .f32⟩ : BufTy).Contents (Elt Ideal) :=
  Host.reduce (FloatOps.maximumf (F := Ideal) (φ := .f32)) Z (constant (F := Ideal) S_ .f32 0xFF800000#32) reducesTo_S4x256x1024x32_S4x256x1024_d3 h_S_

theorem maxA_apply (Z : Arr) (b : Fin 4) (l : Fin 256) (n : Fin 1024) :
    maxA Z (ix3 b l n) = (Finset.univ : Finset (Fin 32)).fold max (⊥ : EReal) (fun s => (Z (ix4 b l n s) : EReal)) := by
  unfold maxA
  rw [Host.reduce_eq_fold_single (FloatOps.maximumf (F := Ideal) (φ := .f32)) Z _ reducesTo_S4x256x1024x32_S4x256x1024_d3 reduces3 h_S_ (ix3 b l n)]
  have hf : (Z ∘ reduces3.lift (ix3 b l n)) = fun s : Fin 32 => (Z (ix4 b l n s) : EReal) := funext fun s => congrArg Z (lift3 b l n s)
  have hb : (constant (F := Ideal) S_ .f32 0xFF800000#32) (Shape.Idx.first h_S_) = (⊥ : EReal) := negInf_val
  rw [hb]
  exact congrArg (fun f => Finset.fold max (⊥ : EReal) f (Finset.univ : Finset (Fin 32))) hf

/-- It is the one of the samples that bounds them all. -/
theorem maxA_real (Z : Arr) (b : Fin 4) (l : Fin 256) (n : Fin 1024) (z : Fin 32 → ℝ) (hz : ∀ s, Z (ix4 b l n s) = ((z s : ℝ) : EReal))
    (s₀ : Fin 32) (h : ∀ s, z s ≤ z s₀) : maxA Z (ix3 b l n) = ((z s₀ : ℝ) : EReal) := by
  rw [maxA_apply, show (fun s => (Z (ix4 b l n s) : EReal)) = fun s => ((z s : ℝ) : EReal) from funext hz]
  refine le_antisymm ?_ ?_
  · rw [Finset.fold_max_le]
    exact ⟨bot_le, fun s _ => EReal.coe_le_coe_iff.mpr (h s)⟩
  · rw [Finset.le_fold_max]
    exact Or.inr ⟨s₀, Finset.mem_univ _, le_rfl⟩

theorem v131_eq : val_main_v131 (F := Ideal) x0 x1 x2 x3 x4 x5 x6 x7 x8 = maxA (val_main_v130 (F := Ideal) x0 x1 x2 x3 x4 x5 x6 x7 x8) := rfl

end Cert.Proof.Ref
-- ==== Proof.Value.lean ====
module

public import proofs.«01_k».proof.Proof.HostVals
public import proofs.«01_k».proof.Proof.RefBN

@[expose] public section

set_option maxRecDepth 16384

noncomputable section

namespace Cert.Proof.Value

open Cert.KernelIdeal Cert.KernelIdeal.Gen
open Idealize.ShloMosaic Idealize.ShloMosaic.TcCoe Idealize.ShloMosaic.ValueIdx Cert.Proof.Ref Cert.Proof.Host
open Idealize.ShloMosaic.Pipeline (Dat)

variable (m : (ℓ : Loc nD τ sig) → Buf (Elt Ideal) ℓ) (c : Dev nD)

/-! ## The cylinders and the rows they select -/

/-- The point sample `s` of a centre is. -/
def sel (b : Fin 4) (n : Fin 1024) (s : Nat) : Fin 1024 := selIdx (Mr (a0 m c) (a2 m c) b n) s

theorem Ma_eq (b : Fin 4) (n : Fin 1024) : K0.Ma (Whole.A3 m) c b n = Mr (a0 m c) (a2 m c) b n := by
  funext j
  rw [Mr_eq]
  unfold K0.Ma
  rw [show K0.Xa (Whole.A3 m) c b j = XA (a0 m c) b j from funext fun k => Xa_eq m c b j k,
    show K0.Ca (Whole.A3 m) c b n = XA (a0 m c) b n from funext fun k => Ca_eq m c b n k,
    show K0.Ra (Whole.A3 m) c b n = R9 (a2 m c) b n from funext fun q => Ra_eq m c b n q]

theorem row_eq (b : Fin 4) (n : Fin 1024) (tab : Fin 1024 → EReal) (s : Nat) (hs : s < 32) :
    rowE (K0.Ma (Whole.A3 m) c b n) (K0.Ta (Whole.A3 m) c) tab s = tab (sel m c b n s) := by
  rw [rowE_eq _ _ (Ta_eq m c) tab s hs, Ma_eq]
  rfl

/-- The kernel's first layer over the selected points. -/
theorem y1E_eq (b : Fin 4) (s : Nat) (hs : s < 32) (n : Fin 1024) (l : Fin 256) : K0.y1E (Whole.A3 m) c b s n l
    = lay1E (∑ k : Fin 256, FA (a1 m c) b k (sel m c b n s) * WA (a3 m c) l ⟨3 + k.val, by omega⟩)
        (fun k => Ideal.div (XA (a0 m c) b (sel m c b n s) k) radE)
        (fun k => Ideal.div (XA (a0 m c) b (sel m c b n s) k) radE - Ideal.div (XA (a0 m c) b (sel m c b n s) k) radE)
        (XA (a0 m c) b n) (R9 (a2 m c) b n) (fun k => WA (a3 m c) l ⟨k.val, by omega⟩) := by
  have hH : ∀ k j, K0.tabH (Whole.A3 m) c b k j = Ideal.div (XA (a0 m c) b j k) radE := fun k j => by
    unfold K0.tabH
    exact congrArg (fun x => Ideal.div x radE) (Ca_eq m c b j k)
  have hF : ∀ j, K0.tabF (Whole.A3 m) c b l j = ∑ k : Fin 256, FA (a1 m c) b k j * WA (a3 m c) l ⟨3 + k.val, by omega⟩ := fun j => by
    unfold K0.tabF
    exact Finset.sum_congr rfl fun k _ => by rw [Fa_eq, Wf_eq]
  unfold K0.y1E
  simp only [row_eq m c b n _ s hs, hH, hF]
  rw [show K0.Ca (Whole.A3 m) c b n = XA (a0 m c) b n from funext fun k => Ca_eq m c b n k,
    show K0.Ra (Whole.A3 m) c b n = R9 (a2 m c) b n from funext fun q => Ra_eq m c b n q,
    show K0.Wa (Whole.A3 m) c l = fun k => WA (a3 m c) l ⟨k.val, by omega⟩ from funext fun k => Wa_eq m c l k]

/-! ## Over the reals -/

/-- The arguments as arrays of reals. -/
structure Args where
  X : Fin 4 → Fin 1024 → Fin 3 → ℝ
  F : Fin 4 → Fin 256 → Fin 1024 → ℝ
  R : Fin 4 → Fin 1024 → Fin 3 → Fin 3 → ℝ
  W : Fin 256 → Fin 259 → ℝ
  g : Fin 256 → ℝ
  h : Fin 256 → ℝ
  U : Fin 256 → Fin 256 → ℝ
  p : Fin 256 → ℝ
  q : Fin 256 → ℝ

/-- The launched arguments are those reals. -/
structure Holds (A : Args) : Prop where
  X : ∀ b j k, XA (a0 m c) b j k = ((A.X b j k : ℝ) : EReal)
  F : ∀ b k j, FA (a1 m c) b k j = ((A.F b k j : ℝ) : EReal)
  R : ∀ b n k a, RA (a2 m c) b n k a = ((A.R b n k a : ℝ) : EReal)
  W : ∀ l k, WA (a3 m c) l k = ((A.W l k : ℝ) : EReal)
  g : ∀ l, a4 m c (ix1 l) = ((A.g l : ℝ) : EReal)
  h : ∀ l, a5 m c (ix1 l) = ((A.h l : ℝ) : EReal)
  U : ∀ l k, a6 m c (ix2 l k) = ((A.U l k : ℝ) : EReal)
  p : ∀ l, a7 m c (ix1 l) = ((A.p l : ℝ) : EReal)
  q : ∀ l, a8 m c (ix1 l) = ((A.q l : ℝ) : EReal)

variable (A : Args) (e d : ℝ)

/-- The first layer's value of a sample, `d` the radius. -/
def y1R (l : Fin 256) (i : Smp) : ℝ :=
  (∑ a : Fin 3, A.W l ⟨a.val, by omega⟩ * ∑ k : Fin 3, (A.X i.1 (sel m c i.1 i.2.1 i.2.2.val) k - A.X i.1 i.2.1 k) / d * A.R i.1 i.2.1 k a)
    + ∑ k : Fin 256, A.W l ⟨3 + k.val, by omega⟩ * A.F i.1 k (sel m c i.1 i.2.1 i.2.2.val)
/-- Normalized, `e` the variance's offset. -/
def z1R (l : Fin 256) (i : Smp) : ℝ := bnR (y1R m c A d l) e (A.g l) (A.h l) (y1R m c A d l i)
/-- The second layer's value. -/
def y2R (l : Fin 256) (i : Smp) : ℝ := ∑ k : Fin 256, A.U l k * z1R m c A e d k i
/-- Normalized. -/
def z2R (l : Fin 256) (i : Smp) : ℝ := bnR (y2R m c A e d l) e (A.p l) (A.q l) (y2R m c A e d l i)

section Both
variable {m c A e d} (H : Holds m c A) (he : 0 < e) (hE : epsE = (e : EReal)) (hd : 0 < d) (hD : radE = (d : EReal))
include H

/-! ### The reference -/

section
include hd hD
theorem ref1 (b : Fin 4) (l : Fin 256) (n : Fin 1024) (s : Fin 32) :
    Cert.ReferenceIdeal.Read.val_main_v88 (F := Ideal) (a0 m c) (a1 m c) (a2 m c) (a3 m c) (ix4 b l n s) = ((y1R m c A d l (b, n, s) : ℝ) : EReal) := by
  rw [v88_eq]
  unfold y1R sel
  simp only [H.X, H.F, H.R, H.W, hD, ← EReal.coe_sub, div_real hd.ne', ← EReal.coe_mul, coe_sum, ← EReal.coe_add]

include he hE
theorem ref2 (b : Fin 4) (l : Fin 256) (n : Fin 1024) (s : Fin 32) :
    Cert.ReferenceIdeal.Read.val_main_v110 (F := Ideal) (a0 m c) (a1 m c) (a2 m c) (a3 m c) (a4 m c) (a5 m c) (a6 m c) (ix4 b l n s)
      = ((y2R m c A e d l (b, n, s) : ℝ) : EReal) := by
  rw [v110_eq]
  unfold y2R
  rw [← coe_sum]
  refine Finset.sum_congr rfl fun k _ => ?_
  rw [v108_eq, normA_real _ (y1R m c A d) (ref1 H hd hD) he hE _ _ A.g A.h H.g H.h, H.U, EReal.coe_mul]
  rfl

theorem ref3 (b : Fin 4) (l : Fin 256) (n : Fin 1024) (s₀ : Fin 32) (h : ∀ s, z2R m c A e d l (b, n, s) ≤ z2R m c A e d l (b, n, s₀)) :
    Cert.ReferenceIdeal.Read.val_main_v131 (F := Ideal) (a0 m c) (a1 m c) (a2 m c) (a3 m c) (a4 m c) (a5 m c) (a6 m c) (a7 m c) (a8 m c) (ix3 b l n)
      = ((z2R m c A e d l (b, n, s₀) : ℝ) : EReal) := by
  rw [v131_eq]
  refine maxA_real _ b l n (fun s => z2R m c A e d l (b, n, s)) (fun s => ?_) s₀ h
  rw [v130_eq, normA_real _ (y2R m c A e d) (ref2 H he hE hd hD) he hE _ _ A.p A.q H.p H.q]
  rfl
end

/-! ### The kernel -/

theorem turned (b : Fin 4) (n : Fin 1024) (l : Fin 256) (k : Fin 3) :
    mkE (R9 (a2 m c) b n) (fun k => WA (a3 m c) l ⟨k.val, by omega⟩) k
      = ((A.R b n k 0 * A.W l ⟨0, by omega⟩ + A.R b n k 1 * A.W l ⟨1, by omega⟩ + A.R b n k 2 * A.W l ⟨2, by omega⟩ : ℝ) : EReal) := by
  have h9 : ∀ (a : Fin 3) (hq : 3 * k.val + a.val < 9), R9 (a2 m c) b n ⟨3 * k.val + a.val, hq⟩ = ((A.R b n k a : ℝ) : EReal) := fun a hq => by
    rw [← H.R]
    unfold R9
    have h1 : (⟨(3 * k.val + a.val) / 3, by omega⟩ : Fin 3) = k := Fin.ext (by show (3 * k.val + a.val) / 3 = k.val; omega)
    have h2 : (⟨(3 * k.val + a.val) % 3, by omega⟩ : Fin 3) = a := Fin.ext (by show (3 * k.val + a.val) % 3 = a.val; omega)
    exact congrArg₂ (RA (a2 m c) b n) h1 h2
  unfold mkE
  have e0 := h9 0 (by show 3 * k.val + 0 < 9; omega)
  have e1 := h9 1 (by show 3 * k.val + 1 < 9; omega)
  have e2 := h9 2 (by show 3 * k.val + 2 < 9; omega)
  have w0 : WA (a3 m c) l ⟨(0 : Fin 3).val, by omega⟩ = ((A.W l ⟨0, by omega⟩ : ℝ) : EReal) := H.W _ _
  have w1 : WA (a3 m c) l ⟨(1 : Fin 3).val, by omega⟩ = ((A.W l ⟨1, by omega⟩ : ℝ) : EReal) := H.W _ _
  have w2 : WA (a3 m c) l ⟨(2 : Fin 3).val, by omega⟩ = ((A.W l ⟨2, by omega⟩ : ℝ) : EReal) := H.W _ _
  rw [EReal.coe_add, EReal.coe_add, EReal.coe_mul, EReal.coe_mul, EReal.coe_mul, ← e0, ← e1, ← e2, ← w0, ← w1, ← w2]
  rfl

include hd hD in
theorem ker1 (b : Fin 4) (s : Nat) (hs : s < 32) (n : Fin 1024) (l : Fin 256) :
    K0.y1E (Whole.A3 m) c b s n l = ((y1R m c A d l (b, n, ⟨s, hs⟩) : ℝ) : EReal) := by
  rw [y1E_eq m c b s hs n l]
  unfold lay1E
  rw [turned H, turned H, turned H]
  simp only [H.X, H.F, H.W, hD, div_real hd.ne', ← EReal.coe_sub, ← EReal.coe_mul, coe_sum, ← EReal.coe_add]
  refine congrArg _ ?_
  unfold y1R
  have hf : (∑ k : Fin 256, A.F b k (sel m c b n s) * A.W l ⟨3 + k.val, by omega⟩) = ∑ k : Fin 256, A.W l ⟨3 + k.val, by omega⟩ * A.F b k (sel m c b n s) :=
    Finset.sum_congr rfl fun k _ => mul_comm _ _
  rw [hf]
  simp only [Fin.sum_univ_three]
  have w0 : A.W l ⟨(0 : Fin 3).val, by omega⟩ = A.W l ⟨0, by omega⟩ := rfl
  have w1 : A.W l ⟨(1 : Fin 3).val, by omega⟩ = A.W l ⟨1, by omega⟩ := rfl
  have w2 : A.W l ⟨(2 : Fin 3).val, by omega⟩ = A.W l ⟨2, by omega⟩ := rfl
  rw [w0, w1, w2]
  ring

omit H in
/-- A statistic taken tile by tile is the sum over all the samples. -/
theorem tiles (f : Fin 4 → Nat → Fin 1024 → EReal) (y : Smp → ℝ) (h : ∀ b (s : Fin 32) n, f b s.val n = ((y (b, n, s) : ℝ) : EReal)) :
    (∑ t : Fin 32, ∑ r : Fin 128, ∑ s : Fin 32, f ⟨t.val / 8, by omega⟩ s.val ⟨128 * (t.val % 8) + r.val, by omega⟩) = ((∑ i, y i : ℝ) : EReal) := by
  rw [sum_tiles fun b n => ∑ s : Fin 32, f b s.val n, ← coe_sum, Fintype.sum_prod_type]
  refine Finset.sum_congr rfl fun b _ => ?_
  rw [Fintype.sum_prod_type]
  exact Finset.sum_congr rfl fun n _ => Finset.sum_congr rfl fun s _ => h b s n

section
include hd hD
theorem y1_arr (b : Fin 4) (s : Fin 32) (n : Fin 1024) (l : Fin 256) :
    Whole.A4 m c main_v19_0 (ix4 b s n l) = ((y1R m c A d l (b, n, s) : ℝ) : EReal) := by
  refine (congrFun ((Whole.W4_main_v19_0 m c).trans (K0.final8 (Whole.A3 m) c)) _).trans ?_
  exact ker1 H hd hD b s.val s.isLt n l

theorem st1_sum (l : Fin 256) : Whole.A4 m c main_v19_1 (ix2 (n0 := 8) 0 l) = ((∑ i, y1R m c A d l i : ℝ) : EReal) := by
  refine (congrFun (Whole.W4_main_v19_1 m c) _).trans ((K0.final9_0 (Whole.A3 m) c l).trans ?_)
  exact tiles (fun b s n => K0.y1E (Whole.A3 m) c b s n l) _ fun b s n => ker1 H hd hD b s.val s.isLt n l

theorem st1_sq (l : Fin 256) : Whole.A4 m c main_v19_1 (ix2 (n0 := 8) 1 l) = ((∑ i, y1R m c A d l i * y1R m c A d l i : ℝ) : EReal) := by
  refine (congrFun (Whole.W4_main_v19_1 m c) _).trans ((K0.final9_1 (Whole.A3 m) c l).trans ?_)
  exact tiles (fun b s n => K0.y1E (Whole.A3 m) c b s n l * K0.y1E (Whole.A3 m) c b s n l) (fun i => y1R m c A d l i * y1R m c A d l i) fun b s n => by
    rw [ker1 H hd hD b s.val s.isLt n l, EReal.coe_mul]

include he hE
theorem ker2 (b : Fin 4) (s : Nat) (hs : s < 32) (n : Fin 1024) (l : Fin 256) :
    K1.y2E (Whole.A4 m) c b s n l = ((y2R m c A e d l (b, n, ⟨s, hs⟩) : ℝ) : EReal) := by
  have h9 : ∀ k, Whole.A4 m c main_v9 (ix2 k l) = ((A.U l k : ℝ) : EReal) := fun k =>
    (congrFun (W4_of m c main_v9 (by decide)) _).trans ((v9_at m c k l).trans (H.U l k))
  have hg : ∀ k, Whole.A4 m c main_v15 (ix2 (n0 := 1) 0 k) = ((A.g k : ℝ) : EReal) := fun k =>
    (congrFun (W4_of m c main_v15 (by decide)) _).trans ((v15_at m c k).trans (H.g k))
  have hh : ∀ k, Whole.A4 m c main_v16 (ix2 (n0 := 1) 0 k) = ((A.h k : ℝ) : EReal) := fun k =>
    (congrFun (W4_of m c main_v16 (by decide)) _).trans ((v16_at m c k).trans (H.h k))
  have hm : (⟨s % 32, Nat.mod_lt _ (by decide)⟩ : Fin 32) = ⟨s, hs⟩ := Fin.ext (Nat.mod_eq_of_lt hs)
  unfold K1.y2E y2R
  rw [← coe_sum]
  refine Finset.sum_congr rfl fun k _ => ?_
  rw [h9, hg, hh, hm, y1_arr H hd hD, st1_sum H hd hD, st1_sq H hd hD, actE_real card_smp _ he hE, mul_comm, EReal.coe_mul]
  rfl

theorem st2_sum (l : Fin 256) : Whole.A5 m c main_v20_2 (ix2 (n0 := 8) 0 l) = ((∑ i, y2R m c A e d l i : ℝ) : EReal) := by
  refine (congrFun (Whole.W5_main_v20_2 m c) _).trans ((K1.final7_0 (Whole.A4 m) c l).trans ?_)
  exact tiles (fun b s n => K1.y2E (Whole.A4 m) c b s n l) _ fun b s n => ker2 H he hE hd hD b s.val s.isLt n l

theorem st2_sq (l : Fin 256) : Whole.A5 m c main_v20_2 (ix2 (n0 := 8) 1 l) = ((∑ i, y2R m c A e d l i * y2R m c A e d l i : ℝ) : EReal) := by
  refine (congrFun (Whole.W5_main_v20_2 m c) _).trans ((K1.final7_1 (Whole.A4 m) c l).trans ?_)
  exact tiles (fun b s n => K1.y2E (Whole.A4 m) c b s n l * K1.y2E (Whole.A4 m) c b s n l) (fun i => y2R m c A e d l i * y2R m c A e d l i) fun b s n => by
    rw [ker2 H he hE hd hD b s.val s.isLt n l, EReal.coe_mul]

/-- The kernel's result is one of the normalized samples, and bounds them all. -/
theorem ker3 (b : Fin 4) (l : Fin 256) (n : Fin 1024) : ∃ s₀ : Fin 32,
    V7 m (Whole.outs m) c main_v22 (ix3 b l n) = ((z2R m c A e d l (b, n, s₀) : ℝ) : EReal)
      ∧ ∀ s, z2R m c A e d l (b, n, s) ≤ z2R m c A e d l (b, n, s₀) := by
  have hp : Whole.A5 m c main_v17 (ix2 (n0 := 1) 0 l) = ((A.p l : ℝ) : EReal) :=
    (congrFun ((W5_of m c main_v17 (by decide)).trans (W4_of m c main_v17 (by decide))) _).trans ((v17_at m c l).trans (H.p l))
  have hq : Whole.A5 m c main_v18 (ix2 (n0 := 1) 0 l) = ((A.q l : ℝ) : EReal) :=
    (congrFun ((W5_of m c main_v18 (by decide)).trans (W4_of m c main_v18 (by decide))) _).trans ((v18_at m c l).trans (H.q l))
  let f : Nat → EReal := fun s => K1.y2E (Whole.A4 m) c b s n l
  have hmx : Whole.A5 m c main_v20_0 (ix3 b n l) = Kit.chain max (f 0) f 31 :=
    congrFun ((Whole.W5_main_v20_0 m c).trans (K1.final5 (Whole.A4 m) c)) _
  have hmn : Whole.A5 m c main_v20_1 (ix3 b n l) = Kit.chain min (f 0) f 31 :=
    congrFun ((Whole.W5_main_v20_1 m c).trans (K1.final6 (Whole.A4 m) c)) _
  have hf : ∀ s (hs : s < 32), f s = ((y2R m c A e d l (b, n, ⟨s, hs⟩) : ℝ) : EReal) := fun s hs => ker2 H he hE hd hD b s hs n l
  obtain ⟨bx, kx, hkx, ex⟩ := chain_max f 31
  obtain ⟨bn, kn, hkn, en⟩ := chain_min f 31
  obtain ⟨s₀, h₀, hb⟩ := poolE_real card_smp (y2R m c A e d l) he hE (A.p l) (A.q l) (fun s : Fin 32 => y2R m c A e d l (b, n, s))
    (Kit.chain max (f 0) f 31) (Kit.chain min (f 0) f 31)
    (fun s => by rw [← hf s.val s.isLt]; exact bx s.val (by omega)) ⟨⟨kx, by omega⟩, ex.trans (hf kx (by omega))⟩
    (fun s => by rw [← hf s.val s.isLt]; exact bn s.val (by omega)) ⟨⟨kn, by omega⟩, en.trans (hf kn (by omega))⟩
  refine ⟨s₀, ?_, hb⟩
  rw [v22_at]
  refine Eq.trans ?_ h₀
  show poolE (Whole.A5 m c main_v20_2 (ix2 (n0 := 8) 0 l)) (Whole.A5 m c main_v20_2 (ix2 (n0 := 8) 1 l)) (Whole.A5 m c main_v17 (ix2 (n0 := 1) 0 l))
    (Whole.A5 m c main_v18 (ix2 (n0 := 1) 0 l)) (Whole.A5 m c main_v20_0 (ix3 b n l)) (Whole.A5 m c main_v20_1 (ix3 b n l)) = _
  rw [hp, hq, hmx, hmn, st2_sum H he hE hd hD, st2_sq H he hE hd hD]

end

end Both

/-- The kernel's result is the reference's, whenever the arguments are reals. -/
theorem result_eq (A : Args) (H : Holds m c A) :
    V7 m (Whole.outs m) c main_v22
      = Cert.ReferenceIdeal.Read.val_main_v131 (F := Ideal) (a0 m c) (a1 m c) (a2 m c) (a3 m c) (a4 m c) (a5 m c) (a6 m c) (a7 m c) (a8 m c) := by
  obtain ⟨e, he, hE⟩ := epsE_pos
  obtain ⟨d, hd, hD⟩ := radE_pos
  funext i
  change S4x256x1024.Idx at i
  obtain ⟨b, l, n, rfl⟩ : ∃ (b : Fin 4) (l : Fin 256) (n : Fin 1024), i = ix3 b l n := ⟨i 0, i 1, i 2, eq_ix3 i⟩
  obtain ⟨s₀, h₀, hb⟩ := ker3 H he hE hd hD b l n
  rw [h₀]
  exact (ref3 H he hE hd hD b l n s₀ hb).symm

end Cert.Proof.Value
-- ==== Proof.Finite.lean ====
module

public import proofs.«01_k».proof.Pre_finite
public import proofs.«01_k».proof.Proof.Select
public import Idealize.ShloMosaic.Lib.IdealHost
public import Idealize.ShloMosaic.PureOps.Reduce

@[expose] public section

noncomputable section

namespace Cert.Proof.Finite

open Idealize.ShloMosaic Idealize.ShloMosaic.ValueIdx
open Cert.Pre_finite

/-! What the precondition says of the arguments: every element is a real number. -/

theorem andi_one {a b : BitVec 1} (h : IntOp.andi a b = 1#1) : a = 1#1 ∧ b = 1#1 := by
  revert a b
  decide

theorem fold_andi {ι : Type} (t : Finset ι) (f : ι → BitVec 1) (v : BitVec 1) (h : t.fold IntOp.andi v f = 1#1) : ∀ i ∈ t, f i = 1#1 := by
  classical
  induction t using Finset.induction_on with
  | empty => exact fun i hi => absurd hi (Finset.notMem_empty i)
  | insert a s ha ih =>
    rw [Finset.fold_insert ha] at h
    intro i hi
    rcases Finset.mem_insert.mp hi with rfl | hi
    · exact (andi_one h).1
    · exact ih (andi_one h).2 i hi

theorem lt_top_real {x : EReal} (h : max x (-x) < ⊤) : ∃ r : ℝ, x = (r : EReal) := by
  induction x with
  | bot => exact absurd h (by simp)
  | top => exact absurd h (by simp)
  | coe r => exact ⟨r, rfl⟩

/-- An array whose elements' magnitudes all lie below infinity holds real numbers. -/
theorem real_of {S : Shape} {axes : List (Fin S.rank)} (bc : S_.BroadcastsInDim S (![] : Fin 0 → Fin S.rank)) (red : S.ReducesTo axes S_) (hu : 0 < S_.numel)
    (x : FVec Ideal S .f32)
    (h : Host.reduce IntOp.andi (cmpf .olt (Host.absf x) (broadcastInDim S ![] bc (constant (F := Ideal) S_ .f32 0x7F800000#32))) (constantI S_ 1 1#1) red hu ix0 = 1#1)
    (i : S.Idx) : ∃ r : ℝ, x i = (r : EReal) := by
  rw [Host.reduce_eq_fold] at h
  have hi := fold_andi _ _ _ h i (Finset.mem_filter.mpr ⟨Finset.mem_univ _, funext fun a => a.elim0⟩)
  refine lt_top_real ?_
  have e : cmpf .olt (Host.absf x) (broadcastInDim S ![] bc (constant (F := Ideal) S_ .f32 0x7F800000#32)) i
      = BitVec.ofBool (decide (max (x i : EReal) (-(x i)) < Ideal.ofBits .f32 0x7F800000#32)) := rfl
  rw [e, posInf_val] at hi
  by_contra hn
  rw [decide_eq_false hn] at hi
  exact absurd hi (by decide)

variable [Facts]

theorem split (x0 : FVec Ideal S4x1024x3 .f32) (x1 : FVec Ideal S4x256x1024 .f32) (x2 : FVec Ideal S4x1024x3x3 .f32) (x3 : FVec Ideal S256x259 .f32)
    (x4 x5 : FVec Ideal S256 .f32) (x6 : FVec Ideal S256x256 .f32) (x7 x8 : FVec Ideal S256 .f32)
    (h : fn (F := Ideal) x0 x1 x2 x3 x4 x5 x6 x7 x8 ix0 = 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) ∧ (∀ i, ∃ r : ℝ, x8 i = (r : EReal)) := by
  unfold fn fn_part1 fn_part2 at h
  obtain ⟨h, h8⟩ := andi_one h
  obtain ⟨h, h7⟩ := andi_one h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  exact ⟨real_of _ _ _ x0 h0, real_of _ _ _ x1 h1, real_of _ _ _ x2 h2, real_of _ _ _ x3 h3, real_of _ _ _ x4 h4, real_of _ _ _ x5 h5,
    real_of _ _ _ x6 h6, real_of _ _ _ x7 h7, real_of _ _ _ x8 h8⟩

end Cert.Proof.Finite
-- ==== Proof.Algebraic.lean ====
module

public import proofs.«01_k».proof.Proof.Frames
public import proofs.«01_k».proof.Proof.Value
public import proofs.«01_k».proof.Proof.Finite
public import proofs.«01_k».proof.Proof.Gen.Pre_finite
public import proofs.«01_k».proof.Proof.Gen.ReferenceIdeal.Read

@[expose] public section

set_option maxRecDepth 16384

noncomputable section

namespace Cert.Proof

open Idealize.ShloMosaic Idealize.ShloMosaic.TcCoe Idealize.ShloMosaic.ValueIdx
open Idealize.SL.Sem

/-! The claims that read the precondition, and the equality of the two results. -/

theorem frame_ideal_pre : @Cert.quiescent_KernelIdeal_pre_finite Cert.KernelIdeal.Gen.facts Cert.Pre_finite.Gen.facts :=
  fun m g _ => frame_ideal m g trivial

theorem frame_reference_pre : @Cert.quiescent_ReferenceIdeal_pre_finite Cert.ReferenceIdeal.Gen.facts Cert.Pre_finite.Gen.facts :=
  fun m g _ => frame_reference m g trivial

open Cert.Proof.Host Cert.Proof.Value in
/-- Under the precondition the arguments are arrays of reals. -/
theorem args_real (m : (ℓ : Loc Cert.KernelIdeal.nD Cert.KernelIdeal.τ Cert.KernelIdeal.sig) → Buf (Elt Ideal) ℓ)
    (hpre : Cert.Pre_KernelIdeal_finite m) (c : Dev Cert.KernelIdeal.nD) : ∃ A : Args, Holds m c A := by
  obtain ⟨h0, h1, h2, h3, h4, h5, h6, h7, h8⟩ := Finite.split (a0 m c) (a1 m c) (a2 m c) (a3 m c) (a4 m c) (a5 m c) (a6 m c) (a7 m c) (a8 m c)
    (congrFun (hpre c) ix0)
  choose r0 e0 using h0
  choose r1 e1 using h1
  choose r2 e2 using h2
  choose r3 e3 using h3
  choose r4 e4 using h4
  choose r5 e5 using h5
  choose r6 e6 using h6
  choose r7 e7 using h7
  choose r8 e8 using h8
  exact ⟨⟨fun b j k => r0 (ix3 b j k), fun b k j => r1 (ix3 b k j), fun b n k a => r2 (ix4 b n k a), fun l k => r3 (ix2 l k), fun l => r4 (ix1 l),
      fun l => r5 (ix1 l), fun l k => r6 (ix2 l k), fun l => r7 (ix1 l), fun l => r8 (ix1 l)⟩,
    ⟨fun b j k => e0 (ix3 b j k), fun b k j => e1 (ix3 b k j), fun b n k a => e2 (ix4 b n k a), fun l k => e3 (ix2 l k), fun l => e4 (ix1 l),
      fun l => e5 (ix1 l), fun l k => e6 (ix2 l k), fun l => e7 (ix1 l), fun l => e8 (ix1 l)⟩⟩

theorem algebraic : @Cert.algebraic_KernelIdeal_ReferenceIdeal_pre_finite Cert.KernelIdeal.Gen.facts Cert.ReferenceIdeal.Gen.facts Cert.Pre_finite.Gen.facts := by
  intro m g m' g' hpre harg
  refine ⟨fun c => Cert.KernelIdeal.Gen.V7 m (Whole.outs m) c Cert.KernelIdeal.main_v22, ?_, ?_⟩
  · refine (θ_run _ _ _).mono (fun r hr c => ?_) (Whole.run (F := Ideal) m g)
    obtain ⟨a0, a1, a2, a3, a4, a5, a6, a7, a8, v⟩ := hr.1 c
    exact ⟨v, a0, a1, a2, a3, a4, a5, a6, a7, a8⟩
  · refine (θ_run _ _ _).mono (fun r hr c => ⟨?_, (hr c).2⟩) (Cert.ReferenceIdeal.Value.run (F := Ideal) m' g')
    obtain ⟨A, H⟩ := args_real m hpre c
    obtain ⟨b0, b1, b2, b3, b4, b5, b6, b7, b8⟩ := harg c
    refine (hr c).1.trans ((Cert.ReferenceIdeal.Read.val_main_v131_eq (StableHlo.launchContents m' c)).trans ?_)
    refine Eq.trans ?_ (Value.result_eq m c A H).symm
    rw [show StableHlo.launchContents m' c (Proc.devRef .tc Cert.ReferenceIdeal.main_arg0) = Host.a0 m c from b0,
      show StableHlo.launchContents m' c (Proc.devRef .tc Cert.ReferenceIdeal.main_arg1) = Host.a1 m c from b1,
      show StableHlo.launchContents m' c (Proc.devRef .tc Cert.ReferenceIdeal.main_arg2) = Host.a2 m c from b2,
      show StableHlo.launchContents m' c (Proc.devRef .tc Cert.ReferenceIdeal.main_arg3) = Host.a3 m c from b3,
      show StableHlo.launchContents m' c (Proc.devRef .tc Cert.ReferenceIdeal.main_arg4) = Host.a4 m c from b4,
      show StableHlo.launchContents m' c (Proc.devRef .tc Cert.ReferenceIdeal.main_arg5) = Host.a5 m c from b5,
      show StableHlo.launchContents m' c (Proc.devRef .tc Cert.ReferenceIdeal.main_arg6) = Host.a6 m c from b6,
      show StableHlo.launchContents m' c (Proc.devRef .tc Cert.ReferenceIdeal.main_arg7) = Host.a7 m c from b7,
      show StableHlo.launchContents m' c (Proc.devRef .tc Cert.ReferenceIdeal.main_arg8) = Host.a8 m c from b8]

end Cert.Proof

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.Pre_finite
public import proofs.«01_k».proof.Proof.Frames
public import proofs.«01_k».proof.Proof.Algebraic

@[expose] public section

/-- Everything the certificate states. -/
theorem Cert.Proof.claim : Cert.Claim :=
  ⟨Cert.Kernel.Gen.facts, Cert.KernelIdeal.Gen.facts, Cert.ReferenceIdeal.Gen.facts, Cert.Pre_finite.Gen.facts,
    Cert.Proof.frame_kernel, Cert.Proof.frame_ideal, Cert.Proof.frame_ideal_pre, Cert.Proof.frame_reference,
    Cert.Proof.frame_reference_pre, trivial, Cert.Proof.algebraic⟩
